-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)) (v1 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v81) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x255x32x32 : Shape := ⟨4, ![64, 255, 32, 32]⟩
abbrev S_ : Shape := ⟨0, ![]⟩

class Facts : Prop where
  bcast_S_S64x255x32x32 : S_.BroadcastsInDim S64x255x32x32 (![] : Fin 0 → Fin S64x255x32x32.rank)
  reducesTo_S64x255x32x32_S_d0_1_2_3 : S64x255x32x32.ReducesTo [0, 1, 2, 3] S_
  h_S_ : 0 < S_.numel

variable [Facts]

def fn {F : FTy → Type} [FloatOps F] (main_arg0 : FVec F S64x255x32x32 .f32) (main_arg1 : IVec S_ 32) : IVec S_ 1 :=
  let main_v0 : FVec F S64x255x32x32 .f32 := Host.absf main_arg0
  let main_cst : FVec F S_ .f32 := constant S_ .f32 0x7F800000#32
  let main_v1 : FVec F S64x255x32x32 .f32 := broadcastInDim S64x255x32x32 ![] bcast_S_S64x255x32x32 main_cst
  let main_v2 : IVec S64x255x32x32 1 := cmpf .olt main_v0 main_v1
  let main_c : IVec S_ 1 := constantI S_ 1 1#1
  let main_v3 : IVec S_ 1 := (fun x v => Host.reduce IntOp.andi x v reducesTo_S64x255x32x32_S_d0_1_2_3 h_S_) main_v2 main_c
  main_v3
-- ==== Kernel.lean ====
abbrev S64x255x32x32 : Shape := ⟨4, ![64, 255, 32, 32]⟩
abbrev S_ : Shape := ⟨0, ![]⟩
abbrev S64x3x85x1024 : Shape := ⟨4, ![64, 3, 85, 1024]⟩
abbrev S16 : Shape := ⟨1, ![16]⟩
abbrev S8x3x7x1024 : Shape := ⟨4, ![8, 3, 7, 1024]⟩
abbrev S8x3x1024 : Shape := ⟨3, ![8, 3, 1024]⟩
abbrev S1x3x85x256 : Shape := ⟨4, ![1, 3, 85, 256]⟩
abbrev S1x1x7x256 : Shape := ⟨4, ![1, 1, 7, 256]⟩
abbrev S1x1x256 : Shape := ⟨3, ![1, 1, 256]⟩
abbrev S1x1x1x16 : Shape := ⟨4, ![1, 1, 1, 16]⟩
abbrev S1x1x16 : Shape := ⟨3, ![1, 1, 16]⟩
abbrev S1 : Shape := ⟨1, ![1]⟩
abbrev S56x3x7x1024 : Shape := ⟨4, ![56, 3, 7, 1024]⟩
abbrev S56x3x1x1024 : Shape := ⟨4, ![56, 3, 1, 1024]⟩
abbrev S8x3x85x1024 : Shape := ⟨4, ![8, 3, 85, 1024]⟩
abbrev S8x3x1x1024 : Shape := ⟨4, ![8, 3, 1, 1024]⟩
abbrev S1x1024 : Shape := ⟨2, ![1, 1024]⟩
abbrev S1x1x85x1024 : Shape := ⟨4, ![1, 1, 85, 1024]⟩
abbrev S85x1024 : Shape := ⟨2, ![85, 1024]⟩
abbrev S80x1024 : Shape := ⟨2, ![80, 1024]⟩
abbrev S1024 : Shape := ⟨1, ![1024]⟩
abbrev S7x1024 : Shape := ⟨2, ![7, 1024]⟩
abbrev S1x1x7x1024 : Shape := ⟨4, ![1, 1, 7, 1024]⟩
abbrev S1x1x1x1024 : Shape := ⟨4, ![1, 1, 1, 1024]⟩
abbrev S64x3x7x1024 : Shape := ⟨4, ![64, 3, 7, 1024]⟩
abbrev S56x3072 : Shape := ⟨2, ![56, 3072]⟩
abbrev S8x3072 : Shape := ⟨2, ![8, 3072]⟩
abbrev S64x3072 : Shape := ⟨2, ![64, 3072]⟩
abbrev S64x3x1024x7 : Shape := ⟨4, ![64, 3, 1024, 7]⟩
abbrev S64x3072x7 : Shape := ⟨3, ![64, 3072, 7]⟩

abbrev nBuf : Table → Nat
  | .hbm => 23
  | .local .tc .vmem => 6
  | .local .tc .smem => 1
  | .local .scVector .vmem => 4
  | _ => 0

abbrev bufTy : (tb : Table) → Fin (nBuf tb) → BufTy
  | .hbm, ⟨0, _⟩ => ⟨S64x255x32x32, .f32⟩
  | .hbm, ⟨1, _⟩ => ⟨S_, .i32⟩
  | .hbm, ⟨2, _⟩ => ⟨S64x3x85x1024, .f32⟩
  | .hbm, ⟨3, _⟩ => ⟨S_, .f32⟩
  | .hbm, ⟨4, _⟩ => ⟨S16, .f32⟩
  | .hbm, ⟨5, _⟩ => ⟨S8x3x7x1024, .f32⟩
  | .hbm, ⟨6, _⟩ => ⟨S8x3x1024, .f32⟩
  | .hbm, ⟨7, _⟩ => ⟨S1, .f32⟩
  | .hbm, ⟨8, _⟩ => ⟨S56x3x7x1024, .f32⟩
  | .hbm, ⟨9, _⟩ => ⟨S56x3x1x1024, .i32⟩
  | .hbm, ⟨10, _⟩ => ⟨S_, .i32⟩
  | .hbm, ⟨11, _⟩ => ⟨S56x3x1x1024, .i32⟩
  | .hbm, ⟨12, _⟩ => ⟨S56x3x1x1024, .i1⟩
  | .hbm, ⟨13, _⟩ => ⟨S56x3x1x1024, .i1⟩
  | .hbm, ⟨14, _⟩ => ⟨S64x3x7x1024, .f32⟩
  | .hbm, ⟨15, _⟩ => ⟨S56x3072, .i1⟩
  | .hbm, ⟨16, _⟩ => ⟨S8x3072, .f32⟩
  | .hbm, ⟨17, _⟩ => ⟨S_, .f32⟩
  | .hbm, ⟨18, _⟩ => ⟨S8x3072, .f32⟩
  | .hbm, ⟨19, _⟩ => ⟨S8x3072, .i1⟩
  | .hbm, ⟨20, _⟩ => ⟨S64x3072, .i1⟩
  | .hbm, ⟨21, _⟩ => ⟨S64x3x1024x7, .f32⟩
  | .hbm, ⟨22, _⟩ => ⟨S64x3072x7, .f32⟩
  | .local .tc .vmem, ⟨0, _⟩ => ⟨S8x3x85x1024, .f32⟩
  | .local .tc .vmem, ⟨1, _⟩ => ⟨S8x3x85x1024, .f32⟩
  | .local .tc .vmem, ⟨2, _⟩ => ⟨S8x3x7x1024, .f32⟩
  | .local .tc .vmem, ⟨3, _⟩ => ⟨S8x3x7x1024, .f32⟩
  | .local .tc .vmem, ⟨4, _⟩ => ⟨S8x3x1x1024, .i32⟩
  | .local .tc .vmem, ⟨5, _⟩ => ⟨S8x3x1x1024, .i32⟩
  | .local .tc .smem, ⟨0, _⟩ => ⟨S1, .f32⟩
  | .local .scVector .vmem, ⟨0, _⟩ => ⟨S1x3x85x256, .f32⟩
  | .local .scVector .vmem, ⟨1, _⟩ => ⟨S1x1x7x256, .f32⟩
  | .local .scVector .vmem, ⟨2, _⟩ => ⟨S1x1x256, .f32⟩
  | .local .scVector .vmem, ⟨3, _⟩ => ⟨S16, .f32⟩
  | _, _ => ⟨S64x255x32x32, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 15 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTables nBuf rfl bufTy 4 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_v4 : Ref sig .tc := ⟨.hbm, 7, rfl⟩
abbrev main_v5_0 : Ref sig .tc := ⟨.hbm, 8, rfl⟩
abbrev main_v5_1 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v0_scv : Ref sig .scVector := ⟨.hbm, 2, rfl⟩
abbrev main_v2_scv : Ref sig .scVector := ⟨.hbm, 4, rfl⟩
abbrev main_v3_0_scv : Ref sig .scVector := ⟨.hbm, 5, rfl⟩
abbrev main_v3_1_scv : Ref sig .scVector := ⟨.hbm, 6, rfl⟩
abbrev cc1_stg1_0 : Ref sig .tc := ⟨.vmem, 0, rfl⟩
abbrev cc1_stg1_1 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_stg3_1 : Ref sig .tc := ⟨.vmem, 5, rfl⟩
abbrev cc1_stg0_0 : Ref sig .tc := ⟨.smem, 0, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 4 → Nat :=
  let c56_i32 : BitVec 32 := 56#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let v35 : BitVec 32 := Scalar.addi c56_i32 v23
  let c0_i32_3866_r1 : BitVec 32 := 0#32
  let c0_i32_3867_r1 : BitVec 32 := 0#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v35.toNat, 0, 0, v34.toNat]
@[reducible] def k0_t1_loop : Scf.Loop 32 :=
  let c0_i32_46 : BitVec 32 := 0#32
  let c10_i32 : BitVec 32 := 10#32
  let v105 : BitVec 32 := Scalar.addi c0_i32_46 c10_i32
  let c1_i32_47 : BitVec 32 := 1#32
  ⟨c0_i32_46, v105, c1_i32_47⟩
def k0_off2 (k0_t1 : Fin k0_t1_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_46 : BitVec 32 := 0#32
  let c1_i32_47 : BitVec 32 := 1#32
  let arg10 : BitVec 32 := Scf.iv c0_i32_46 c1_i32_47 k0_t1
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 0, v6185.toNat, 0]
@[reducible] def k0_t2_loop : Scf.Loop 32 :=
  let c0_i32_50 : BitVec 32 := 0#32
  let c10_i32_51 : BitVec 32 := 10#32
  let v108 : BitVec 32 := Scalar.addi c0_i32_50 c10_i32_51
  let c1_i32_52 : BitVec 32 := 1#32
  ⟨c0_i32_50, v108, c1_i32_52⟩
def k0_off3 (k0_t2 : Fin k0_t2_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_50 : BitVec 32 := 0#32
  let c1_i32_52 : BitVec 32 := 1#32
  let arg10 : BitVec 32 := Scf.iv c0_i32_50 c1_i32_52 k0_t2
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 0, v6185.toNat, 0]
@[reducible] def k0_t3_loop : Scf.Loop 32 :=
  let c0_i32_123 : BitVec 32 := 0#32
  let c10_i32_124 : BitVec 32 := 10#32
  let v233 : BitVec 32 := Scalar.addi c0_i32_123 c10_i32_124
  let c1_i32_125 : BitVec 32 := 1#32
  ⟨c0_i32_123, v233, c1_i32_125⟩
def k0_off4 (k0_t3 : Fin k0_t3_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_123 : BitVec 32 := 0#32
  let c1_i32_125 : BitVec 32 := 1#32
  let arg10 : BitVec 32 := Scf.iv c0_i32_123 c1_i32_125 k0_t3
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 0, v6185.toNat, 16]
@[reducible] def k0_t4_loop : Scf.Loop 32 :=
  let c0_i32_128 : BitVec 32 := 0#32
  let c10_i32_129 : BitVec 32 := 10#32
  let v236 : BitVec 32 := Scalar.addi c0_i32_128 c10_i32_129
  let c1_i32_130 : BitVec 32 := 1#32
  ⟨c0_i32_128, v236, c1_i32_130⟩
def k0_off5 (k0_t4 : Fin k0_t4_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_128 : BitVec 32 := 0#32
  let c1_i32_130 : BitVec 32 := 1#32
  let arg10 : BitVec 32 := Scf.iv c0_i32_128 c1_i32_130 k0_t4
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 0, v6185.toNat, 16]
@[reducible] def k0_t5_loop : Scf.Loop 32 :=
  let c0_i32_203 : BitVec 32 := 0#32
  let c10_i32_204 : BitVec 32 := 10#32
  let v361 : BitVec 32 := Scalar.addi c0_i32_203 c10_i32_204
  let c1_i32_205 : BitVec 32 := 1#32
  ⟨c0_i32_203, v361, c1_i32_205⟩
def k0_off6 (k0_t5 : Fin k0_t5_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_203 : BitVec 32 := 0#32
  let c1_i32_205 : BitVec 32 := 1#32
  let arg10 : BitVec 32 := Scf.iv c0_i32_203 c1_i32_205 k0_t5
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 0, v6185.toNat, 32]
@[reducible] def k0_t6_loop : Scf.Loop 32 :=
  let c0_i32_208 : BitVec 32 := 0#32
  let c10_i32_209 : BitVec 32 := 10#32
  let v364 : BitVec 32 := Scalar.addi c0_i32_208 c10_i32_209
  let c1_i32_210 : BitVec 32 := 1#32
  ⟨c0_i32_208, v364, c1_i32_210⟩
def k0_off7 (k0_t6 : Fin k0_t6_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_208 : BitVec 32 := 0#32
  let c1_i32_210 : BitVec 32 := 1#32
  let arg10 : BitVec 32 := Scf.iv c0_i32_208 c1_i32_210 k0_t6
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 0, v6185.toNat, 32]
@[reducible] def k0_t7_loop : Scf.Loop 32 :=
  let c0_i32_282 : BitVec 32 := 0#32
  let c10_i32_283 : BitVec 32 := 10#32
  let v489 : BitVec 32 := Scalar.addi c0_i32_282 c10_i32_283
  let c1_i32_284 : BitVec 32 := 1#32
  ⟨c0_i32_282, v489, c1_i32_284⟩
def k0_off8 (k0_t7 : Fin k0_t7_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_282 : BitVec 32 := 0#32
  let c1_i32_284 : BitVec 32 := 1#32
  let arg10 : BitVec 32 := Scf.iv c0_i32_282 c1_i32_284 k0_t7
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 0, v6185.toNat, 48]
@[reducible] def k0_t8_loop : Scf.Loop 32 :=
  let c0_i32_287 : BitVec 32 := 0#32
  let c10_i32_288 : BitVec 32 := 10#32
  let v492 : BitVec 32 := Scalar.addi c0_i32_287 c10_i32_288
  let c1_i32_289 : BitVec 32 := 1#32
  ⟨c0_i32_287, v492, c1_i32_289⟩
def k0_off9 (k0_t8 : Fin k0_t8_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_287 : BitVec 32 := 0#32
  let c1_i32_289 : BitVec 32 := 1#32
  let arg10 : BitVec 32 := Scf.iv c0_i32_287 c1_i32_289 k0_t8
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 0, v6185.toNat, 48]
@[reducible] def k0_t9_loop : Scf.Loop 32 :=
  let c0_i32_361 : BitVec 32 := 0#32
  let c10_i32_362 : BitVec 32 := 10#32
  let v617 : BitVec 32 := Scalar.addi c0_i32_361 c10_i32_362
  let c1_i32_363 : BitVec 32 := 1#32
  ⟨c0_i32_361, v617, c1_i32_363⟩
def k0_off10 (k0_t9 : Fin k0_t9_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_361 : BitVec 32 := 0#32
  let c1_i32_363 : BitVec 32 := 1#32
  let arg10 : BitVec 32 := Scf.iv c0_i32_361 c1_i32_363 k0_t9
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 0, v6185.toNat, 64]
@[reducible] def k0_t10_loop : Scf.Loop 32 :=
  let c0_i32_366 : BitVec 32 := 0#32
  let c10_i32_367 : BitVec 32 := 10#32
  let v620 : BitVec 32 := Scalar.addi c0_i32_366 c10_i32_367
  let c1_i32_368 : BitVec 32 := 1#32
  ⟨c0_i32_366, v620, c1_i32_368⟩
def k0_off11 (k0_t10 : Fin k0_t10_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_366 : BitVec 32 := 0#32
  let c1_i32_368 : BitVec 32 := 1#32
  let arg10 : BitVec 32 := Scf.iv c0_i32_366 c1_i32_368 k0_t10
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 0, v6185.toNat, 64]
@[reducible] def k0_t11_loop : Scf.Loop 32 :=
  let c0_i32_440 : BitVec 32 := 0#32
  let c10_i32_441 : BitVec 32 := 10#32
  let v745 : BitVec 32 := Scalar.addi c0_i32_440 c10_i32_441
  let c1_i32_442 : BitVec 32 := 1#32
  ⟨c0_i32_440, v745, c1_i32_442⟩
def k0_off12 (k0_t11 : Fin k0_t11_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_440 : BitVec 32 := 0#32
  let c1_i32_442 : BitVec 32 := 1#32
  let arg10 : BitVec 32 := Scf.iv c0_i32_440 c1_i32_442 k0_t11
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 0, v6185.toNat, 80]
@[reducible] def k0_t12_loop : Scf.Loop 32 :=
  let c0_i32_445 : BitVec 32 := 0#32
  let c10_i32_446 : BitVec 32 := 10#32
  let v748 : BitVec 32 := Scalar.addi c0_i32_445 c10_i32_446
  let c1_i32_447 : BitVec 32 := 1#32
  ⟨c0_i32_445, v748, c1_i32_447⟩
def k0_off13 (k0_t12 : Fin k0_t12_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_445 : BitVec 32 := 0#32
  let c1_i32_447 : BitVec 32 := 1#32
  let arg10 : BitVec 32 := Scf.iv c0_i32_445 c1_i32_447 k0_t12
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 0, v6185.toNat, 80]
@[reducible] def k0_t13_loop : Scf.Loop 32 :=
  let c0_i32_519 : BitVec 32 := 0#32
  let c10_i32_520 : BitVec 32 := 10#32
  let v873 : BitVec 32 := Scalar.addi c0_i32_519 c10_i32_520
  let c1_i32_521 : BitVec 32 := 1#32
  ⟨c0_i32_519, v873, c1_i32_521⟩
def k0_off14 (k0_t13 : Fin k0_t13_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_519 : BitVec 32 := 0#32
  let c1_i32_521 : BitVec 32 := 1#32
  let arg10 : BitVec 32 := Scf.iv c0_i32_519 c1_i32_521 k0_t13
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 0, v6185.toNat, 96]
@[reducible] def k0_t14_loop : Scf.Loop 32 :=
  let c0_i32_524 : BitVec 32 := 0#32
  let c10_i32_525 : BitVec 32 := 10#32
  let v876 : BitVec 32 := Scalar.addi c0_i32_524 c10_i32_525
  let c1_i32_526 : BitVec 32 := 1#32
  ⟨c0_i32_524, v876, c1_i32_526⟩
def k0_off15 (k0_t14 : Fin k0_t14_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_524 : BitVec 32 := 0#32
  let c1_i32_526 : BitVec 32 := 1#32
  let arg10 : BitVec 32 := Scf.iv c0_i32_524 c1_i32_526 k0_t14
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 0, v6185.toNat, 96]
@[reducible] def k0_t15_loop : Scf.Loop 32 :=
  let c0_i32_598 : BitVec 32 := 0#32
  let c10_i32_599 : BitVec 32 := 10#32
  let v1001 : BitVec 32 := Scalar.addi c0_i32_598 c10_i32_599
  let c1_i32_600 : BitVec 32 := 1#32
  ⟨c0_i32_598, v1001, c1_i32_600⟩
def k0_off16 (k0_t15 : Fin k0_t15_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_598 : BitVec 32 := 0#32
  let c1_i32_600 : BitVec 32 := 1#32
  let arg10 : BitVec 32 := Scf.iv c0_i32_598 c1_i32_600 k0_t15
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 0, v6185.toNat, 112]
@[reducible] def k0_t16_loop : Scf.Loop 32 :=
  let c0_i32_603 : BitVec 32 := 0#32
  let c10_i32_604 : BitVec 32 := 10#32
  let v1004 : BitVec 32 := Scalar.addi c0_i32_603 c10_i32_604
  let c1_i32_605 : BitVec 32 := 1#32
  ⟨c0_i32_603, v1004, c1_i32_605⟩
def k0_off17 (k0_t16 : Fin k0_t16_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_603 : BitVec 32 := 0#32
  let c1_i32_605 : BitVec 32 := 1#32
  let arg10 : BitVec 32 := Scf.iv c0_i32_603 c1_i32_605 k0_t16
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 0, v6185.toNat, 112]
@[reducible] def k0_t17_loop : Scf.Loop 32 :=
  let c0_i32_677 : BitVec 32 := 0#32
  let c10_i32_678 : BitVec 32 := 10#32
  let v1129 : BitVec 32 := Scalar.addi c0_i32_677 c10_i32_678
  let c1_i32_679 : BitVec 32 := 1#32
  ⟨c0_i32_677, v1129, c1_i32_679⟩
def k0_off18 (k0_t17 : Fin k0_t17_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_677 : BitVec 32 := 0#32
  let c1_i32_679 : BitVec 32 := 1#32
  let arg10 : BitVec 32 := Scf.iv c0_i32_677 c1_i32_679 k0_t17
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 0, v6185.toNat, 128]
@[reducible] def k0_t18_loop : Scf.Loop 32 :=
  let c0_i32_682 : BitVec 32 := 0#32
  let c10_i32_683 : BitVec 32 := 10#32
  let v1132 : BitVec 32 := Scalar.addi c0_i32_682 c10_i32_683
  let c1_i32_684 : BitVec 32 := 1#32
  ⟨c0_i32_682, v1132, c1_i32_684⟩
def k0_off19 (k0_t18 : Fin k0_t18_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_682 : BitVec 32 := 0#32
  let c1_i32_684 : BitVec 32 := 1#32
  let arg10 : BitVec 32 := Scf.iv c0_i32_682 c1_i32_684 k0_t18
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 0, v6185.toNat, 128]
@[reducible] def k0_t19_loop : Scf.Loop 32 :=
  let c0_i32_756 : BitVec 32 := 0#32
  let c10_i32_757 : BitVec 32 := 10#32
  let v1257 : BitVec 32 := Scalar.addi c0_i32_756 c10_i32_757
  let c1_i32_758 : BitVec 32 := 1#32
  ⟨c0_i32_756, v1257, c1_i32_758⟩
def k0_off20 (k0_t19 : Fin k0_t19_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_756 : BitVec 32 := 0#32
  let c1_i32_758 : BitVec 32 := 1#32
  let arg10 : BitVec 32 := Scf.iv c0_i32_756 c1_i32_758 k0_t19
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 0, v6185.toNat, 144]
@[reducible] def k0_t20_loop : Scf.Loop 32 :=
  let c0_i32_761 : BitVec 32 := 0#32
  let c10_i32_762 : BitVec 32 := 10#32
  let v1260 : BitVec 32 := Scalar.addi c0_i32_761 c10_i32_762
  let c1_i32_763 : BitVec 32 := 1#32
  ⟨c0_i32_761, v1260, c1_i32_763⟩
def k0_off21 (k0_t20 : Fin k0_t20_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_761 : BitVec 32 := 0#32
  let c1_i32_763 : BitVec 32 := 1#32
  let arg10 : BitVec 32 := Scf.iv c0_i32_761 c1_i32_763 k0_t20
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 0, v6185.toNat, 144]
@[reducible] def k0_t21_loop : Scf.Loop 32 :=
  let c0_i32_835 : BitVec 32 := 0#32
  let c10_i32_836 : BitVec 32 := 10#32
  let v1385 : BitVec 32 := Scalar.addi c0_i32_835 c10_i32_836
  let c1_i32_837 : BitVec 32 := 1#32
  ⟨c0_i32_835, v1385, c1_i32_837⟩
def k0_off22 (k0_t21 : Fin k0_t21_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_835 : BitVec 32 := 0#32
  let c1_i32_837 : BitVec 32 := 1#32
  let arg10 : BitVec 32 := Scf.iv c0_i32_835 c1_i32_837 k0_t21
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 0, v6185.toNat, 160]
@[reducible] def k0_t22_loop : Scf.Loop 32 :=
  let c0_i32_840 : BitVec 32 := 0#32
  let c10_i32_841 : BitVec 32 := 10#32
  let v1388 : BitVec 32 := Scalar.addi c0_i32_840 c10_i32_841
  let c1_i32_842 : BitVec 32 := 1#32
  ⟨c0_i32_840, v1388, c1_i32_842⟩
def k0_off23 (k0_t22 : Fin k0_t22_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_840 : BitVec 32 := 0#32
  let c1_i32_842 : BitVec 32 := 1#32
  let arg10 : BitVec 32 := Scf.iv c0_i32_840 c1_i32_842 k0_t22
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 0, v6185.toNat, 160]
@[reducible] def k0_t23_loop : Scf.Loop 32 :=
  let c0_i32_914 : BitVec 32 := 0#32
  let c10_i32_915 : BitVec 32 := 10#32
  let v1513 : BitVec 32 := Scalar.addi c0_i32_914 c10_i32_915
  let c1_i32_916 : BitVec 32 := 1#32
  ⟨c0_i32_914, v1513, c1_i32_916⟩
def k0_off24 (k0_t23 : Fin k0_t23_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_914 : BitVec 32 := 0#32
  let c1_i32_916 : BitVec 32 := 1#32
  let arg10 : BitVec 32 := Scf.iv c0_i32_914 c1_i32_916 k0_t23
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 0, v6185.toNat, 176]
@[reducible] def k0_t24_loop : Scf.Loop 32 :=
  let c0_i32_919 : BitVec 32 := 0#32
  let c10_i32_920 : BitVec 32 := 10#32
  let v1516 : BitVec 32 := Scalar.addi c0_i32_919 c10_i32_920
  let c1_i32_921 : BitVec 32 := 1#32
  ⟨c0_i32_919, v1516, c1_i32_921⟩
def k0_off25 (k0_t24 : Fin k0_t24_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_919 : BitVec 32 := 0#32
  let c1_i32_921 : BitVec 32 := 1#32
  let arg10 : BitVec 32 := Scf.iv c0_i32_919 c1_i32_921 k0_t24
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 0, v6185.toNat, 176]
@[reducible] def k0_t25_loop : Scf.Loop 32 :=
  let c0_i32_993 : BitVec 32 := 0#32
  let c10_i32_994 : BitVec 32 := 10#32
  let v1641 : BitVec 32 := Scalar.addi c0_i32_993 c10_i32_994
  let c1_i32_995 : BitVec 32 := 1#32
  ⟨c0_i32_993, v1641, c1_i32_995⟩
def k0_off26 (k0_t25 : Fin k0_t25_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_993 : BitVec 32 := 0#32
  let c1_i32_995 : BitVec 32 := 1#32
  let arg10 : BitVec 32 := Scf.iv c0_i32_993 c1_i32_995 k0_t25
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 0, v6185.toNat, 192]
@[reducible] def k0_t26_loop : Scf.Loop 32 :=
  let c0_i32_998 : BitVec 32 := 0#32
  let c10_i32_999 : BitVec 32 := 10#32
  let v1644 : BitVec 32 := Scalar.addi c0_i32_998 c10_i32_999
  let c1_i32_1000 : BitVec 32 := 1#32
  ⟨c0_i32_998, v1644, c1_i32_1000⟩
def k0_off27 (k0_t26 : Fin k0_t26_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_998 : BitVec 32 := 0#32
  let c1_i32_1000 : BitVec 32 := 1#32
  let arg10 : BitVec 32 := Scf.iv c0_i32_998 c1_i32_1000 k0_t26
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 0, v6185.toNat, 192]
@[reducible] def k0_t27_loop : Scf.Loop 32 :=
  let c0_i32_1072 : BitVec 32 := 0#32
  let c10_i32_1073 : BitVec 32 := 10#32
  let v1769 : BitVec 32 := Scalar.addi c0_i32_1072 c10_i32_1073
  let c1_i32_1074 : BitVec 32 := 1#32
  ⟨c0_i32_1072, v1769, c1_i32_1074⟩
def k0_off28 (k0_t27 : Fin k0_t27_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1072 : BitVec 32 := 0#32
  let c1_i32_1074 : BitVec 32 := 1#32
  let arg10 : BitVec 32 := Scf.iv c0_i32_1072 c1_i32_1074 k0_t27
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 0, v6185.toNat, 208]
@[reducible] def k0_t28_loop : Scf.Loop 32 :=
  let c0_i32_1077 : BitVec 32 := 0#32
  let c10_i32_1078 : BitVec 32 := 10#32
  let v1772 : BitVec 32 := Scalar.addi c0_i32_1077 c10_i32_1078
  let c1_i32_1079 : BitVec 32 := 1#32
  ⟨c0_i32_1077, v1772, c1_i32_1079⟩
def k0_off29 (k0_t28 : Fin k0_t28_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1077 : BitVec 32 := 0#32
  let c1_i32_1079 : BitVec 32 := 1#32
  let arg10 : BitVec 32 := Scf.iv c0_i32_1077 c1_i32_1079 k0_t28
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 0, v6185.toNat, 208]
@[reducible] def k0_t29_loop : Scf.Loop 32 :=
  let c0_i32_1151 : BitVec 32 := 0#32
  let c10_i32_1152 : BitVec 32 := 10#32
  let v1897 : BitVec 32 := Scalar.addi c0_i32_1151 c10_i32_1152
  let c1_i32_1153 : BitVec 32 := 1#32
  ⟨c0_i32_1151, v1897, c1_i32_1153⟩
def k0_off30 (k0_t29 : Fin k0_t29_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1151 : BitVec 32 := 0#32
  let c1_i32_1153 : BitVec 32 := 1#32
  let arg10 : BitVec 32 := Scf.iv c0_i32_1151 c1_i32_1153 k0_t29
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 0, v6185.toNat, 224]
@[reducible] def k0_t30_loop : Scf.Loop 32 :=
  let c0_i32_1156 : BitVec 32 := 0#32
  let c10_i32_1157 : BitVec 32 := 10#32
  let v1900 : BitVec 32 := Scalar.addi c0_i32_1156 c10_i32_1157
  let c1_i32_1158 : BitVec 32 := 1#32
  ⟨c0_i32_1156, v1900, c1_i32_1158⟩
def k0_off31 (k0_t30 : Fin k0_t30_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1156 : BitVec 32 := 0#32
  let c1_i32_1158 : BitVec 32 := 1#32
  let arg10 : BitVec 32 := Scf.iv c0_i32_1156 c1_i32_1158 k0_t30
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 0, v6185.toNat, 224]
@[reducible] def k0_t31_loop : Scf.Loop 32 :=
  let c0_i32_1230 : BitVec 32 := 0#32
  let c10_i32_1231 : BitVec 32 := 10#32
  let v2025 : BitVec 32 := Scalar.addi c0_i32_1230 c10_i32_1231
  let c1_i32_1232 : BitVec 32 := 1#32
  ⟨c0_i32_1230, v2025, c1_i32_1232⟩
def k0_off32 (k0_t31 : Fin k0_t31_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1230 : BitVec 32 := 0#32
  let c1_i32_1232 : BitVec 32 := 1#32
  let arg10 : BitVec 32 := Scf.iv c0_i32_1230 c1_i32_1232 k0_t31
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 0, v6185.toNat, 240]
@[reducible] def k0_t32_loop : Scf.Loop 32 :=
  let c0_i32_1235 : BitVec 32 := 0#32
  let c10_i32_1236 : BitVec 32 := 10#32
  let v2028 : BitVec 32 := Scalar.addi c0_i32_1235 c10_i32_1236
  let c1_i32_1237 : BitVec 32 := 1#32
  ⟨c0_i32_1235, v2028, c1_i32_1237⟩
def k0_off33 (k0_t32 : Fin k0_t32_loop.trips) (c0_i32_3866 : BitVec 32) : Fin 4 → Nat :=
  let c0_i32_3868 : BitVec 32 := 0#32
  let v6183 : Index := Scalar.indexCast c0_i32_3868
  let c0_i32_3869 : BitVec 32 := 0#32
  let v6184 : Index := Scalar.indexCast c0_i32_3869
  let c5_i32_3867 : BitVec 32 := 5#32
  let c0_i32_1235 : BitVec 32 := 0#32
  let c1_i32_1237 : BitVec 32 := 1#32
  let arg10 : BitVec 32 := Scf.iv c0_i32_1235 c1_i32_1237 k0_t32
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 0, v6185.toNat, 240]
def k0_off34 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c0_i32_3866_r2 : BitVec 32 := 0#32
  let c0_i32_3867_r2 : BitVec 32 := 0#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 0, 0, v34.toNat]
def k0_off35 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c0_i32_3866_r3 : BitVec 32 := 0#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 0, v34.toNat]
@[reducible] def k0_t33_loop : Scf.Loop 32 :=
  let c0_i32_1311 : BitVec 32 := 0#32
  let c10_i32_1312 : BitVec 32 := 10#32
  let v2153 : BitVec 32 := Scalar.addi c0_i32_1311 c10_i32_1312
  let c1_i32_1313 : BitVec 32 := 1#32
  ⟨c0_i32_1311, v2153, c1_i32_1313⟩
def k0_off36 (k0_t33 : Fin k0_t33_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1311 : BitVec 32 := 0#32
  let c1_i32_1313 : BitVec 32 := 1#32
  let arg10 : BitVec 32 := Scf.iv c0_i32_1311 c1_i32_1313 k0_t33
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 1, v6185.toNat, 0]
@[reducible] def k0_t34_loop : Scf.Loop 32 :=
  let c0_i32_1316 : BitVec 32 := 0#32
  let c10_i32_1317 : BitVec 32 := 10#32
  let v2156 : BitVec 32 := Scalar.addi c0_i32_1316 c10_i32_1317
  let c1_i32_1318 : BitVec 32 := 1#32
  ⟨c0_i32_1316, v2156, c1_i32_1318⟩
def k0_off37 (k0_t34 : Fin k0_t34_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1316 : BitVec 32 := 0#32
  let c1_i32_1318 : BitVec 32 := 1#32
  let arg10 : BitVec 32 := Scf.iv c0_i32_1316 c1_i32_1318 k0_t34
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 1, v6185.toNat, 0]
@[reducible] def k0_t35_loop : Scf.Loop 32 :=
  let c0_i32_1392 : BitVec 32 := 0#32
  let c10_i32_1393 : BitVec 32 := 10#32
  let v2281 : BitVec 32 := Scalar.addi c0_i32_1392 c10_i32_1393
  let c1_i32_1394 : BitVec 32 := 1#32
  ⟨c0_i32_1392, v2281, c1_i32_1394⟩
def k0_off38 (k0_t35 : Fin k0_t35_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1392 : BitVec 32 := 0#32
  let c1_i32_1394 : BitVec 32 := 1#32
  let arg10 : BitVec 32 := Scf.iv c0_i32_1392 c1_i32_1394 k0_t35
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 1, v6185.toNat, 16]
@[reducible] def k0_t36_loop : Scf.Loop 32 :=
  let c0_i32_1397 : BitVec 32 := 0#32
  let c10_i32_1398 : BitVec 32 := 10#32
  let v2284 : BitVec 32 := Scalar.addi c0_i32_1397 c10_i32_1398
  let c1_i32_1399 : BitVec 32 := 1#32
  ⟨c0_i32_1397, v2284, c1_i32_1399⟩
def k0_off39 (k0_t36 : Fin k0_t36_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1397 : BitVec 32 := 0#32
  let c1_i32_1399 : BitVec 32 := 1#32
  let arg10 : BitVec 32 := Scf.iv c0_i32_1397 c1_i32_1399 k0_t36
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 1, v6185.toNat, 16]
@[reducible] def k0_t37_loop : Scf.Loop 32 :=
  let c0_i32_1473 : BitVec 32 := 0#32
  let c10_i32_1474 : BitVec 32 := 10#32
  let v2409 : BitVec 32 := Scalar.addi c0_i32_1473 c10_i32_1474
  let c1_i32_1475 : BitVec 32 := 1#32
  ⟨c0_i32_1473, v2409, c1_i32_1475⟩
def k0_off40 (k0_t37 : Fin k0_t37_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1473 : BitVec 32 := 0#32
  let c1_i32_1475 : BitVec 32 := 1#32
  let arg10 : BitVec 32 := Scf.iv c0_i32_1473 c1_i32_1475 k0_t37
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 1, v6185.toNat, 32]
@[reducible] def k0_t38_loop : Scf.Loop 32 :=
  let c0_i32_1478 : BitVec 32 := 0#32
  let c10_i32_1479 : BitVec 32 := 10#32
  let v2412 : BitVec 32 := Scalar.addi c0_i32_1478 c10_i32_1479
  let c1_i32_1480 : BitVec 32 := 1#32
  ⟨c0_i32_1478, v2412, c1_i32_1480⟩
def k0_off41 (k0_t38 : Fin k0_t38_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1478 : BitVec 32 := 0#32
  let c1_i32_1480 : BitVec 32 := 1#32
  let arg10 : BitVec 32 := Scf.iv c0_i32_1478 c1_i32_1480 k0_t38
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 1, v6185.toNat, 32]
@[reducible] def k0_t39_loop : Scf.Loop 32 :=
  let c0_i32_1554 : BitVec 32 := 0#32
  let c10_i32_1555 : BitVec 32 := 10#32
  let v2537 : BitVec 32 := Scalar.addi c0_i32_1554 c10_i32_1555
  let c1_i32_1556 : BitVec 32 := 1#32
  ⟨c0_i32_1554, v2537, c1_i32_1556⟩
def k0_off42 (k0_t39 : Fin k0_t39_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1554 : BitVec 32 := 0#32
  let c1_i32_1556 : BitVec 32 := 1#32
  let arg10 : BitVec 32 := Scf.iv c0_i32_1554 c1_i32_1556 k0_t39
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 1, v6185.toNat, 48]
@[reducible] def k0_t40_loop : Scf.Loop 32 :=
  let c0_i32_1559 : BitVec 32 := 0#32
  let c10_i32_1560 : BitVec 32 := 10#32
  let v2540 : BitVec 32 := Scalar.addi c0_i32_1559 c10_i32_1560
  let c1_i32_1561 : BitVec 32 := 1#32
  ⟨c0_i32_1559, v2540, c1_i32_1561⟩
def k0_off43 (k0_t40 : Fin k0_t40_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1559 : BitVec 32 := 0#32
  let c1_i32_1561 : BitVec 32 := 1#32
  let arg10 : BitVec 32 := Scf.iv c0_i32_1559 c1_i32_1561 k0_t40
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 1, v6185.toNat, 48]
@[reducible] def k0_t41_loop : Scf.Loop 32 :=
  let c0_i32_1635 : BitVec 32 := 0#32
  let c10_i32_1636 : BitVec 32 := 10#32
  let v2665 : BitVec 32 := Scalar.addi c0_i32_1635 c10_i32_1636
  let c1_i32_1637 : BitVec 32 := 1#32
  ⟨c0_i32_1635, v2665, c1_i32_1637⟩
def k0_off44 (k0_t41 : Fin k0_t41_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1635 : BitVec 32 := 0#32
  let c1_i32_1637 : BitVec 32 := 1#32
  let arg10 : BitVec 32 := Scf.iv c0_i32_1635 c1_i32_1637 k0_t41
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 1, v6185.toNat, 64]
@[reducible] def k0_t42_loop : Scf.Loop 32 :=
  let c0_i32_1640 : BitVec 32 := 0#32
  let c10_i32_1641 : BitVec 32 := 10#32
  let v2668 : BitVec 32 := Scalar.addi c0_i32_1640 c10_i32_1641
  let c1_i32_1642 : BitVec 32 := 1#32
  ⟨c0_i32_1640, v2668, c1_i32_1642⟩
def k0_off45 (k0_t42 : Fin k0_t42_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1640 : BitVec 32 := 0#32
  let c1_i32_1642 : BitVec 32 := 1#32
  let arg10 : BitVec 32 := Scf.iv c0_i32_1640 c1_i32_1642 k0_t42
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 1, v6185.toNat, 64]
@[reducible] def k0_t43_loop : Scf.Loop 32 :=
  let c0_i32_1716 : BitVec 32 := 0#32
  let c10_i32_1717 : BitVec 32 := 10#32
  let v2793 : BitVec 32 := Scalar.addi c0_i32_1716 c10_i32_1717
  let c1_i32_1718 : BitVec 32 := 1#32
  ⟨c0_i32_1716, v2793, c1_i32_1718⟩
def k0_off46 (k0_t43 : Fin k0_t43_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1716 : BitVec 32 := 0#32
  let c1_i32_1718 : BitVec 32 := 1#32
  let arg10 : BitVec 32 := Scf.iv c0_i32_1716 c1_i32_1718 k0_t43
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 1, v6185.toNat, 80]
@[reducible] def k0_t44_loop : Scf.Loop 32 :=
  let c0_i32_1721 : BitVec 32 := 0#32
  let c10_i32_1722 : BitVec 32 := 10#32
  let v2796 : BitVec 32 := Scalar.addi c0_i32_1721 c10_i32_1722
  let c1_i32_1723 : BitVec 32 := 1#32
  ⟨c0_i32_1721, v2796, c1_i32_1723⟩
def k0_off47 (k0_t44 : Fin k0_t44_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1721 : BitVec 32 := 0#32
  let c1_i32_1723 : BitVec 32 := 1#32
  let arg10 : BitVec 32 := Scf.iv c0_i32_1721 c1_i32_1723 k0_t44
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 1, v6185.toNat, 80]
@[reducible] def k0_t45_loop : Scf.Loop 32 :=
  let c0_i32_1797 : BitVec 32 := 0#32
  let c10_i32_1798 : BitVec 32 := 10#32
  let v2921 : BitVec 32 := Scalar.addi c0_i32_1797 c10_i32_1798
  let c1_i32_1799 : BitVec 32 := 1#32
  ⟨c0_i32_1797, v2921, c1_i32_1799⟩
def k0_off48 (k0_t45 : Fin k0_t45_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1797 : BitVec 32 := 0#32
  let c1_i32_1799 : BitVec 32 := 1#32
  let arg10 : BitVec 32 := Scf.iv c0_i32_1797 c1_i32_1799 k0_t45
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 1, v6185.toNat, 96]
@[reducible] def k0_t46_loop : Scf.Loop 32 :=
  let c0_i32_1802 : BitVec 32 := 0#32
  let c10_i32_1803 : BitVec 32 := 10#32
  let v2924 : BitVec 32 := Scalar.addi c0_i32_1802 c10_i32_1803
  let c1_i32_1804 : BitVec 32 := 1#32
  ⟨c0_i32_1802, v2924, c1_i32_1804⟩
def k0_off49 (k0_t46 : Fin k0_t46_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1802 : BitVec 32 := 0#32
  let c1_i32_1804 : BitVec 32 := 1#32
  let arg10 : BitVec 32 := Scf.iv c0_i32_1802 c1_i32_1804 k0_t46
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 1, v6185.toNat, 96]
@[reducible] def k0_t47_loop : Scf.Loop 32 :=
  let c0_i32_1878 : BitVec 32 := 0#32
  let c10_i32_1879 : BitVec 32 := 10#32
  let v3049 : BitVec 32 := Scalar.addi c0_i32_1878 c10_i32_1879
  let c1_i32_1880 : BitVec 32 := 1#32
  ⟨c0_i32_1878, v3049, c1_i32_1880⟩
def k0_off50 (k0_t47 : Fin k0_t47_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1878 : BitVec 32 := 0#32
  let c1_i32_1880 : BitVec 32 := 1#32
  let arg10 : BitVec 32 := Scf.iv c0_i32_1878 c1_i32_1880 k0_t47
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 1, v6185.toNat, 112]
@[reducible] def k0_t48_loop : Scf.Loop 32 :=
  let c0_i32_1883 : BitVec 32 := 0#32
  let c10_i32_1884 : BitVec 32 := 10#32
  let v3052 : BitVec 32 := Scalar.addi c0_i32_1883 c10_i32_1884
  let c1_i32_1885 : BitVec 32 := 1#32
  ⟨c0_i32_1883, v3052, c1_i32_1885⟩
def k0_off51 (k0_t48 : Fin k0_t48_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1883 : BitVec 32 := 0#32
  let c1_i32_1885 : BitVec 32 := 1#32
  let arg10 : BitVec 32 := Scf.iv c0_i32_1883 c1_i32_1885 k0_t48
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 1, v6185.toNat, 112]
@[reducible] def k0_t49_loop : Scf.Loop 32 :=
  let c0_i32_1959 : BitVec 32 := 0#32
  let c10_i32_1960 : BitVec 32 := 10#32
  let v3177 : BitVec 32 := Scalar.addi c0_i32_1959 c10_i32_1960
  let c1_i32_1961 : BitVec 32 := 1#32
  ⟨c0_i32_1959, v3177, c1_i32_1961⟩
def k0_off52 (k0_t49 : Fin k0_t49_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1959 : BitVec 32 := 0#32
  let c1_i32_1961 : BitVec 32 := 1#32
  let arg10 : BitVec 32 := Scf.iv c0_i32_1959 c1_i32_1961 k0_t49
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 1, v6185.toNat, 128]
@[reducible] def k0_t50_loop : Scf.Loop 32 :=
  let c0_i32_1964 : BitVec 32 := 0#32
  let c10_i32_1965 : BitVec 32 := 10#32
  let v3180 : BitVec 32 := Scalar.addi c0_i32_1964 c10_i32_1965
  let c1_i32_1966 : BitVec 32 := 1#32
  ⟨c0_i32_1964, v3180, c1_i32_1966⟩
def k0_off53 (k0_t50 : Fin k0_t50_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_1964 : BitVec 32 := 0#32
  let c1_i32_1966 : BitVec 32 := 1#32
  let arg10 : BitVec 32 := Scf.iv c0_i32_1964 c1_i32_1966 k0_t50
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 1, v6185.toNat, 128]
@[reducible] def k0_t51_loop : Scf.Loop 32 :=
  let c0_i32_2040 : BitVec 32 := 0#32
  let c10_i32_2041 : BitVec 32 := 10#32
  let v3305 : BitVec 32 := Scalar.addi c0_i32_2040 c10_i32_2041
  let c1_i32_2042 : BitVec 32 := 1#32
  ⟨c0_i32_2040, v3305, c1_i32_2042⟩
def k0_off54 (k0_t51 : Fin k0_t51_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2040 : BitVec 32 := 0#32
  let c1_i32_2042 : BitVec 32 := 1#32
  let arg10 : BitVec 32 := Scf.iv c0_i32_2040 c1_i32_2042 k0_t51
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 1, v6185.toNat, 144]
@[reducible] def k0_t52_loop : Scf.Loop 32 :=
  let c0_i32_2045 : BitVec 32 := 0#32
  let c10_i32_2046 : BitVec 32 := 10#32
  let v3308 : BitVec 32 := Scalar.addi c0_i32_2045 c10_i32_2046
  let c1_i32_2047 : BitVec 32 := 1#32
  ⟨c0_i32_2045, v3308, c1_i32_2047⟩
def k0_off55 (k0_t52 : Fin k0_t52_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2045 : BitVec 32 := 0#32
  let c1_i32_2047 : BitVec 32 := 1#32
  let arg10 : BitVec 32 := Scf.iv c0_i32_2045 c1_i32_2047 k0_t52
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 1, v6185.toNat, 144]
@[reducible] def k0_t53_loop : Scf.Loop 32 :=
  let c0_i32_2121 : BitVec 32 := 0#32
  let c10_i32_2122 : BitVec 32 := 10#32
  let v3433 : BitVec 32 := Scalar.addi c0_i32_2121 c10_i32_2122
  let c1_i32_2123 : BitVec 32 := 1#32
  ⟨c0_i32_2121, v3433, c1_i32_2123⟩
def k0_off56 (k0_t53 : Fin k0_t53_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2121 : BitVec 32 := 0#32
  let c1_i32_2123 : BitVec 32 := 1#32
  let arg10 : BitVec 32 := Scf.iv c0_i32_2121 c1_i32_2123 k0_t53
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 1, v6185.toNat, 160]
@[reducible] def k0_t54_loop : Scf.Loop 32 :=
  let c0_i32_2126 : BitVec 32 := 0#32
  let c10_i32_2127 : BitVec 32 := 10#32
  let v3436 : BitVec 32 := Scalar.addi c0_i32_2126 c10_i32_2127
  let c1_i32_2128 : BitVec 32 := 1#32
  ⟨c0_i32_2126, v3436, c1_i32_2128⟩
def k0_off57 (k0_t54 : Fin k0_t54_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2126 : BitVec 32 := 0#32
  let c1_i32_2128 : BitVec 32 := 1#32
  let arg10 : BitVec 32 := Scf.iv c0_i32_2126 c1_i32_2128 k0_t54
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 1, v6185.toNat, 160]
@[reducible] def k0_t55_loop : Scf.Loop 32 :=
  let c0_i32_2202 : BitVec 32 := 0#32
  let c10_i32_2203 : BitVec 32 := 10#32
  let v3561 : BitVec 32 := Scalar.addi c0_i32_2202 c10_i32_2203
  let c1_i32_2204 : BitVec 32 := 1#32
  ⟨c0_i32_2202, v3561, c1_i32_2204⟩
def k0_off58 (k0_t55 : Fin k0_t55_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2202 : BitVec 32 := 0#32
  let c1_i32_2204 : BitVec 32 := 1#32
  let arg10 : BitVec 32 := Scf.iv c0_i32_2202 c1_i32_2204 k0_t55
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 1, v6185.toNat, 176]
@[reducible] def k0_t56_loop : Scf.Loop 32 :=
  let c0_i32_2207 : BitVec 32 := 0#32
  let c10_i32_2208 : BitVec 32 := 10#32
  let v3564 : BitVec 32 := Scalar.addi c0_i32_2207 c10_i32_2208
  let c1_i32_2209 : BitVec 32 := 1#32
  ⟨c0_i32_2207, v3564, c1_i32_2209⟩
def k0_off59 (k0_t56 : Fin k0_t56_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2207 : BitVec 32 := 0#32
  let c1_i32_2209 : BitVec 32 := 1#32
  let arg10 : BitVec 32 := Scf.iv c0_i32_2207 c1_i32_2209 k0_t56
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 1, v6185.toNat, 176]
@[reducible] def k0_t57_loop : Scf.Loop 32 :=
  let c0_i32_2283 : BitVec 32 := 0#32
  let c10_i32_2284 : BitVec 32 := 10#32
  let v3689 : BitVec 32 := Scalar.addi c0_i32_2283 c10_i32_2284
  let c1_i32_2285 : BitVec 32 := 1#32
  ⟨c0_i32_2283, v3689, c1_i32_2285⟩
def k0_off60 (k0_t57 : Fin k0_t57_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2283 : BitVec 32 := 0#32
  let c1_i32_2285 : BitVec 32 := 1#32
  let arg10 : BitVec 32 := Scf.iv c0_i32_2283 c1_i32_2285 k0_t57
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 1, v6185.toNat, 192]
@[reducible] def k0_t58_loop : Scf.Loop 32 :=
  let c0_i32_2288 : BitVec 32 := 0#32
  let c10_i32_2289 : BitVec 32 := 10#32
  let v3692 : BitVec 32 := Scalar.addi c0_i32_2288 c10_i32_2289
  let c1_i32_2290 : BitVec 32 := 1#32
  ⟨c0_i32_2288, v3692, c1_i32_2290⟩
def k0_off61 (k0_t58 : Fin k0_t58_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2288 : BitVec 32 := 0#32
  let c1_i32_2290 : BitVec 32 := 1#32
  let arg10 : BitVec 32 := Scf.iv c0_i32_2288 c1_i32_2290 k0_t58
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 1, v6185.toNat, 192]
@[reducible] def k0_t59_loop : Scf.Loop 32 :=
  let c0_i32_2364 : BitVec 32 := 0#32
  let c10_i32_2365 : BitVec 32 := 10#32
  let v3817 : BitVec 32 := Scalar.addi c0_i32_2364 c10_i32_2365
  let c1_i32_2366 : BitVec 32 := 1#32
  ⟨c0_i32_2364, v3817, c1_i32_2366⟩
def k0_off62 (k0_t59 : Fin k0_t59_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2364 : BitVec 32 := 0#32
  let c1_i32_2366 : BitVec 32 := 1#32
  let arg10 : BitVec 32 := Scf.iv c0_i32_2364 c1_i32_2366 k0_t59
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 1, v6185.toNat, 208]
@[reducible] def k0_t60_loop : Scf.Loop 32 :=
  let c0_i32_2369 : BitVec 32 := 0#32
  let c10_i32_2370 : BitVec 32 := 10#32
  let v3820 : BitVec 32 := Scalar.addi c0_i32_2369 c10_i32_2370
  let c1_i32_2371 : BitVec 32 := 1#32
  ⟨c0_i32_2369, v3820, c1_i32_2371⟩
def k0_off63 (k0_t60 : Fin k0_t60_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2369 : BitVec 32 := 0#32
  let c1_i32_2371 : BitVec 32 := 1#32
  let arg10 : BitVec 32 := Scf.iv c0_i32_2369 c1_i32_2371 k0_t60
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 1, v6185.toNat, 208]
@[reducible] def k0_t61_loop : Scf.Loop 32 :=
  let c0_i32_2445 : BitVec 32 := 0#32
  let c10_i32_2446 : BitVec 32 := 10#32
  let v3945 : BitVec 32 := Scalar.addi c0_i32_2445 c10_i32_2446
  let c1_i32_2447 : BitVec 32 := 1#32
  ⟨c0_i32_2445, v3945, c1_i32_2447⟩
def k0_off64 (k0_t61 : Fin k0_t61_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2445 : BitVec 32 := 0#32
  let c1_i32_2447 : BitVec 32 := 1#32
  let arg10 : BitVec 32 := Scf.iv c0_i32_2445 c1_i32_2447 k0_t61
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 1, v6185.toNat, 224]
@[reducible] def k0_t62_loop : Scf.Loop 32 :=
  let c0_i32_2450 : BitVec 32 := 0#32
  let c10_i32_2451 : BitVec 32 := 10#32
  let v3948 : BitVec 32 := Scalar.addi c0_i32_2450 c10_i32_2451
  let c1_i32_2452 : BitVec 32 := 1#32
  ⟨c0_i32_2450, v3948, c1_i32_2452⟩
def k0_off65 (k0_t62 : Fin k0_t62_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2450 : BitVec 32 := 0#32
  let c1_i32_2452 : BitVec 32 := 1#32
  let arg10 : BitVec 32 := Scf.iv c0_i32_2450 c1_i32_2452 k0_t62
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 1, v6185.toNat, 224]
@[reducible] def k0_t63_loop : Scf.Loop 32 :=
  let c0_i32_2526 : BitVec 32 := 0#32
  let c10_i32_2527 : BitVec 32 := 10#32
  let v4073 : BitVec 32 := Scalar.addi c0_i32_2526 c10_i32_2527
  let c1_i32_2528 : BitVec 32 := 1#32
  ⟨c0_i32_2526, v4073, c1_i32_2528⟩
def k0_off66 (k0_t63 : Fin k0_t63_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2526 : BitVec 32 := 0#32
  let c1_i32_2528 : BitVec 32 := 1#32
  let arg10 : BitVec 32 := Scf.iv c0_i32_2526 c1_i32_2528 k0_t63
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 1, v6185.toNat, 240]
@[reducible] def k0_t64_loop : Scf.Loop 32 :=
  let c0_i32_2531 : BitVec 32 := 0#32
  let c10_i32_2532 : BitVec 32 := 10#32
  let v4076 : BitVec 32 := Scalar.addi c0_i32_2531 c10_i32_2532
  let c1_i32_2533 : BitVec 32 := 1#32
  ⟨c0_i32_2531, v4076, c1_i32_2533⟩
def k0_off67 (k0_t64 : Fin k0_t64_loop.trips) (c0_i32_3866 : BitVec 32) : Fin 4 → Nat :=
  let c0_i32_3868 : BitVec 32 := 0#32
  let v6183 : Index := Scalar.indexCast c0_i32_3868
  let c1_i32_3869 : BitVec 32 := 1#32
  let v6184 : Index := Scalar.indexCast c1_i32_3869
  let c5_i32_3867 : BitVec 32 := 5#32
  let c0_i32_2531 : BitVec 32 := 0#32
  let c1_i32_2533 : BitVec 32 := 1#32
  let arg10 : BitVec 32 := Scf.iv c0_i32_2531 c1_i32_2533 k0_t64
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 1, v6185.toNat, 240]
def k0_off68 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1_i32_3866_r4 : BitVec 32 := 1#32
  let c0_i32_3867_r4 : BitVec 32 := 0#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 1, 0, v34.toNat]
def k0_off69 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c1_i32_3866_r5 : BitVec 32 := 1#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 1, v34.toNat]
@[reducible] def k0_t65_loop : Scf.Loop 32 :=
  let c0_i32_2607 : BitVec 32 := 0#32
  let c10_i32_2608 : BitVec 32 := 10#32
  let v4201 : BitVec 32 := Scalar.addi c0_i32_2607 c10_i32_2608
  let c1_i32_2609 : BitVec 32 := 1#32
  ⟨c0_i32_2607, v4201, c1_i32_2609⟩
def k0_off70 (k0_t65 : Fin k0_t65_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2607 : BitVec 32 := 0#32
  let c1_i32_2609 : BitVec 32 := 1#32
  let arg10 : BitVec 32 := Scf.iv c0_i32_2607 c1_i32_2609 k0_t65
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 2, v6185.toNat, 0]
@[reducible] def k0_t66_loop : Scf.Loop 32 :=
  let c0_i32_2612 : BitVec 32 := 0#32
  let c10_i32_2613 : BitVec 32 := 10#32
  let v4204 : BitVec 32 := Scalar.addi c0_i32_2612 c10_i32_2613
  let c1_i32_2614 : BitVec 32 := 1#32
  ⟨c0_i32_2612, v4204, c1_i32_2614⟩
def k0_off71 (k0_t66 : Fin k0_t66_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2612 : BitVec 32 := 0#32
  let c1_i32_2614 : BitVec 32 := 1#32
  let arg10 : BitVec 32 := Scf.iv c0_i32_2612 c1_i32_2614 k0_t66
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c0_3870 : Index := 0#32
  ![0, 2, v6185.toNat, 0]
@[reducible] def k0_t67_loop : Scf.Loop 32 :=
  let c0_i32_2688 : BitVec 32 := 0#32
  let c10_i32_2689 : BitVec 32 := 10#32
  let v4329 : BitVec 32 := Scalar.addi c0_i32_2688 c10_i32_2689
  let c1_i32_2690 : BitVec 32 := 1#32
  ⟨c0_i32_2688, v4329, c1_i32_2690⟩
def k0_off72 (k0_t67 : Fin k0_t67_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2688 : BitVec 32 := 0#32
  let c1_i32_2690 : BitVec 32 := 1#32
  let arg10 : BitVec 32 := Scf.iv c0_i32_2688 c1_i32_2690 k0_t67
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 2, v6185.toNat, 16]
@[reducible] def k0_t68_loop : Scf.Loop 32 :=
  let c0_i32_2693 : BitVec 32 := 0#32
  let c10_i32_2694 : BitVec 32 := 10#32
  let v4332 : BitVec 32 := Scalar.addi c0_i32_2693 c10_i32_2694
  let c1_i32_2695 : BitVec 32 := 1#32
  ⟨c0_i32_2693, v4332, c1_i32_2695⟩
def k0_off73 (k0_t68 : Fin k0_t68_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2693 : BitVec 32 := 0#32
  let c1_i32_2695 : BitVec 32 := 1#32
  let arg10 : BitVec 32 := Scf.iv c0_i32_2693 c1_i32_2695 k0_t68
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c16_3870 : Index := 16#32
  ![0, 2, v6185.toNat, 16]
@[reducible] def k0_t69_loop : Scf.Loop 32 :=
  let c0_i32_2769 : BitVec 32 := 0#32
  let c10_i32_2770 : BitVec 32 := 10#32
  let v4457 : BitVec 32 := Scalar.addi c0_i32_2769 c10_i32_2770
  let c1_i32_2771 : BitVec 32 := 1#32
  ⟨c0_i32_2769, v4457, c1_i32_2771⟩
def k0_off74 (k0_t69 : Fin k0_t69_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2769 : BitVec 32 := 0#32
  let c1_i32_2771 : BitVec 32 := 1#32
  let arg10 : BitVec 32 := Scf.iv c0_i32_2769 c1_i32_2771 k0_t69
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 2, v6185.toNat, 32]
@[reducible] def k0_t70_loop : Scf.Loop 32 :=
  let c0_i32_2774 : BitVec 32 := 0#32
  let c10_i32_2775 : BitVec 32 := 10#32
  let v4460 : BitVec 32 := Scalar.addi c0_i32_2774 c10_i32_2775
  let c1_i32_2776 : BitVec 32 := 1#32
  ⟨c0_i32_2774, v4460, c1_i32_2776⟩
def k0_off75 (k0_t70 : Fin k0_t70_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2774 : BitVec 32 := 0#32
  let c1_i32_2776 : BitVec 32 := 1#32
  let arg10 : BitVec 32 := Scf.iv c0_i32_2774 c1_i32_2776 k0_t70
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c32_3870 : Index := 32#32
  ![0, 2, v6185.toNat, 32]
@[reducible] def k0_t71_loop : Scf.Loop 32 :=
  let c0_i32_2850 : BitVec 32 := 0#32
  let c10_i32_2851 : BitVec 32 := 10#32
  let v4585 : BitVec 32 := Scalar.addi c0_i32_2850 c10_i32_2851
  let c1_i32_2852 : BitVec 32 := 1#32
  ⟨c0_i32_2850, v4585, c1_i32_2852⟩
def k0_off76 (k0_t71 : Fin k0_t71_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2850 : BitVec 32 := 0#32
  let c1_i32_2852 : BitVec 32 := 1#32
  let arg10 : BitVec 32 := Scf.iv c0_i32_2850 c1_i32_2852 k0_t71
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 2, v6185.toNat, 48]
@[reducible] def k0_t72_loop : Scf.Loop 32 :=
  let c0_i32_2855 : BitVec 32 := 0#32
  let c10_i32_2856 : BitVec 32 := 10#32
  let v4588 : BitVec 32 := Scalar.addi c0_i32_2855 c10_i32_2856
  let c1_i32_2857 : BitVec 32 := 1#32
  ⟨c0_i32_2855, v4588, c1_i32_2857⟩
def k0_off77 (k0_t72 : Fin k0_t72_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2855 : BitVec 32 := 0#32
  let c1_i32_2857 : BitVec 32 := 1#32
  let arg10 : BitVec 32 := Scf.iv c0_i32_2855 c1_i32_2857 k0_t72
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c48_3870 : Index := 48#32
  ![0, 2, v6185.toNat, 48]
@[reducible] def k0_t73_loop : Scf.Loop 32 :=
  let c0_i32_2931 : BitVec 32 := 0#32
  let c10_i32_2932 : BitVec 32 := 10#32
  let v4713 : BitVec 32 := Scalar.addi c0_i32_2931 c10_i32_2932
  let c1_i32_2933 : BitVec 32 := 1#32
  ⟨c0_i32_2931, v4713, c1_i32_2933⟩
def k0_off78 (k0_t73 : Fin k0_t73_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2931 : BitVec 32 := 0#32
  let c1_i32_2933 : BitVec 32 := 1#32
  let arg10 : BitVec 32 := Scf.iv c0_i32_2931 c1_i32_2933 k0_t73
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 2, v6185.toNat, 64]
@[reducible] def k0_t74_loop : Scf.Loop 32 :=
  let c0_i32_2936 : BitVec 32 := 0#32
  let c10_i32_2937 : BitVec 32 := 10#32
  let v4716 : BitVec 32 := Scalar.addi c0_i32_2936 c10_i32_2937
  let c1_i32_2938 : BitVec 32 := 1#32
  ⟨c0_i32_2936, v4716, c1_i32_2938⟩
def k0_off79 (k0_t74 : Fin k0_t74_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_2936 : BitVec 32 := 0#32
  let c1_i32_2938 : BitVec 32 := 1#32
  let arg10 : BitVec 32 := Scf.iv c0_i32_2936 c1_i32_2938 k0_t74
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c64_3870 : Index := 64#32
  ![0, 2, v6185.toNat, 64]
@[reducible] def k0_t75_loop : Scf.Loop 32 :=
  let c0_i32_3012 : BitVec 32 := 0#32
  let c10_i32_3013 : BitVec 32 := 10#32
  let v4841 : BitVec 32 := Scalar.addi c0_i32_3012 c10_i32_3013
  let c1_i32_3014 : BitVec 32 := 1#32
  ⟨c0_i32_3012, v4841, c1_i32_3014⟩
def k0_off80 (k0_t75 : Fin k0_t75_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3012 : BitVec 32 := 0#32
  let c1_i32_3014 : BitVec 32 := 1#32
  let arg10 : BitVec 32 := Scf.iv c0_i32_3012 c1_i32_3014 k0_t75
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 2, v6185.toNat, 80]
@[reducible] def k0_t76_loop : Scf.Loop 32 :=
  let c0_i32_3017 : BitVec 32 := 0#32
  let c10_i32_3018 : BitVec 32 := 10#32
  let v4844 : BitVec 32 := Scalar.addi c0_i32_3017 c10_i32_3018
  let c1_i32_3019 : BitVec 32 := 1#32
  ⟨c0_i32_3017, v4844, c1_i32_3019⟩
def k0_off81 (k0_t76 : Fin k0_t76_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3017 : BitVec 32 := 0#32
  let c1_i32_3019 : BitVec 32 := 1#32
  let arg10 : BitVec 32 := Scf.iv c0_i32_3017 c1_i32_3019 k0_t76
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c80_3870 : Index := 80#32
  ![0, 2, v6185.toNat, 80]
@[reducible] def k0_t77_loop : Scf.Loop 32 :=
  let c0_i32_3093 : BitVec 32 := 0#32
  let c10_i32_3094 : BitVec 32 := 10#32
  let v4969 : BitVec 32 := Scalar.addi c0_i32_3093 c10_i32_3094
  let c1_i32_3095 : BitVec 32 := 1#32
  ⟨c0_i32_3093, v4969, c1_i32_3095⟩
def k0_off82 (k0_t77 : Fin k0_t77_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3093 : BitVec 32 := 0#32
  let c1_i32_3095 : BitVec 32 := 1#32
  let arg10 : BitVec 32 := Scf.iv c0_i32_3093 c1_i32_3095 k0_t77
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 2, v6185.toNat, 96]
@[reducible] def k0_t78_loop : Scf.Loop 32 :=
  let c0_i32_3098 : BitVec 32 := 0#32
  let c10_i32_3099 : BitVec 32 := 10#32
  let v4972 : BitVec 32 := Scalar.addi c0_i32_3098 c10_i32_3099
  let c1_i32_3100 : BitVec 32 := 1#32
  ⟨c0_i32_3098, v4972, c1_i32_3100⟩
def k0_off83 (k0_t78 : Fin k0_t78_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3098 : BitVec 32 := 0#32
  let c1_i32_3100 : BitVec 32 := 1#32
  let arg10 : BitVec 32 := Scf.iv c0_i32_3098 c1_i32_3100 k0_t78
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c96_3870 : Index := 96#32
  ![0, 2, v6185.toNat, 96]
@[reducible] def k0_t79_loop : Scf.Loop 32 :=
  let c0_i32_3174 : BitVec 32 := 0#32
  let c10_i32_3175 : BitVec 32 := 10#32
  let v5097 : BitVec 32 := Scalar.addi c0_i32_3174 c10_i32_3175
  let c1_i32_3176 : BitVec 32 := 1#32
  ⟨c0_i32_3174, v5097, c1_i32_3176⟩
def k0_off84 (k0_t79 : Fin k0_t79_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3174 : BitVec 32 := 0#32
  let c1_i32_3176 : BitVec 32 := 1#32
  let arg10 : BitVec 32 := Scf.iv c0_i32_3174 c1_i32_3176 k0_t79
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 2, v6185.toNat, 112]
@[reducible] def k0_t80_loop : Scf.Loop 32 :=
  let c0_i32_3179 : BitVec 32 := 0#32
  let c10_i32_3180 : BitVec 32 := 10#32
  let v5100 : BitVec 32 := Scalar.addi c0_i32_3179 c10_i32_3180
  let c1_i32_3181 : BitVec 32 := 1#32
  ⟨c0_i32_3179, v5100, c1_i32_3181⟩
def k0_off85 (k0_t80 : Fin k0_t80_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3179 : BitVec 32 := 0#32
  let c1_i32_3181 : BitVec 32 := 1#32
  let arg10 : BitVec 32 := Scf.iv c0_i32_3179 c1_i32_3181 k0_t80
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c112_3870 : Index := 112#32
  ![0, 2, v6185.toNat, 112]
@[reducible] def k0_t81_loop : Scf.Loop 32 :=
  let c0_i32_3255 : BitVec 32 := 0#32
  let c10_i32_3256 : BitVec 32 := 10#32
  let v5225 : BitVec 32 := Scalar.addi c0_i32_3255 c10_i32_3256
  let c1_i32_3257 : BitVec 32 := 1#32
  ⟨c0_i32_3255, v5225, c1_i32_3257⟩
def k0_off86 (k0_t81 : Fin k0_t81_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3255 : BitVec 32 := 0#32
  let c1_i32_3257 : BitVec 32 := 1#32
  let arg10 : BitVec 32 := Scf.iv c0_i32_3255 c1_i32_3257 k0_t81
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 2, v6185.toNat, 128]
@[reducible] def k0_t82_loop : Scf.Loop 32 :=
  let c0_i32_3260 : BitVec 32 := 0#32
  let c10_i32_3261 : BitVec 32 := 10#32
  let v5228 : BitVec 32 := Scalar.addi c0_i32_3260 c10_i32_3261
  let c1_i32_3262 : BitVec 32 := 1#32
  ⟨c0_i32_3260, v5228, c1_i32_3262⟩
def k0_off87 (k0_t82 : Fin k0_t82_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3260 : BitVec 32 := 0#32
  let c1_i32_3262 : BitVec 32 := 1#32
  let arg10 : BitVec 32 := Scf.iv c0_i32_3260 c1_i32_3262 k0_t82
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c128_3870 : Index := 128#32
  ![0, 2, v6185.toNat, 128]
@[reducible] def k0_t83_loop : Scf.Loop 32 :=
  let c0_i32_3336 : BitVec 32 := 0#32
  let c10_i32_3337 : BitVec 32 := 10#32
  let v5353 : BitVec 32 := Scalar.addi c0_i32_3336 c10_i32_3337
  let c1_i32_3338 : BitVec 32 := 1#32
  ⟨c0_i32_3336, v5353, c1_i32_3338⟩
def k0_off88 (k0_t83 : Fin k0_t83_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3336 : BitVec 32 := 0#32
  let c1_i32_3338 : BitVec 32 := 1#32
  let arg10 : BitVec 32 := Scf.iv c0_i32_3336 c1_i32_3338 k0_t83
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 2, v6185.toNat, 144]
@[reducible] def k0_t84_loop : Scf.Loop 32 :=
  let c0_i32_3341 : BitVec 32 := 0#32
  let c10_i32_3342 : BitVec 32 := 10#32
  let v5356 : BitVec 32 := Scalar.addi c0_i32_3341 c10_i32_3342
  let c1_i32_3343 : BitVec 32 := 1#32
  ⟨c0_i32_3341, v5356, c1_i32_3343⟩
def k0_off89 (k0_t84 : Fin k0_t84_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3341 : BitVec 32 := 0#32
  let c1_i32_3343 : BitVec 32 := 1#32
  let arg10 : BitVec 32 := Scf.iv c0_i32_3341 c1_i32_3343 k0_t84
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c144_3870 : Index := 144#32
  ![0, 2, v6185.toNat, 144]
@[reducible] def k0_t85_loop : Scf.Loop 32 :=
  let c0_i32_3417 : BitVec 32 := 0#32
  let c10_i32_3418 : BitVec 32 := 10#32
  let v5481 : BitVec 32 := Scalar.addi c0_i32_3417 c10_i32_3418
  let c1_i32_3419 : BitVec 32 := 1#32
  ⟨c0_i32_3417, v5481, c1_i32_3419⟩
def k0_off90 (k0_t85 : Fin k0_t85_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3417 : BitVec 32 := 0#32
  let c1_i32_3419 : BitVec 32 := 1#32
  let arg10 : BitVec 32 := Scf.iv c0_i32_3417 c1_i32_3419 k0_t85
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 2, v6185.toNat, 160]
@[reducible] def k0_t86_loop : Scf.Loop 32 :=
  let c0_i32_3422 : BitVec 32 := 0#32
  let c10_i32_3423 : BitVec 32 := 10#32
  let v5484 : BitVec 32 := Scalar.addi c0_i32_3422 c10_i32_3423
  let c1_i32_3424 : BitVec 32 := 1#32
  ⟨c0_i32_3422, v5484, c1_i32_3424⟩
def k0_off91 (k0_t86 : Fin k0_t86_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3422 : BitVec 32 := 0#32
  let c1_i32_3424 : BitVec 32 := 1#32
  let arg10 : BitVec 32 := Scf.iv c0_i32_3422 c1_i32_3424 k0_t86
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c160_3870 : Index := 160#32
  ![0, 2, v6185.toNat, 160]
@[reducible] def k0_t87_loop : Scf.Loop 32 :=
  let c0_i32_3498 : BitVec 32 := 0#32
  let c10_i32_3499 : BitVec 32 := 10#32
  let v5609 : BitVec 32 := Scalar.addi c0_i32_3498 c10_i32_3499
  let c1_i32_3500 : BitVec 32 := 1#32
  ⟨c0_i32_3498, v5609, c1_i32_3500⟩
def k0_off92 (k0_t87 : Fin k0_t87_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3498 : BitVec 32 := 0#32
  let c1_i32_3500 : BitVec 32 := 1#32
  let arg10 : BitVec 32 := Scf.iv c0_i32_3498 c1_i32_3500 k0_t87
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 2, v6185.toNat, 176]
@[reducible] def k0_t88_loop : Scf.Loop 32 :=
  let c0_i32_3503 : BitVec 32 := 0#32
  let c10_i32_3504 : BitVec 32 := 10#32
  let v5612 : BitVec 32 := Scalar.addi c0_i32_3503 c10_i32_3504
  let c1_i32_3505 : BitVec 32 := 1#32
  ⟨c0_i32_3503, v5612, c1_i32_3505⟩
def k0_off93 (k0_t88 : Fin k0_t88_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3503 : BitVec 32 := 0#32
  let c1_i32_3505 : BitVec 32 := 1#32
  let arg10 : BitVec 32 := Scf.iv c0_i32_3503 c1_i32_3505 k0_t88
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c176_3870 : Index := 176#32
  ![0, 2, v6185.toNat, 176]
@[reducible] def k0_t89_loop : Scf.Loop 32 :=
  let c0_i32_3579 : BitVec 32 := 0#32
  let c10_i32_3580 : BitVec 32 := 10#32
  let v5737 : BitVec 32 := Scalar.addi c0_i32_3579 c10_i32_3580
  let c1_i32_3581 : BitVec 32 := 1#32
  ⟨c0_i32_3579, v5737, c1_i32_3581⟩
def k0_off94 (k0_t89 : Fin k0_t89_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3579 : BitVec 32 := 0#32
  let c1_i32_3581 : BitVec 32 := 1#32
  let arg10 : BitVec 32 := Scf.iv c0_i32_3579 c1_i32_3581 k0_t89
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 2, v6185.toNat, 192]
@[reducible] def k0_t90_loop : Scf.Loop 32 :=
  let c0_i32_3584 : BitVec 32 := 0#32
  let c10_i32_3585 : BitVec 32 := 10#32
  let v5740 : BitVec 32 := Scalar.addi c0_i32_3584 c10_i32_3585
  let c1_i32_3586 : BitVec 32 := 1#32
  ⟨c0_i32_3584, v5740, c1_i32_3586⟩
def k0_off95 (k0_t90 : Fin k0_t90_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3584 : BitVec 32 := 0#32
  let c1_i32_3586 : BitVec 32 := 1#32
  let arg10 : BitVec 32 := Scf.iv c0_i32_3584 c1_i32_3586 k0_t90
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c192_3870 : Index := 192#32
  ![0, 2, v6185.toNat, 192]
@[reducible] def k0_t91_loop : Scf.Loop 32 :=
  let c0_i32_3660 : BitVec 32 := 0#32
  let c10_i32_3661 : BitVec 32 := 10#32
  let v5865 : BitVec 32 := Scalar.addi c0_i32_3660 c10_i32_3661
  let c1_i32_3662 : BitVec 32 := 1#32
  ⟨c0_i32_3660, v5865, c1_i32_3662⟩
def k0_off96 (k0_t91 : Fin k0_t91_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3660 : BitVec 32 := 0#32
  let c1_i32_3662 : BitVec 32 := 1#32
  let arg10 : BitVec 32 := Scf.iv c0_i32_3660 c1_i32_3662 k0_t91
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 2, v6185.toNat, 208]
@[reducible] def k0_t92_loop : Scf.Loop 32 :=
  let c0_i32_3665 : BitVec 32 := 0#32
  let c10_i32_3666 : BitVec 32 := 10#32
  let v5868 : BitVec 32 := Scalar.addi c0_i32_3665 c10_i32_3666
  let c1_i32_3667 : BitVec 32 := 1#32
  ⟨c0_i32_3665, v5868, c1_i32_3667⟩
def k0_off97 (k0_t92 : Fin k0_t92_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3665 : BitVec 32 := 0#32
  let c1_i32_3667 : BitVec 32 := 1#32
  let arg10 : BitVec 32 := Scf.iv c0_i32_3665 c1_i32_3667 k0_t92
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c208_3870 : Index := 208#32
  ![0, 2, v6185.toNat, 208]
@[reducible] def k0_t93_loop : Scf.Loop 32 :=
  let c0_i32_3741 : BitVec 32 := 0#32
  let c10_i32_3742 : BitVec 32 := 10#32
  let v5993 : BitVec 32 := Scalar.addi c0_i32_3741 c10_i32_3742
  let c1_i32_3743 : BitVec 32 := 1#32
  ⟨c0_i32_3741, v5993, c1_i32_3743⟩
def k0_off98 (k0_t93 : Fin k0_t93_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3741 : BitVec 32 := 0#32
  let c1_i32_3743 : BitVec 32 := 1#32
  let arg10 : BitVec 32 := Scf.iv c0_i32_3741 c1_i32_3743 k0_t93
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 2, v6185.toNat, 224]
@[reducible] def k0_t94_loop : Scf.Loop 32 :=
  let c0_i32_3746 : BitVec 32 := 0#32
  let c10_i32_3747 : BitVec 32 := 10#32
  let v5996 : BitVec 32 := Scalar.addi c0_i32_3746 c10_i32_3747
  let c1_i32_3748 : BitVec 32 := 1#32
  ⟨c0_i32_3746, v5996, c1_i32_3748⟩
def k0_off99 (k0_t94 : Fin k0_t94_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3746 : BitVec 32 := 0#32
  let c1_i32_3748 : BitVec 32 := 1#32
  let arg10 : BitVec 32 := Scf.iv c0_i32_3746 c1_i32_3748 k0_t94
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c224_3870 : Index := 224#32
  ![0, 2, v6185.toNat, 224]
@[reducible] def k0_t95_loop : Scf.Loop 32 :=
  let c0_i32_3822 : BitVec 32 := 0#32
  let c10_i32_3823 : BitVec 32 := 10#32
  let v6121 : BitVec 32 := Scalar.addi c0_i32_3822 c10_i32_3823
  let c1_i32_3824 : BitVec 32 := 1#32
  ⟨c0_i32_3822, v6121, c1_i32_3824⟩
def k0_off100 (k0_t95 : Fin k0_t95_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3822 : BitVec 32 := 0#32
  let c1_i32_3824 : BitVec 32 := 1#32
  let arg10 : BitVec 32 := Scf.iv c0_i32_3822 c1_i32_3824 k0_t95
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 2, v6185.toNat, 240]
@[reducible] def k0_t96_loop : Scf.Loop 32 :=
  let c0_i32_3827 : BitVec 32 := 0#32
  let c10_i32_3828 : BitVec 32 := 10#32
  let v6124 : BitVec 32 := Scalar.addi c0_i32_3827 c10_i32_3828
  let c1_i32_3829 : BitVec 32 := 1#32
  ⟨c0_i32_3827, v6124, c1_i32_3829⟩
def k0_off101 (k0_t96 : Fin k0_t96_loop.trips) (c0_i32_3866 : BitVec 32) : Fin 4 → Nat :=
  let c0_i32_3868 : BitVec 32 := 0#32
  let v6183 : Index := Scalar.indexCast c0_i32_3868
  let c2_i32_3869 : BitVec 32 := 2#32
  let v6184 : Index := Scalar.indexCast c2_i32_3869
  let c5_i32_3867 : BitVec 32 := 5#32
  let c0_i32_3827 : BitVec 32 := 0#32
  let c1_i32_3829 : BitVec 32 := 1#32
  let arg10 : BitVec 32 := Scf.iv c0_i32_3827 c1_i32_3829 k0_t96
  let c8_i32 : BitVec 32 := 8#32
  let v6180 : BitVec 32 := Scalar.muli arg10 c8_i32
  let v6181 : BitVec 32 := Scalar.addi v6180 c0_i32_3866
  let v6182 : BitVec 32 := Scalar.addi c5_i32_3867 v6181
  let v6185 : Index := Scalar.indexCast v6182
  let c240_3870 : Index := 240#32
  ![0, 2, v6185.toNat, 240]
def k0_off102 (i : grid0.Coords) : Fin 4 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c2_i32_3866_r6 : BitVec 32 := 2#32
  let c0_i32_3867_r6 : BitVec 32 := 0#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 2, 0, v34.toNat]
def k0_off103 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_0 : BitVec 32 := 0#32
  let c32_i32 : BitVec 32 := 32#32
  let v5 : BitVec 32 := Scalar.muli c0_i32_0 c32_i32
  let v6 : BitVec 32 := Scalar.addi v1 v5
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c4_i32 : BitVec 32 := 4#32
  let c0_i32_3 : BitVec 32 := 0#32
  let v13 : BitVec 1 := Scalar.cmpi .sgt c4_i32 c0_i32_3
  let v14 : BitVec 32 := Scalar.extui v13
  let c0_i32_4 : BitVec 32 := 0#32
  let v15 : BitVec 1 := Scalar.cmpi .slt c4_i32 c0_i32_4
  let v16 : BitVec 32 := Scalar.extui v15
  let v17 : BitVec 32 := Scalar.subi v14 v16
  let v18 : BitVec 1 := Scalar.cmpi .ne v12 v17
  let v19 : BitVec 32 := Scalar.remsi v6 c4_i32
  let c0_i32_5 : BitVec 32 := 0#32
  let v20 : BitVec 1 := Scalar.cmpi .ne v19 c0_i32_5
  let v21 : BitVec 1 := Scalar.andi v18 v20
  let v7 : BitVec 32 := Scalar.divsi v6 c4_i32
  let c1_i32 : BitVec 32 := 1#32
  let v22 : BitVec 32 := Scalar.subi v7 c1_i32
  let v23 : BitVec 32 := Scalar.select v21 v22 v7
  let c2_i32_3866_r7 : BitVec 32 := 2#32
  let c4_i32_6 : BitVec 32 := 4#32
  let c0_i32_7 : BitVec 32 := 0#32
  let v24 : BitVec 1 := Scalar.cmpi .eq c4_i32_6 c0_i32_7
  let c1_i32_8 : BitVec 32 := 1#32
  let v25 : BitVec 32 := Scalar.select v24 c1_i32_8 c4_i32_6
  let v26 : BitVec 32 := Scalar.remsi v6 v25
  let c0_i32_10 : BitVec 32 := 0#32
  let v28 : BitVec 1 := Scalar.cmpi .slt v26 c0_i32_10
  let c0_i32_11 : BitVec 32 := 0#32
  let v29 : BitVec 1 := Scalar.cmpi .slt v25 c0_i32_11
  let v30 : BitVec 1 := Scalar.xori v28 v29
  let c0_i32_9 : BitVec 32 := 0#32
  let v27 : BitVec 1 := Scalar.cmpi .ne v26 c0_i32_9
  let v31 : BitVec 1 := Scalar.andi v30 v27
  let v32 : BitVec 32 := Scalar.addi v26 v25
  let v33 : BitVec 32 := Scalar.select v31 v32 v26
  let c256_i32 : BitVec 32 := 256#32
  let v34 : BitVec 32 := Scalar.muli v33 c256_i32
  ![v23.toNat, 2, v34.toNat]
abbrev grid1 : Pipeline.Grid := ⟨1, ![7], ![false]⟩

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_3 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S8x3x85x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x3x7x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S8x3x1x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S64x255x32x32 : Shape := ⟨4, ![64, 255, 32, 32]⟩
abbrev S_ : Shape := ⟨0, ![]⟩
abbrev S3 : Shape := ⟨1, ![3]⟩
abbrev S64x3x85x32x32 : Shape := ⟨5, ![64, 3, 85, 32, 32]⟩
abbrev S32 : Shape := ⟨1, ![32]⟩
abbrev S1x1x1x32 : Shape := ⟨4, ![1, 1, 1, 32]⟩
abbrev S1x1x32x1 : Shape := ⟨4, ![1, 1, 32, 1]⟩
abbrev S64x3x1x32x32 : Shape := ⟨5, ![64, 3, 1, 32, 32]⟩
abbrev S64x3x32x32 : Shape := ⟨4, ![64, 3, 32, 32]⟩
abbrev S1x3x1x1 : Shape := ⟨4, ![1, 3, 1, 1]⟩
abbrev S64x3x80x32x32 : Shape := ⟨5, ![64, 3, 80, 32, 32]⟩
abbrev S64x3x32x32x1 : Shape := ⟨5, ![64, 3, 32, 32, 1]⟩
abbrev S64x3x32x32x7 : Shape := ⟨5, ![64, 3, 32, 32, 7]⟩
abbrev S64x3072x7 : Shape := ⟨3, ![64, 3072, 7]⟩
abbrev S64x3072x1 : Shape := ⟨3, ![64, 3072, 1]⟩
abbrev S64x3072 : Shape := ⟨2, ![64, 3072]⟩

abbrev nBuf : Space → Nat
  | .hbm => 104
  | .vmem => 0
  | .smem => 0
  | _ => 0

abbrev bufTy : (tb : Table) → Fin (tcTables nBuf tb) → BufTy
  | .hbm, ⟨0, _⟩ => ⟨S64x255x32x32, .f32⟩
  | .hbm, ⟨1, _⟩ => ⟨S_, .i32⟩
  | .hbm, ⟨2, _⟩ => ⟨S3, .f32⟩
  | .hbm, ⟨3, _⟩ => ⟨S3, .f32⟩
  | .hbm, ⟨4, _⟩ => ⟨S64x3x85x32x32, .f32⟩
  | .hbm, ⟨5, _⟩ => ⟨S32, .f32⟩
  | .hbm, ⟨6, _⟩ => ⟨S1x1x1x32, .f32⟩
  | .hbm, ⟨7, _⟩ => ⟨S32, .f32⟩
  | .hbm, ⟨8, _⟩ => ⟨S1x1x32x1, .f32⟩
  | .hbm, ⟨9, _⟩ => ⟨S64x3x1x32x32, .f32⟩
  | .hbm, ⟨10, _⟩ => ⟨S64x3x32x32, .f32⟩
  | .hbm, ⟨11, _⟩ => ⟨S64x3x32x32, .f32⟩
  | .hbm, ⟨12, _⟩ => ⟨S64x3x32x32, .f32⟩
  | .hbm, ⟨13, _⟩ => ⟨S_, .f32⟩
  | .hbm, ⟨14, _⟩ => ⟨S64x3x32x32, .f32⟩
  | .hbm, ⟨15, _⟩ => ⟨S64x3x32x32, .f32⟩
  | .hbm, ⟨16, _⟩ => ⟨S_, .f32⟩
  | .hbm, ⟨17, _⟩ => ⟨S64x3x32x32, .f32⟩
  | .hbm, ⟨18, _⟩ => ⟨S64x3x32x32, .f32⟩
  | .hbm, ⟨19, _⟩ => ⟨S64x3x32x32, .f32⟩
  | .hbm, ⟨20, _⟩ => ⟨S64x3x32x32, .f32⟩
  | .hbm, ⟨21, _⟩ => ⟨S_, .f32⟩
  | .hbm, ⟨22, _⟩ => ⟨S64x3x32x32, .f32⟩
  | .hbm, ⟨23, _⟩ => ⟨S64x3x32x32, .f32⟩
  | .hbm, ⟨24, _⟩ => ⟨S64x3x1x32x32, .f32⟩
  | .hbm, ⟨25, _⟩ => ⟨S64x3x32x32, .f32⟩
  | .hbm, ⟨26, _⟩ => ⟨S64x3x32x32, .f32⟩
  | .hbm, ⟨27, _⟩ => ⟨S64x3x32x32, .f32⟩
  | .hbm, ⟨28, _⟩ => ⟨S_, .f32⟩
  | .hbm, ⟨29, _⟩ => ⟨S64x3x32x32, .f32⟩
  | .hbm, ⟨30, _⟩ => ⟨S64x3x32x32, .f32⟩
  | .hbm, ⟨31, _⟩ => ⟨S_, .f32⟩
  | .hbm, ⟨32, _⟩ => ⟨S64x3x32x32, .f32⟩
  | .hbm, ⟨33, _⟩ => ⟨S64x3x32x32, .f32⟩
  | .hbm, ⟨34, _⟩ => ⟨S64x3x32x32, .f32⟩
  | .hbm, ⟨35, _⟩ => ⟨S64x3x32x32, .f32⟩
  | .hbm, ⟨36, _⟩ => ⟨S_, .f32⟩
  | .hbm, ⟨37, _⟩ => ⟨S64x3x32x32, .f32⟩
  | .hbm, ⟨38, _⟩ => ⟨S64x3x32x32, .f32⟩
  | .hbm, ⟨39, _⟩ => ⟨S64x3x1x32x32, .f32⟩
  | .hbm, ⟨40, _⟩ => ⟨S64x3x32x32, .f32⟩
  | .hbm, ⟨41, _⟩ => ⟨S64x3x32x32, .f32⟩
  | .hbm, ⟨42, _⟩ => ⟨S1x3x1x1, .f32⟩
  | .hbm, ⟨43, _⟩ => ⟨S64x3x32x32, .f32⟩
  | .hbm, ⟨44, _⟩ => ⟨S64x3x32x32, .f32⟩
  | .hbm, ⟨45, _⟩ => ⟨S_, .f32⟩
  | .hbm, ⟨46, _⟩ => ⟨S64x3x32x32, .f32⟩
  | .hbm, ⟨47, _⟩ => ⟨S64x3x32x32, .f32⟩
  | .hbm, ⟨48, _⟩ => ⟨S64x3x1x32x32, .f32⟩
  | .hbm, ⟨49, _⟩ => ⟨S64x3x32x32, .f32⟩
  | .hbm, ⟨50, _⟩ => ⟨S64x3x32x32, .f32⟩
  | .hbm, ⟨51, _⟩ => ⟨S1x3x1x1, .f32⟩
  | .hbm, ⟨52, _⟩ => ⟨S64x3x32x32, .f32⟩
  | .hbm, ⟨53, _⟩ => ⟨S64x3x32x32, .f32⟩
  | .hbm, ⟨54, _⟩ => ⟨S_, .f32⟩
  | .hbm, ⟨55, _⟩ => ⟨S64x3x32x32, .f32⟩
  | .hbm, ⟨56, _⟩ => ⟨S64x3x32x32, .f32⟩
  | .hbm, ⟨57, _⟩ => ⟨S64x3x1x32x32, .f32⟩
  | .hbm, ⟨58, _⟩ => ⟨S64x3x32x32, .f32⟩
  | .hbm, ⟨59, _⟩ => ⟨S64x3x32x32, .f32⟩
  | .hbm, ⟨60, _⟩ => ⟨S64x3x32x32, .f32⟩
  | .hbm, ⟨61, _⟩ => ⟨S_, .f32⟩
  | .hbm, ⟨62, _⟩ => ⟨S64x3x32x32, .f32⟩
  | .hbm, ⟨63, _⟩ => ⟨S64x3x32x32, .f32⟩
  | .hbm, ⟨64, _⟩ => ⟨S_, .f32⟩
  | .hbm, ⟨65, _⟩ => ⟨S64x3x32x32, .f32⟩
  | .hbm, ⟨66, _⟩ => ⟨S64x3x32x32, .f32⟩
  | .hbm, ⟨67, _⟩ => ⟨S64x3x80x32x32, .f32⟩
  | .hbm, ⟨68, _⟩ => ⟨S_, .f32⟩
  | .hbm, ⟨69, _⟩ => ⟨S64x3x32x32, .f32⟩
  | .hbm, ⟨70, _⟩ => ⟨S_, .f32⟩
  | .hbm, ⟨71, _⟩ => ⟨S64x3x32x32, .f32⟩
  | .hbm, ⟨72, _⟩ => ⟨S64x3x32x32, .f32⟩
  | .hbm, ⟨73, _⟩ => ⟨S64x3x1x32x32, .f32⟩
  | .hbm, ⟨74, _⟩ => ⟨S64x3x80x32x32, .f32⟩
  | .hbm, ⟨75, _⟩ => ⟨S64x3x80x32x32, .f32⟩
  | .hbm, ⟨76, _⟩ => ⟨S64x3x80x32x32, .f32⟩
  | .hbm, ⟨77, _⟩ => ⟨S_, .f32⟩
  | .hbm, ⟨78, _⟩ => ⟨S64x3x32x32, .f32⟩
  | .hbm, ⟨79, _⟩ => ⟨S64x3x1x32x32, .f32⟩
  | .hbm, ⟨80, _⟩ => ⟨S64x3x80x32x32, .f32⟩
  | .hbm, ⟨81, _⟩ => ⟨S64x3x80x32x32, .f32⟩
  | .hbm, ⟨82, _⟩ => ⟨S_, .f32⟩
  | .hbm, ⟨83, _⟩ => ⟨S64x3x32x32, .f32⟩
  | .hbm, ⟨84, _⟩ => ⟨S64x3x80x32x32, .i32⟩
  | .hbm, ⟨85, _⟩ => ⟨S_, .f32⟩
  | .hbm, ⟨86, _⟩ => ⟨S_, .i32⟩
  | .hbm, ⟨87, _⟩ => ⟨S64x3x32x32, .f32⟩
  | .hbm, ⟨88, _⟩ => ⟨S64x3x32x32, .i32⟩
  | .hbm, ⟨89, _⟩ => ⟨S64x3x32x32, .f32⟩
  | .hbm, ⟨90, _⟩ => ⟨S64x3x32x32x1, .f32⟩
  | .hbm, ⟨91, _⟩ => ⟨S64x3x32x32x1, .f32⟩
  | .hbm, ⟨92, _⟩ => ⟨S64x3x32x32x1, .f32⟩
  | .hbm, ⟨93, _⟩ => ⟨S64x3x32x32x1, .f32⟩
  | .hbm, ⟨94, _⟩ => ⟨S64x3x32x32x1, .f32⟩
  | .hbm, ⟨95, _⟩ => ⟨S64x3x32x32x1, .f32⟩
  | .hbm, ⟨96, _⟩ => ⟨S64x3x32x32x1, .f32⟩
  | .hbm, ⟨97, _⟩ => ⟨S64x3x32x32x7, .f32⟩
  | .hbm, ⟨98, _⟩ => ⟨S64x3072x7, .f32⟩
  | .hbm, ⟨99, _⟩ => ⟨S64x3072x1, .f32⟩
  | .hbm, ⟨100, _⟩ => ⟨S64x3072, .f32⟩
  | .hbm, ⟨101, _⟩ => ⟨S_, .f32⟩
  | .hbm, ⟨102, _⟩ => ⟨S64x3072, .f32⟩
  | .hbm, ⟨103, _⟩ => ⟨S64x3072, .i1⟩
  | _, _ => ⟨S64x255x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_6 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_7 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_8 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_9 : Ref sig .tc := ⟨.hbm, 61, rfl⟩
abbrev main_v49 : Ref sig .tc := ⟨.hbm, 62, rfl⟩
abbrev main_v50 : Ref sig .tc := ⟨.hbm, 63, rfl⟩
abbrev main_cst_10 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_cst_11 : Ref sig .tc := ⟨.hbm, 68, rfl⟩
abbrev main_v54 : Ref sig .tc := ⟨.hbm, 69, rfl⟩
abbrev main_cst_12 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_13 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_cst_14 : Ref sig .tc := ⟨.hbm, 82, rfl⟩
abbrev main_v65 : Ref sig .tc := ⟨.hbm, 83, rfl⟩
abbrev main_call0_v0 : Ref sig .tc := ⟨.hbm, 84, rfl⟩
abbrev main_call0_cst : Ref sig .tc := ⟨.hbm, 85, rfl⟩
abbrev main_call0_c : Ref sig .tc := ⟨.hbm, 86, rfl⟩
abbrev main_call0_v1_0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩

abbrev nD : Nat := 1
abbrev τ : Topo := Topo.v7x

variable {F : FTy → Type} [FloatOps F]
-- ==== Proof.Setup.lean ====
/-
  The program as the launch theorem sees it, and the algebra its proof draws its ghosts from.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Pipeline.Regions
public import Idealize.ShloMosaic.Lib.Tactic
public import proofs.«01_k».proof.Proof.Gen.KernelIdeal
public import proofs.«01_k».proof.Proof.Gen.KernelIdeal.Launch

@[expose] public section

noncomputable section

namespace Cert.Proof

open Cert.KernelIdeal
open Idealize.ShloMosaic Idealize.ShloMosaic.Rounds
open Idealize.ShloMosaic.SparseCore (S V T)
open Idealize.ShloMosaic.SparseCore.Cfg (HIx)
open Idealize.SL Idealize.SL.RA Idealize.SL.BI Idealize.SL.Sem

variable {F : FTy → Type} [FloatOps F]

abbrev ΛP : Labels := Pipeline.Sig Λ₀ (Fin 1) fun p => (pcfgs (F := F) p).Adm
abbrev K : SparseCore.Cfg τ sig (ΛP (F := F)) 1 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the pipeline's rounds, and the copies' counters. -/
abbrev UH : Type := URounds (GSem nD τ sig) ℕ
abbrev UP : Type := URounds (GSem nD τ sig) Unit
abbrev UU : Type := UH × (UP × Counters)

/-- The propositions of the proof. -/
abbrev Pr (F : FTy → Type) : Type _ := sProp (MT nD τ sig (HIx 1) (Elt F) ℕ UU ℕ)

abbrev EH : Emb UH (MT nD τ sig (HIx 1) (Elt F) ℕ UU ℕ) := embL

end Cert.Proof

end
-- ==== Proof.TileProg.lean ====
/-
  What one SparseCore tile runs, said once. The kernel's body is unrolled: three anchors, sixteen groups of sixteen
  columns each, forty-eight times the same text. `blk` is that text at a symbolic anchor `a` and column offset `c`,
  `tileProg` the whole body over the list of offsets, and `body_eq` says the printed body is `tileProg`.
-/
module

public import proofs.«01_k».proof.KernelIdeal
public import proofs.«01_k».proof.Proof.Gen.KernelIdeal

@[expose] public section

noncomputable section

namespace Cert.Proof.Tile

open Cert.KernelIdeal
open Cert.KernelIdeal.Facts₀ Cert.KernelIdeal.Facts
open Idealize.ShloMosaic Idealize.SL.Sem

variable {F : FTy → Type} [FloatOps F]

/-- The sixteen columns from `c` of row `f` of anchor `a`, inside the fetched block. -/
theorem xinb {a f c : Nat} (ha : a < 3) (hf : f < 85) (hc : c + 16 ≤ 256) :
    ∀ d, (![0, a, f, c] : Fin 4 → Nat) d + S1x1x1x16.size d ≤ S1x3x85x256.size d := by
  intro d; fin_cases d
  · show 0 + 1 ≤ 1; omega
  · show a + 1 ≤ 3; omega
  · show f + 1 ≤ 85; omega
  · exact hc
/-- The sixteen columns from `c` of row `f`, inside the scratch of box rows. -/
theorem oinb {f c : Nat} (hf : f < 7) (hc : c + 16 ≤ 256) :
    ∀ d, (![0, 0, f, c] : Fin 4 → Nat) d + S1x1x1x16.size d ≤ S1x1x7x256.size d := by
  intro d; fin_cases d
  · show 0 + 1 ≤ 1; omega
  · show 0 + 1 ≤ 1; omega
  · show f + 1 ≤ 7; omega
  · exact hc
/-- The sixteen columns from `c`, inside the scratch of keep flags. -/
theorem kinb {c : Nat} (hc : c + 16 ≤ 256) :
    ∀ d, (![0, 0, c] : Fin 3 → Nat) d + S1x1x16.size d ≤ S1x1x256.size d := by
  intro d; fin_cases d
  · show 0 + 1 ≤ 1; omega
  · show 0 + 1 ≤ 1; omega
  · exact hc

/-- A loop of ten trips. -/
abbrev ten : Scf.Loop 32 := ⟨0#32, Scalar.addi 0#32 10#32, 1#32⟩
theorem ten_ok : ten.OK := by decide

/-- The class a trip's step `r` looks at, as the program counts it. -/
abbrev clsW (t : Fin ten.trips) (r : BitVec 32) : BitVec 32 := Scalar.addi (Scalar.muli (Scf.iv 0#32 1#32 t) 8#32) r
/-- Where the step reads: row `5 + class`. -/
abbrev clsOff (a c : Nat) (t : Fin ten.trips) (r : BitVec 32) : Fin 4 → Nat :=
  ![0, a, (Scalar.indexCast (Scalar.addi 5#32 (clsW t r)) : Index).toNat, c]

theorem ten_trips : ten.trips = 10 := by decide
theorem clsRow (t : Fin ten.trips) (r : Fin 8) :
    (Scalar.indexCast (Scalar.addi 5#32 (clsW t (BitVec.ofNat 32 r.val))) : Index).toNat = 5 + (t.val * 8 + r.val) := by
  revert t r; decide
theorem clsOff_inb {a c : Nat} (ha : a < 3) (hc : c + 16 ≤ 256) (t : Fin ten.trips) (r : Fin 8) :
    ∀ d, (clsOff a c t (BitVec.ofNat 32 r.val)) d + S1x1x1x16.size d ≤ S1x3x85x256.size d := by
  have ht : t.val < 10 := ten_trips ▸ t.isLt
  have hr := r.isLt
  unfold clsOff; rw [clsRow]
  exact xinb ha (by omega) hc

section Prog

variable (i : grid0.Coords)
abbrev TP (α : Type) : Type 1 := Prog (TpuEff nD τ sig (Elt F) Λ₀ (.scVector ((i 0).castLE hcore0) ((i 1).castLE hsub0))) α

variable (arg6 : Memref sig .scVector .vmem S1x3x85x256 .f32) (arg7 : Memref sig .scVector .vmem S1x1x7x256 .f32)
  (arg8 : Memref sig .scVector .vmem S1x1x256 .f32)

/-- One step of the running maximum: the larger of the maximum so far and this class, and which class it is. -/
def maxStep {a c : Nat} (ha : a < 3) (hc : c + 16 ≤ 256) (t : Fin ten.trips) (r : Fin 8) (s : FVec F S16 .f32 × IVec S16 32) :
    TP (F := F) i (FVec F S16 .f32 × IVec S16 32) :=
  .op (.load arg6 (Rect.unit (s := S1x3x85x256) (clsOff a c t (BitVec.ofNat 32 r.val)) S1x1x1x16.size (clsOff_inb ha hc t r)).toLoadRect (View.loadsAt_vmem h_S1x1x1x16))
    fun (v : Vec F S1x1x1x16 .f32) =>
      .ret (select (cmpf .ogt (shapeCast S16 v shapeCasts_S1x1x1x16_S16 : FVec F S16 .f32) s.1) (shapeCast S16 v shapeCasts_S1x1x1x16_S16) s.1,
        select (cmpf .ogt (shapeCast S16 v shapeCasts_S1x1x1x16_S16 : FVec F S16 .f32) s.1)
          (muli (broadcast S16 1#32) (broadcast S16 (clsW t (BitVec.ofNat 32 r.val)))) s.2)

/-- One step of the running sum of exponentials. -/
def sumStep {a c : Nat} (ha : a < 3) (hc : c + 16 ≤ 256) (m : FVec F S16 .f32) (t : Fin ten.trips) (r : Fin 8) (s : FVec F S16 .f32) :
    TP (F := F) i (FVec F S16 .f32) :=
  .op (.load arg6 (Rect.unit (s := S1x3x85x256) (clsOff a c t (BitVec.ofNat 32 r.val)) S1x1x1x16.size (clsOff_inb ha hc t r)).toLoadRect (View.loadsAt_vmem h_S1x1x1x16))
    fun (v : Vec F S1x1x1x16 .f32) =>
      .ret (addf s (exp (subf (shapeCast S16 v shapeCasts_S1x1x1x16_S16 : FVec F S16 .f32) m)))

/-- The eight steps of a trip, in order. -/
def steps {σ : Type} (f : Fin 8 → σ → TP (F := F) i σ) (s : σ) : TP (F := F) i σ := do
  let s ← f 0 s
  let s ← f 1 s
  let s ← f 2 s
  let s ← f 3 s
  let s ← f 4 s
  let s ← f 5 s
  let s ← f 6 s
  f 7 s

/-- Row `f`, columns from `c`, of the fetched block, as sixteen lanes. -/
def row {a f c : Nat} (ha : a < 3) (hf : f < 85) (hc : c + 16 ≤ 256) : TP (F := F) i (Vec F S1x1x1x16 .f32) :=
  .op (.load arg6 (Rect.unit (s := S1x3x85x256) ![0, a, f, c] S1x1x1x16.size (xinb ha hf hc)).toLoadRect (View.loadsAt_vmem h_S1x1x1x16)) .ret

/-- Sixteen lanes into row `f` of the box scratch (the row is read first, and what is read is not used). -/
def put {f c : Nat} (hf : f < 7) (hc : c + 16 ≤ 256) (v : FVec F S16 .f32) : TP (F := F) i PUnit :=
  .op (.load arg7 (Rect.unit (s := S1x1x7x256) ![0, 0, f, c] S1x1x1x16.size (oinb hf hc)).toLoadRect (View.loadsAt_vmem h_S1x1x1x16)) fun _ =>
  .op (.store arg7 (Rect.unit (s := S1x1x7x256) ![0, 0, f, c] S1x1x1x16.size (oinb hf hc)) (shapeCast S1x1x1x16 v shapeCasts_S16_S1x1x1x16) Finset.univ (View.stores_vmem_bits_univ h_S1x1x1x16 rfl) (.inl rfl)) .ret

/-- Sixteen lanes into the flag scratch. -/
def putKeep {c : Nat} (hc : c + 16 ≤ 256) (v : FVec F S16 .f32) : TP (F := F) i PUnit :=
  .op (.load arg8 (Rect.unit (s := S1x1x256) ![0, 0, c] S1x1x16.size (kinb hc)).toLoadRect (View.loadsAt_vmem h_S1x1x16)) fun _ =>
  .op (.store arg8 (Rect.unit (s := S1x1x256) ![0, 0, c] S1x1x16.size (kinb hc)) (shapeCast S1x1x16 v shapeCasts_S16_S1x1x16) Finset.univ (View.stores_vmem_bits_univ h_S1x1x16 rfl) (.inl rfl)) .ret

/-- The logistic function as the kernel spells it. -/
abbrev sig16 (x : FVec F S16 .f32) : FVec F S16 .f32 :=
  divf (broadcast S16 (Scalar.ofBits .f32 0x3F800000#32))
    (addf (broadcast S16 (Scalar.ofBits .f32 0x3F800000#32)) (exp (subf (broadcast S16 (Scalar.ofBits .f32 0x00000000#32)) x)))
abbrev lanes (v : Vec F S1x1x1x16 .f32) : FVec F S16 .f32 := shapeCast S16 v shapeCasts_S1x1x1x16_S16
abbrev iota16 : IVec S16 32 := iota .scVector S16 32 [0] iota_S16_d0_w32_scVector
/-- The columns of the block, as words. -/
abbrev colW (j0 : BitVec 32) (c : Nat) : IVec S16 32 := addi iota16 (broadcast S16 (Scalar.addi j0 (BitVec.ofNat 32 c)))

/-- One block: anchor `a` (its box sizes `aw`, `ah`), sixteen columns from `c`. -/
def blk (th : FVec F S16 .f32) (j0 : BitVec 32) {a c : Nat} (ha : a < 3) (hc : c + 16 ≤ 256) (aw ah : BitVec 32)
    (rest : TP (F := F) i PUnit) : TP (F := F) i PUnit :=
  row i arg6 ha (f := 0) (by omega) hc >>= fun x0 =>
  row i arg6 ha (f := 1) (by omega) hc >>= fun x1 =>
  row i arg6 ha (f := 2) (by omega) hc >>= fun x2 =>
  row i arg6 ha (f := 3) (by omega) hc >>= fun x3 =>
  row i arg6 ha (f := 4) (by omega) hc >>= fun x4 =>
  Scf.Loop.for ten ten_ok ((broadcast S16 (Scalar.ofBits .f32 0xFF800000#32) : FVec F S16 .f32), (broadcast S16 0#32 : IVec S16 32))
    (fun t s => steps i (maxStep i arg6 ha hc t) s) >>= fun mi =>
  Scf.Loop.for ten ten_ok (broadcast S16 (Scalar.ofBits .f32 0x00000000#32) : FVec F S16 .f32)
    (fun t s => steps i (sumStep i arg6 ha hc mi.1 t) s) >>= fun sm =>
  put i arg7 (f := 0) (by omega) hc (mulf (addf (sig16 (lanes x0)) (sitofp .f32 (andi (colW j0 c) (broadcast S16 31#32)))) (broadcast S16 (Scalar.ofBits .f32 0x3D000000#32))) >>= fun _ =>
  put i arg7 (f := 1) (by omega) hc (mulf (addf (sig16 (lanes x1)) (sitofp .f32 (shrui (colW j0 c) (broadcast S16 5#32)))) (broadcast S16 (Scalar.ofBits .f32 0x3D000000#32))) >>= fun _ =>
  put i arg7 (f := 2) (by omega) hc (mulf (exp (lanes x2)) (broadcast S16 (Scalar.ofBits .f32 aw))) >>= fun _ =>
  put i arg7 (f := 3) (by omega) hc (mulf (exp (lanes x3)) (broadcast S16 (Scalar.ofBits .f32 ah))) >>= fun _ =>
  put i arg7 (f := 4) (by omega) hc (sig16 (lanes x4)) >>= fun _ =>
  put i arg7 (f := 5) (by omega) hc (divf (broadcast S16 (Scalar.ofBits .f32 0x3F800000#32)) sm) >>= fun _ =>
  put i arg7 (f := 6) (by omega) hc (sitofp .f32 mi.2) >>= fun _ =>
  putKeep i arg8 hc (select (cmpf .ogt (sig16 (lanes x4)) th) (broadcast S16 (Scalar.ofBits .f32 0x3F800000#32)) (broadcast S16 (Scalar.ofBits .f32 0x00000000#32))) >>= fun _ =>
  rest

theorem groupCol (v : Fin 16) : 16 * v.val + 16 ≤ 256 := by omega

/-- The sixteen groups of an anchor, in order. -/
def groups : List (Fin 16) := [0, 1, 2, 3, 4, 5, 6, 7, 8, 9, 10, 11, 12, 13, 14, 15]

/-- An anchor's blocks. -/
def anchor (th : FVec F S16 .f32) (j0 : BitVec 32) {a : Nat} (ha : a < 3) (aw ah : BitVec 32) (vs : List (Fin 16))
    (rest : TP (F := F) i PUnit) : TP (F := F) i PUnit :=
  vs.foldr (fun v p => blk i arg6 arg7 arg8 th j0 ha (groupCol v) aw ah p) rest

end Prog

/-- The number of the tile, and the first of its 256 columns, as the program computes them. -/
abbrev tileW (i : grid0.Coords) : BitVec 32 :=
  Scalar.addi (Scalar.addi (Scalar.muli (BitVec.ofNat 32 (i 1).val) 2#32) (BitVec.ofNat 32 (i 0).val)) (Scalar.muli 0#32 32#32)
abbrev four : BitVec 32 := Scalar.select (Scalar.cmpi .eq 4#32 0#32) 1#32 4#32
abbrev colStart (i : grid0.Coords) : BitVec 32 :=
  Scalar.muli (Scalar.select (Scalar.andi (Scalar.xori (Scalar.cmpi .slt (Scalar.remsi (tileW i) four) 0#32) (Scalar.cmpi .slt four 0#32))
      (Scalar.cmpi .ne (Scalar.remsi (tileW i) four) 0#32)) (Scalar.addi (Scalar.remsi (tileW i) four) four) (Scalar.remsi (tileW i) four)) 256#32

section Whole

variable (i : grid0.Coords) (arg2 : Memref sig .scVector .hbm S64x3x85x1024 .f32) (arg3 : Memref sig .scVector .hbm S16 .f32) (harg3 : arg3.IsWhole)
  (arg4 : Memref sig .scVector .hbm S8x3x7x1024 .f32) (arg5 : Memref sig .scVector .hbm S8x3x1024 .f32)
  (arg6 : Memref sig .scVector .vmem S1x3x85x256 .f32) (harg6 : arg6.IsWhole) (arg7 : Memref sig .scVector .vmem S1x1x7x256 .f32) (harg7 : arg7.IsWhole)
  (arg8 : Memref sig .scVector .vmem S1x1x256 .f32) (harg8 : arg8.IsWhole) (arg9 : Memref sig .scVector .vmem S16 .f32) (harg9 : arg9.IsWhole)

/-- The tile's boxes of one anchor, as a slice of the result. -/
abbrev boxDst (off : Fin 4 → Nat) (h : ∀ d, off d + S1x1x7x256.size d ≤ S8x3x7x1024.size d) : Memref sig .scVector .hbm S1x1x7x256 .f32 :=
  arg4.slice (Rect.unit (s := S8x3x7x1024) off S1x1x7x256.size h) (fun _ => rfl)
/-- The tile's flags of one anchor, as a slice of the result. -/
abbrev keepDst (off : Fin 3 → Nat) (h : ∀ d, off d + S1x1x256.size d ≤ S8x3x1024.size d) : Memref sig .scVector .hbm S1x1x256 .f32 :=
  arg5.slice (Rect.unit (s := S8x3x1024) off S1x1x256.size h) (fun _ => rfl)
/-- The tile's columns of its batch, as a slice of the input. -/
abbrev xSrc : Memref sig .scVector .hbm S1x3x85x256 .f32 :=
  arg2.slice (Rect.unit (s := S64x3x85x1024) (k0_off1 i) S1x3x85x256.size (k0_off1_inb i)) (fun _ => rfl)

/-- The two copies out at the end of an anchor, each waited for. -/
def flush (off : Fin 4 → Nat) (h : ∀ d, off d + S1x1x7x256.size d ≤ S8x3x7x1024.size d)
    (off' : Fin 3 → Nat) (h' : ∀ d, off' d + S1x1x256.size d ≤ S8x3x1024.size d) (r r' : DmaSems sig S_)
    (rest : TP (F := F) i PUnit) : TP (F := F) i PUnit :=
  .op (.enqueueDma arg7 (.here (boxDst arg4 off h)) (.dma r.sem) harg7.wordExact (View.wordExact_bits rfl) ⟨Or.inl rfl, trivial⟩) fun _ =>
  .op (.waitDma2 r.sem arg7 (boxDst arg4 off h) harg7.wordExact (View.wordExact_bits rfl)) fun _ =>
  .op (.enqueueDma arg8 (.here (keepDst arg5 off' h')) (.dma r'.sem) harg8.wordExact (View.wordExact_bits rfl) ⟨Or.inl rfl, trivial⟩) fun _ =>
  .op (.waitDma2 r'.sem arg8 (keepDst arg5 off' h') harg8.wordExact (View.wordExact_bits rfl)) fun _ => rest

/-- The threshold's fetch and the block's fetch, each waited for; what follows is given the threshold's sixteen lanes. -/
def fetch (r0 r1 : DmaSems sig S_) (rest : Vec F S16 .f32 → TP (F := F) i PUnit) : TP (F := F) i PUnit :=
  .op (.enqueueDma arg3 (.here arg9) (.dma r0.sem) harg3.wordExact harg9.wordExact ⟨Or.inl rfl, trivial⟩) fun _ =>
  .op (.waitDma2 r0.sem arg3 arg9 harg3.wordExact harg9.wordExact) fun _ =>
  .op (.load arg9 (Rect.unit (s := S16) ![0] S16.size inb_S16_S16_0).toLoadRect (View.loadsAt_vmem h_S16)) fun (v : Vec F S16 .f32) =>
  .op (.enqueueDma (xSrc i arg2) (.here arg6) (.dma r1.sem) (View.wordExact_bits rfl) harg6.wordExact ⟨Or.inl rfl, trivial⟩) fun _ =>
  .op (.waitDma2 r1.sem (xSrc i arg2) arg6 (View.wordExact_bits rfl) harg6.wordExact) fun _ =>
  rest v

/-- The body: the fetches, then each anchor's sixteen blocks and its copies out. -/
def tileProg (r0 r1 r2 r3 r4 r5 r6 r7 : DmaSems sig S_) : TP (F := F) i PUnit :=
  fetch i arg2 arg3 harg3 arg6 harg6 arg9 harg9 r0 r1 fun v =>
  anchor i arg6 arg7 arg8 (shapeCast S16 v shapeCasts_S16_S16) (colStart i) (a := 0) (by omega) 0x3E0E0000#32 0x3DDC0000#32 groups <|
  flush i arg4 arg5 arg7 harg7 arg8 harg8 (k0_off34 i) (k0_off34_inb i) (k0_off35 i) (k0_off35_inb i) r2 r3 <|
  anchor i arg6 arg7 arg8 (shapeCast S16 v shapeCasts_S16_S16) (colStart i) (a := 1) (by omega) 0x3E400000#32 0x3E730000#32 groups <|
  flush i arg4 arg5 arg7 harg7 arg8 harg8 (k0_off68 i) (k0_off68_inb i) (k0_off69 i) (k0_off69_inb i) r4 r5 <|
  anchor i arg6 arg7 arg8 (shapeCast S16 v shapeCasts_S16_S16) (colStart i) (a := 2) (by omega) 0x3EE58000#32 0x3EC88000#32 groups <|
  flush i arg4 arg5 arg7 harg7 arg8 harg8 (k0_off102 i) (k0_off102_inb i) (k0_off103 i) (k0_off103_inb i) r6 r7 <|
  .ret ⟨⟩

end Whole

end Cert.Proof.Tile

end
-- ==== Proof.TileEq.lean ====
/-
  The printed body of the SparseCore kernel is `tileProg`: one block at a time, the text of both opened by computation.
-/
module

public import proofs.«01_k».proof.Proof.TileProg

@[expose] public section

noncomputable section

namespace Cert.Proof.Tile

open Cert.KernelIdeal
open Cert.KernelIdeal.Facts₀ Cert.KernelIdeal.Facts
open Idealize.ShloMosaic Idealize.SL.Sem

variable {F : FTy → Type} [FloatOps F]

theorem fetch_congr {i arg2 arg3 harg3 arg6 harg6 arg9 harg9 r0 r1} {p q : Vec F S16 .f32 → TP (F := F) i PUnit} (h : ∀ v, q v = p v) :
    fetch i arg2 arg3 harg3 arg6 harg6 arg9 harg9 r0 r1 q = fetch i arg2 arg3 harg3 arg6 harg6 arg9 harg9 r0 r1 p := by
  rw [funext h]

section Steps
universe v
variable {E : Type → Type v} {α β γ σ : Type}

/-- Two programs that begin with the same operation. -/
theorem op_step {e : E β} {k k' : β → Prog E α} (h : ∀ x, k x = k' x) : Prog.op e k = Prog.op e k' := by rw [funext h]
/-- Two programs that begin with a loop of the same text. -/
theorem for_step {lb ub st : BitVec 32} {hok : Scf.OK lb ub st} {init : σ} {body body' : Fin (Scf.trips lb ub st) → σ → Prog E σ}
    {k k' : σ → Prog E α} (hb : ∀ t s, body t s = body' t s) (h : ∀ x, k x = k' x) :
    Prog.bind (Scf.for lb ub st hok init body) k = Prog.bind (Scf.for lb ub st hok init body') k' := by
  rw [show body = body' from funext fun t => funext (hb t), funext h]
/-- Sequencing associates. -/
theorem assoc_step {L : Prog E α} {p : Prog E γ} {f : γ → Prog E β} {g : β → Prog E α}
    (h : L = Prog.bind p fun a => Prog.bind (f a) g) : L = Prog.bind (Prog.bind p f) g :=
  h.trans (Prog.bind_assoc p f g).symm
end Steps

set_option maxRecDepth 65536 in
set_option maxHeartbeats 40000000 in
/-- The body is `tileProg`: step by step, what either does next is read off by computation. -/
theorem body_eq (i : grid0.Coords) (arg2 harg2 arg3 harg3 arg4 harg4 arg5 harg5 arg6 harg6 arg7 harg7 arg8 harg8 arg9 harg9 r0 r1 r2 r3 r4 r5 r6 r7) :
    cc0__sc_body (F := F) i arg2 harg2 arg3 harg3 arg4 harg4 arg5 harg5 arg6 harg6 arg7 harg7 arg8 harg8 arg9 harg9 r0 r1 r2 r3 r4 r5 r6 r7
      = tileProg i arg2 arg3 harg3 arg4 arg5 arg6 harg6 arg7 harg7 arg8 harg8 arg9 harg9 r0 r1 r2 r3 r4 r5 r6 r7 := by
  symm
  unfold tileProg groups
  refine fetch_congr (F := F) fun v => ?_
  conv => { lhs; whnf }
  repeat
    conv => { rhs; whnf }
    first
    | refine op_step fun _ => ?_; conv => { lhs; whnf }
    | refine for_step (fun _ _ => rfl) fun _ => ?_; conv => { lhs; whnf }
    | refine assoc_step ?_
  rfl

end Cert.Proof.Tile

end
-- ==== Proof.Spec.lean ====
/-
  What the two kernels compute for one box, over any float type: a box is the 85 features of one cell of one anchor,
  the number of the cell (0 … 1023) and the anchor's two sizes.
-/
module

public import proofs.«01_k».proof.KernelIdeal

@[expose] public section

noncomputable section

namespace Cert.Proof.Spec

open Idealize.ShloMosaic

variable {F : FTy → Type} [FloatOps F]

abbrev c0 : F .f32 := Scalar.ofBits .f32 0x00000000#32
abbrev c1 : F .f32 := Scalar.ofBits .f32 0x3F800000#32
abbrev c32 : F .f32 := Scalar.ofBits .f32 0x3D000000#32
abbrev cNegInf : F .f32 := Scalar.ofBits .f32 0xFF800000#32

/-- The logistic function, spelt with an exponential and a quotient. -/
def logi (x : F .f32) : F .f32 := FloatOps.divf c1 (FloatOps.addf c1 (FloatOps.exp (FloatOps.subf c0 x)))

/-- The running maximum over the first `k` classes, and the first class that attains it. -/
def runMax (y : ℕ → F .f32) : ℕ → F .f32 × BitVec 32
  | 0 => (cNegInf, 0#32)
  | k + 1 => (Scalar.select (FloatOps.cmpf .ogt (y k) (runMax y k).1) (y k) (runMax y k).1,
      Scalar.select (FloatOps.cmpf .ogt (y k) (runMax y k).1) (BitVec.ofNat 32 k) (runMax y k).2)

/-- The sum over the first `k` classes of the exponentials of the distances to `m`. -/
def runSum (y : ℕ → F .f32) (m : F .f32) : ℕ → F .f32
  | 0 => c0
  | k + 1 => FloatOps.addf (runSum y m k) (FloatOps.exp (FloatOps.subf (y k) m))

/-- The seven numbers of a box: centre, sizes, objectness, confidence, class. -/
def box (aw ah : BitVec 32) (w : BitVec 32) (y : ℕ → F .f32) (f : ℕ) : F .f32 :=
  match f with
  | 0 => FloatOps.mulf (FloatOps.addf (logi (y 0)) (FloatOps.sitofp .f32 (IntOp.andi w 31#32))) c32
  | 1 => FloatOps.mulf (FloatOps.addf (logi (y 1)) (FloatOps.sitofp .f32 (IntOp.shrui .vector w 5#32))) c32
  | 2 => FloatOps.mulf (FloatOps.exp (y 2)) (Scalar.ofBits .f32 aw)
  | 3 => FloatOps.mulf (FloatOps.exp (y 3)) (Scalar.ofBits .f32 ah)
  | 4 => logi (y 4)
  | 5 => FloatOps.divf c1 (runSum (fun k => y (5 + k)) (runMax (fun k => y (5 + k)) 80).1 80)
  | _ => FloatOps.sitofp .f32 (runMax (fun k => y (5 + k)) 80).2

/-- Whether the box is kept, as a float. -/
def keep (th : F .f32) (y : ℕ → F .f32) : F .f32 := Scalar.select (FloatOps.cmpf .ogt (logi (y 4)) th) c1 c0

/-- The two sizes of an anchor. -/
def anchW : Fin 3 → BitVec 32 := ![0x3E0E0000#32, 0x3E400000#32, 0x3EE58000#32]
def anchH : Fin 3 → BitVec 32 := ![0x3DDC0000#32, 0x3E730000#32, 0x3EC88000#32]

end Cert.Proof.Spec

end
-- ==== Proof.TileWp.lean ====
/-
  One block of a tile's run: at a symbolic anchor and column offset, the sixteen columns of the box scratch come to hold
  the boxes of the sixteen cells, the flag scratch their flags.
-/
module

public import proofs.«01_k».proof.Proof.Setup
public import proofs.«01_k».proof.Proof.Spec
public import proofs.«01_k».proof.Proof.TileProg
public import Idealize.ShloMosaic.Lib.Writes
public import Idealize.ShloMosaic.Lib.Scf
public import Idealize.ShloMosaic.Lib.ValueIdx
public import Idealize.ShloMosaic.Lib.Pipeline.Value

@[expose] public section

noncomputable section

namespace Cert.Proof.Tile

open Cert.KernelIdeal
open Cert.KernelIdeal.Facts₀ Cert.KernelIdeal.Facts
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev cV (L : grid0.Coords) : Fin τ.nSC := (L 0).castLE hcore0
abbrev jV (L : grid0.Coords) : Fin τ.nSub := (L 1).castLE hsub0
abbrev VT (d : Dev nD) (L : grid0.Coords) : Thread nD τ := V d (cV L) (jV L)

variable (d : Dev nD) (i : grid0.Coords)

/-- What a tile's program comes to. -/
abbrev Wp {α : Type} (p : TP (F := F) i α) (Q : α → Pr F) : Pr F :=
  wp frame (wpE (defs₀ (F := F)) 𝒱₀ (VT d i) none) Set.univ p Q

/-- A program that leaves `R` as it is and moves a state one step on, eight times. -/
theorem wp_steps {σ : Type} (R : Pr F) (f : Fin 8 → σ → TP (F := F) i σ) (st : ℕ → σ) (k : ℕ)
    (h : ∀ r : Fin 8, R ⊢ Wp d i (f r (st (k + r.val))) fun s' => iprop(⌜s' = st (k + r.val + 1)⌝ ∗ R)) :
    R ⊢ Wp d i (steps i f (st k)) fun s' => iprop(⌜s' = st (k + 8)⌝ ∗ R) := by
  have step : ∀ (r : Fin 8) (q : σ → TP (F := F) i σ) (Q : σ → Pr F),
      (R ⊢ Wp d i (q (st (k + r.val + 1))) Q) → R ⊢ Wp d i (f r (st (k + r.val)) >>= q) Q := by
    intro r q Q hq
    unfold Wp; rw [wp_bind]
    refine (h r).trans (wp_mono _ _ _ fun s' => ?_)
    iintro ⟨%e, HR⟩
    subst e
    iapply hq; iexact HR
  unfold steps
  refine step 0 _ _ (step 1 _ _ (step 2 _ _ (step 3 _ _ (step 4 _ _ (step 5 _ _ (step 6 _ _ ?_))))))
  exact h 7

variable (arg6 : Memref sig .scVector .vmem S1x3x85x256 .f32) (arg7 : Memref sig .scVector .vmem S1x1x7x256 .f32)
  (arg8 : Memref sig .scVector .vmem S1x1x256 .f32)

/-- The fetched block, and the two scratches, held. -/
abbrev Held6 (q : PosShare TreeShare) (g : Buf (Elt F) (arg6.view.loc (VT d i))) : Pr F := arg6.view.loc (VT d i) ↦[arg6.view.set]{q} g
abbrev Held7 (g : Buf (Elt F) (arg7.view.loc (VT d i))) : Pr F := arg7.view.loc (VT d i) ↦[arg7.view.set]{fullShare} g
abbrev Held8 (g : Buf (Elt F) (arg8.view.loc (VT d i))) : Pr F := arg8.view.loc (VT d i) ↦[arg8.view.set]{fullShare} g

/-- The features of one column of the block. -/
def feat (x : S1x3x85x256.Idx → F .f32) (a : Fin 3) (c : Fin 256) (f : ℕ) : F .f32 := x (ix4 (0 : Fin 1) a (Fin.ofNat 85 f) c)

/-- Lane `l` of a group of sixteen columns. -/
abbrev laneCol {c : ℕ} (hc : c + 16 ≤ 256) (l : S16.Idx) : Fin 256 := ⟨c + (l 0).val, by have : (l 0).val < 16 := (l 0).isLt; omega⟩

theorem lanes_read (g : Buf (Elt F) (arg6.view.loc (VT d i))) {a f c : ℕ} (ha : a < 3) (hf : f < 85) (hc : c + 16 ≤ 256)
    (off : Fin 4 → ℕ) (ho : off = ![0, a, f, c]) (h : ∀ x, off x + S1x1x1x16.size x ≤ S1x3x85x256.size x) (l : S16.Idx) :
    lanes (F := F) (arg6.view.readAt (Elt F) (Rect.unit (s := S1x3x85x256) off S1x1x1x16.size h).toLoadRect g) l
      = feat (arg6.view.read (Elt F) g) ⟨a, ha⟩ (laneCol hc l) f := by
  subst ho
  unfold lanes feat
  refine (shapeCast_apply (s := S1x1x1x16) (t := S16) _ _ l (ix4 (0 : Fin 1) (0 : Fin 1) (0 : Fin 1) (l 0)) ?_).trans ?_
  · rw [Shape.rowMajor_val_four, Shape.rowMajor_val_one]; simp
  rw [View.readAt_apply]
  congr 1
  funext x
  apply Fin.ext
  match x with
  | ⟨0, _⟩ => simp [LoadRect.idx, Rect.unit]
  | ⟨1, _⟩ => simp [LoadRect.idx, Rect.unit]
  | ⟨2, _⟩ => simp [LoadRect.idx, Rect.unit]; omega
  | ⟨3, _⟩ => simp [LoadRect.idx, Rect.unit]

/-- The class features of a column. -/
abbrev cls (x : S1x3x85x256.Idx → F .f32) (a : Fin 3) (c : Fin 256) (k : ℕ) : F .f32 := feat x a c (5 + k)

/-- The state of the maximum's loop after `k` classes. -/
def maxSt (x : S1x3x85x256.Idx → F .f32) (a : Fin 3) {c : ℕ} (hc : c + 16 ≤ 256) (k : ℕ) : FVec F S16 .f32 × IVec S16 32 :=
  (fun l => (Spec.runMax (cls x a (laneCol hc l)) k).1, fun l => (Spec.runMax (cls x a (laneCol hc l)) k).2)
/-- The state of the sum's loop after `k` classes. -/
def sumSt (x : S1x3x85x256.Idx → F .f32) (a : Fin 3) {c : ℕ} (hc : c + 16 ≤ 256) (k : ℕ) : FVec F S16 .f32 :=
  fun l => Spec.runSum (cls x a (laneCol hc l)) (Spec.runMax (cls x a (laneCol hc l)) 80).1 k

theorem clsW_val (t : Fin ten.trips) (r : Fin 8) :
    IntOp.muli 1#32 (clsW t (BitVec.ofNat 32 r.val)) = BitVec.ofNat 32 (t.val * 8 + r.val) := by
  revert t r; decide

theorem wp_maxStep (q : PosShare TreeShare) (g : Buf (Elt F) (arg6.view.loc (VT d i))) {a c : ℕ} (ha : a < 3) (hc : c + 16 ≤ 256)
    (t : Fin ten.trips) (r : Fin 8) :
    Held6 d i arg6 q g ⊢ Wp d i (maxStep i arg6 ha hc t r (maxSt (arg6.view.read (Elt F) g) ⟨a, ha⟩ hc (t.val * 8 + r.val)))
      fun s' => iprop(⌜s' = maxSt (arg6.view.read (Elt F) g) ⟨a, ha⟩ hc (t.val * 8 + r.val + 1)⌝ ∗ Held6 d i arg6 q g) := by
  have ht : t.val < 10 := ten_trips ▸ t.isLt
  have hr := r.isLt
  unfold maxStep
  iintro H
  iapply (wp_load 𝒱₀ (VT d i) none Set.univ (arg6.view.setOn_subset_set _)) $$ H
  iintro H
  rw [wp_ret]
  imodintro
  isplitr [H]
  · ipureintro
    unfold maxSt
    have hl := fun l => lanes_read d i arg6 g ha (f := 5 + (t.val * 8 + r.val)) (by omega) hc _ (by unfold clsOff; rw [clsRow]) (clsOff_inb ha hc t r) l
    refine Prod.ext (funext fun l => ?_) (funext fun l => ?_)
    · exact congrArg (fun z : F .f32 => Scalar.select (FloatOps.cmpf .ogt z (Spec.runMax (cls (arg6.view.read (Elt F) g) ⟨a, ha⟩ (laneCol hc l)) (t.val * 8 + r.val)).1) z
        (Spec.runMax (cls (arg6.view.read (Elt F) g) ⟨a, ha⟩ (laneCol hc l)) (t.val * 8 + r.val)).1) (hl l)
    · refine (congrArg (fun z : F .f32 => Scalar.select (FloatOps.cmpf .ogt z (Spec.runMax (cls (arg6.view.read (Elt F) g) ⟨a, ha⟩ (laneCol hc l)) (t.val * 8 + r.val)).1)
        (IntOp.muli 1#32 (clsW t (BitVec.ofNat 32 r.val)))
        (Spec.runMax (cls (arg6.view.read (Elt F) g) ⟨a, ha⟩ (laneCol hc l)) (t.val * 8 + r.val)).2) (hl l)).trans ?_
      rw [clsW_val]; rfl
  · iexact H

theorem wp_sumStep (q : PosShare TreeShare) (g : Buf (Elt F) (arg6.view.loc (VT d i))) {a c : ℕ} (ha : a < 3) (hc : c + 16 ≤ 256)
    (t : Fin ten.trips) (r : Fin 8) :
    Held6 d i arg6 q g ⊢ Wp d i (sumStep i arg6 ha hc (maxSt (arg6.view.read (Elt F) g) ⟨a, ha⟩ hc 80).1 t r (sumSt (arg6.view.read (Elt F) g) ⟨a, ha⟩ hc (t.val * 8 + r.val)))
      fun s' => iprop(⌜s' = sumSt (arg6.view.read (Elt F) g) ⟨a, ha⟩ hc (t.val * 8 + r.val + 1)⌝ ∗ Held6 d i arg6 q g) := by
  have ht : t.val < 10 := ten_trips ▸ t.isLt
  have hr := r.isLt
  unfold sumStep
  iintro H
  iapply (wp_load 𝒱₀ (VT d i) none Set.univ (arg6.view.setOn_subset_set _)) $$ H
  iintro H
  rw [wp_ret]
  imodintro
  isplitr [H]
  · ipureintro
    have hl := fun l => lanes_read d i arg6 g ha (f := 5 + (t.val * 8 + r.val)) (by omega) hc _ (by unfold clsOff; rw [clsRow]) (clsOff_inb ha hc t r) l
    funext l
    exact congrArg (fun z : F .f32 => FloatOps.addf (Spec.runSum (cls (arg6.view.read (Elt F) g) ⟨a, ha⟩ (laneCol hc l)) (Spec.runMax (cls (arg6.view.read (Elt F) g) ⟨a, ha⟩ (laneCol hc l)) 80).1 (t.val * 8 + r.val))
      (FloatOps.exp (FloatOps.subf z (Spec.runMax (cls (arg6.view.read (Elt F) g) ⟨a, ha⟩ (laneCol hc l)) 80).1))) (hl l)
  · iexact H

/-- A loop of ten trips of eight steps: from the state at zero classes to the state at eighty. -/
theorem wp_ten {σ : Type} (R : Pr F) (f : Fin ten.trips → Fin 8 → σ → TP (F := F) i σ) (st : ℕ → σ)
    (h : ∀ (t : Fin ten.trips) (r : Fin 8), R ⊢ Wp d i (f t r (st (t.val * 8 + r.val))) fun s' => iprop(⌜s' = st (t.val * 8 + r.val + 1)⌝ ∗ R))
    {β : Type} (kk : σ → TP (F := F) i β) (Q : β → Pr F) (s₀ : σ) (hs : s₀ = st 0) :
    R ⊢ iprop((R -∗ Wp d i (kk (st 80)) Q) -∗ Wp d i (Scf.Loop.for ten ten_ok s₀ (fun t s => steps i (f t) s) >>= kk) Q) := by
  subst hs
  have hb : ∀ (t : Fin ten.trips) (s : σ), iprop(⌜s = st (t.val * 8)⌝ ∗ R)
      ⊢ Wp d i (steps i (f t) s) fun s' => iprop(⌜s' = st ((t.val + 1) * 8)⌝ ∗ R) := by
    intro t s
    iintro ⟨%e, HR⟩
    subst e
    rw [Nat.add_mul, Nat.one_mul]
    iapply (wp_steps d i R (f t) st (t.val * 8) (h t)); iexact HR
  iintro HR HK
  iapply (Scf.wp_for_bind _ _ _ ten.lb ten.ub ten.st ten_ok (st 0) (fun t s => steps i (f t) s) (fun t s => iprop(⌜s = st (t * 8)⌝ ∗ R)) hb) $$ [HR]
  · isplitr [HR]
    · ipureintro; rfl
    · iexact HR
  · iintro %acc ⟨%e, HR⟩
    subst e
    iapply HK; iexact HR

/-- The scratch of box rows, and of flags, by row and column. -/
abbrev rows (g : Buf (Elt F) (arg7.view.loc (VT d i))) (f : Fin 7) (c : Fin 256) : F .f32 := arg7.view.read (Elt F) g (ix4 (0 : Fin 1) (0 : Fin 1) f c)
abbrev flags (g : Buf (Elt F) (arg8.view.loc (VT d i))) (c : Fin 256) : F .f32 := arg8.view.read (Elt F) g (ix3 (0 : Fin 1) (0 : Fin 1) c)

/-- Sixteen lanes put into row `f` from column `c`. -/
structure PutRow (g g' : Buf (Elt F) (arg7.view.loc (VT d i))) (f : Fin 7) {c : ℕ} (hc : c + 16 ≤ 256) (v : FVec F S16 .f32) : Prop where
  hit : ∀ l : S16.Idx, rows d i arg7 g' f (laneCol hc l) = v l
  miss : ∀ (f' : Fin 7) (col : Fin 256), f' ≠ f ∨ col.val < c ∨ c + 16 ≤ col.val → rows d i arg7 g' f' col = rows d i arg7 g f' col

theorem wp_row (q : PosShare TreeShare) (g : Buf (Elt F) (arg6.view.loc (VT d i))) {a f c : ℕ} (ha : a < 3) (hf : f < 85) (hc : c + 16 ≤ 256)
    {β : Type} (kk : Vec F S1x1x1x16 .f32 → TP (F := F) i β) (Q : β → Pr F) :
    Held6 d i arg6 q g ⊢ iprop((∀ v, ⌜lanes v = fun l => feat (arg6.view.read (Elt F) g) ⟨a, ha⟩ (laneCol hc l) f⌝ -∗ Held6 d i arg6 q g -∗ Wp d i (kk v) Q)
      -∗ Wp d i (row i arg6 ha hf hc >>= kk) Q) := by
  unfold Wp
  rw [wp_bind]
  iintro H HK
  unfold row
  iapply (wp_load 𝒱₀ (VT d i) none Set.univ (arg6.view.setOn_subset_set _)) $$ H
  iintro H
  rw [wp_ret]
  imodintro
  iapply HK $$ [] [H]
  · ipureintro
    funext l
    exact lanes_read d i arg6 g ha hf hc _ rfl (xinb ha hf hc) l
  · iexact H

theorem wp_put (g : Buf (Elt F) (arg7.view.loc (VT d i))) {f c : ℕ} (hf : f < 7) (hc : c + 16 ≤ 256) (v : FVec F S16 .f32)
    {β : Type} (kk : PUnit → TP (F := F) i β) (Q : β → Pr F) :
    Held7 d i arg7 g ⊢ iprop((∀ g', ⌜PutRow d i arg7 g g' ⟨f, hf⟩ hc v⌝ -∗ Held7 d i arg7 g' -∗ Wp d i (kk ⟨⟩) Q)
      -∗ Wp d i (put i arg7 hf hc v >>= kk) Q) := by
  unfold Wp
  rw [wp_bind]
  iintro H HK
  unfold put
  iapply (wp_load 𝒱₀ (VT d i) none Set.univ (arg7.view.setOn_subset_set _)) $$ H
  iintro H
  iapply (wp_store_writes₀ 𝒱₀ (VT d i) none Set.univ (Memref.setOn_access_subset _ _ _)) $$ H
  iintro H
  rw [wp_ret]
  imodintro
  iapply HK $$ [] [H]
  · ipureintro
    constructor
    · intro l
      refine (View.read_writes_cons_hit_of_coords arg7.view g (Rect.unit (s := S1x1x7x256) ![0, 0, f, c] S1x1x1x16.size (oinb hf hc)) (shapeCast S1x1x1x16 v shapeCasts_S16_S1x1x1x16) []
          (ix4 (0 : Fin 1) (0 : Fin 1) (0 : Fin 1) (l 0)) (ix4 (0 : Fin 1) (0 : Fin 1) (⟨f, hf⟩ : Fin 7) (laneCol hc l)) ?_).trans ?_
      · intro a
        match a with
        | ⟨0, _⟩ => simp [Rect.unit]
        | ⟨1, _⟩ => simp [Rect.unit]
        | ⟨2, _⟩ => simp [Rect.unit]
        | ⟨3, _⟩ => simp [Rect.unit]
      · refine (shapeCast_apply (s := S16) (t := S1x1x1x16) _ _ _ l ?_)
        rw [Shape.rowMajor_val_four, Shape.rowMajor_val_one]; simp
    · intro f' col h
      rcases h with h | h
      · refine (View.read_writes_cons_miss_of_axis arg7.view g ⟨Rect.unit (s := S1x1x7x256) ![0, 0, f, c] S1x1x1x16.size (oinb hf hc), shapeCast S1x1x1x16 v shapeCasts_S16_S1x1x1x16⟩ []
          (ix4 (0 : Fin 1) (0 : Fin 1) f' col) (2 : Fin 4) f 1 rfl rfl rfl ?_)
        have h1 : f'.val ≠ f := fun e => h (Fin.ext e)
        show f'.val < f ∨ f + 1 ≤ f'.val
        omega
      · exact (View.read_writes_cons_miss_of_axis arg7.view g ⟨Rect.unit (s := S1x1x7x256) ![0, 0, f, c] S1x1x1x16.size (oinb hf hc), shapeCast S1x1x1x16 v shapeCasts_S16_S1x1x1x16⟩ []
          (ix4 (0 : Fin 1) (0 : Fin 1) f' col) (3 : Fin 4) c 16 rfl rfl rfl h)
  · iexact H

/-- Sixteen lanes put among the flags from column `c`. -/
structure PutFlag (g g' : Buf (Elt F) (arg8.view.loc (VT d i))) {c : ℕ} (hc : c + 16 ≤ 256) (v : FVec F S16 .f32) : Prop where
  hit : ∀ l : S16.Idx, flags d i arg8 g' (laneCol hc l) = v l
  miss : ∀ (col : Fin 256), col.val < c ∨ c + 16 ≤ col.val → flags d i arg8 g' col = flags d i arg8 g col

theorem wp_putKeep (g : Buf (Elt F) (arg8.view.loc (VT d i))) {c : ℕ} (hc : c + 16 ≤ 256) (v : FVec F S16 .f32)
    {β : Type} (kk : PUnit → TP (F := F) i β) (Q : β → Pr F) :
    Held8 d i arg8 g ⊢ iprop((∀ g', ⌜PutFlag d i arg8 g g' hc v⌝ -∗ Held8 d i arg8 g' -∗ Wp d i (kk ⟨⟩) Q)
      -∗ Wp d i (putKeep i arg8 hc v >>= kk) Q) := by
  unfold Wp
  rw [wp_bind]
  iintro H HK
  unfold putKeep
  iapply (wp_load 𝒱₀ (VT d i) none Set.univ (arg8.view.setOn_subset_set _)) $$ H
  iintro H
  iapply (wp_store_writes₀ 𝒱₀ (VT d i) none Set.univ (Memref.setOn_access_subset _ _ _)) $$ H
  iintro H
  rw [wp_ret]
  imodintro
  iapply HK $$ [] [H]
  · ipureintro
    constructor
    · intro l
      refine (View.read_writes_cons_hit_of_coords arg8.view g (Rect.unit (s := S1x1x256) ![0, 0, c] S1x1x16.size (kinb hc)) (shapeCast S1x1x16 v shapeCasts_S16_S1x1x16) []
          (ix3 (0 : Fin 1) (0 : Fin 1) (l 0)) (ix3 (0 : Fin 1) (0 : Fin 1) (laneCol hc l)) ?_).trans ?_
      · intro a
        match a with
        | ⟨0, _⟩ => simp [Rect.unit]
        | ⟨1, _⟩ => simp [Rect.unit]
        | ⟨2, _⟩ => simp [Rect.unit]
      · refine (shapeCast_apply (s := S16) (t := S1x1x16) _ _ _ l ?_)
        rw [Shape.rowMajor_val_three, Shape.rowMajor_val_one]; simp
    · intro col h
      exact (View.read_writes_cons_miss_of_axis arg8.view g ⟨Rect.unit (s := S1x1x256) ![0, 0, c] S1x1x16.size (kinb hc), shapeCast S1x1x16 v shapeCasts_S16_S1x1x16⟩ []
          (ix3 (0 : Fin 1) (0 : Fin 1) col) (2 : Fin 3) c 16 rfl rfl rfl h)
  · iexact H

/-- The number of a column, as a word: column `c` of a tile that starts at `j0`. -/
abbrev colWord (j0 : BitVec 32) (c : Fin 256) : BitVec 32 := j0 + BitVec.ofNat 32 c.val

theorem colW_lane (j0 : BitVec 32) {c : ℕ} (hc : c + 16 ≤ 256) (l : S16.Idx) : colW j0 c l = colWord j0 (laneCol hc l) := by
  show BitVec.ofNat 32 (0 * 16 + (l 0).val) + (j0 + BitVec.ofNat 32 c) = j0 + BitVec.ofNat 32 (c + (l 0).val)
  rw [Nat.zero_mul, Nat.zero_add, BitVec.ofNat_add]
  ac_rfl

/-- The first `n` columns of the scratches hold the boxes, and the flags, of the anchor. -/
def RowsDone (x : S1x3x85x256.Idx → F .f32) (j0 : BitVec 32) (a : Fin 3) (aw ah : BitVec 32) (n : ℕ) (g : Buf (Elt F) (arg7.view.loc (VT d i))) : Prop :=
  ∀ (f : Fin 7) (c : Fin 256), c.val < n → rows d i arg7 g f c = Spec.box aw ah (colWord j0 c) (feat x a c) f.val
def FlagsDone (x : S1x3x85x256.Idx → F .f32) (th : F .f32) (a : Fin 3) (n : ℕ) (g : Buf (Elt F) (arg8.view.loc (VT d i))) : Prop :=
  ∀ c : Fin 256, c.val < n → flags d i arg8 g c = Spec.keep th (feat x a c)

theorem wp_blk (q : PosShare TreeShare) (g6 : Buf (Elt F) (arg6.view.loc (VT d i))) (g7 : Buf (Elt F) (arg7.view.loc (VT d i)))
    (g8 : Buf (Elt F) (arg8.view.loc (VT d i))) (th : F .f32) (th16 : FVec F S16 .f32) (hth : th16 = fun _ => th) (j0 : BitVec 32) {a c : ℕ} (ha : a < 3) (hc : c + 16 ≤ 256) (aw ah : BitVec 32)
    (h7 : RowsDone d i arg7 (arg6.view.read (Elt F) g6) j0 ⟨a, ha⟩ aw ah c g7)
    (h8 : FlagsDone d i arg8 (arg6.view.read (Elt F) g6) th ⟨a, ha⟩ c g8)
    (rest : TP (F := F) i PUnit) (Q : PUnit → Pr F) :
    iprop(Held6 d i arg6 q g6 ∗ Held7 d i arg7 g7 ∗ Held8 d i arg8 g8)
      ⊢ iprop((∀ g7' g8', ⌜RowsDone d i arg7 (arg6.view.read (Elt F) g6) j0 ⟨a, ha⟩ aw ah (c + 16) g7'
            ∧ FlagsDone d i arg8 (arg6.view.read (Elt F) g6) th ⟨a, ha⟩ (c + 16) g8'⌝
          -∗ Held6 d i arg6 q g6 -∗ Held7 d i arg7 g7' -∗ Held8 d i arg8 g8' -∗ Wp d i rest Q)
        -∗ Wp d i (blk i arg6 arg7 arg8 th16 j0 ha hc aw ah rest) Q) := by
  subst hth
  iintro ⟨H6, H7, H8⟩ HK
  unfold blk
  iapply (wp_row d i arg6 q g6 ha _ hc _ Q) $$ H6
  iintro %x0 %e0 H6
  iapply (wp_row d i arg6 q g6 ha _ hc _ Q) $$ H6
  iintro %x1 %e1 H6
  iapply (wp_row d i arg6 q g6 ha _ hc _ Q) $$ H6
  iintro %x2 %e2 H6
  iapply (wp_row d i arg6 q g6 ha _ hc _ Q) $$ H6
  iintro %x3 %e3 H6
  iapply (wp_row d i arg6 q g6 ha _ hc _ Q) $$ H6
  iintro %x4 %e4 H6
  iapply (wp_ten d i (Held6 d i arg6 q g6) (maxStep i arg6 ha hc) (maxSt (arg6.view.read (Elt F) g6) ⟨a, ha⟩ hc)
    (wp_maxStep d i arg6 q g6 ha hc) _ Q _ rfl) $$ H6
  iintro H6
  iapply (wp_ten d i (Held6 d i arg6 q g6) (sumStep i arg6 ha hc _) (sumSt (arg6.view.read (Elt F) g6) ⟨a, ha⟩ hc)
    (wp_sumStep d i arg6 q g6 ha hc) _ Q _ rfl) $$ H6
  iintro H6
  iapply (wp_put d i arg7 g7 (f := 0) _ hc _ _ Q) $$ H7
  iintro %p0 %u0 H7
  iapply (wp_put d i arg7 p0 (f := 1) _ hc _ _ Q) $$ H7
  iintro %p1 %u1 H7
  iapply (wp_put d i arg7 p1 (f := 2) _ hc _ _ Q) $$ H7
  iintro %p2 %u2 H7
  iapply (wp_put d i arg7 p2 (f := 3) _ hc _ _ Q) $$ H7
  iintro %p3 %u3 H7
  iapply (wp_put d i arg7 p3 (f := 4) _ hc _ _ Q) $$ H7
  iintro %p4 %u4 H7
  iapply (wp_put d i arg7 p4 (f := 5) _ hc _ _ Q) $$ H7
  iintro %p5 %u5 H7
  iapply (wp_put d i arg7 p5 (f := 6) _ hc _ _ Q) $$ H7
  iintro %p6 %u6 H7
  iapply (wp_putKeep d i arg8 g8 hc _ _ Q) $$ H8
  iintro %p8 %u8 H8
  iapply HK $$ [] H6 H7 H8
  ipureintro
  have split : ∀ col : Fin 256, col.val < c + 16 → col.val < c ∨ ∃ l : S16.Idx, col = laneCol hc l := by
    intro col h
    by_cases hlt : col.val < c
    · exact .inl hlt
    · refine .inr ⟨ix1 (⟨col.val - c, by omega⟩ : Fin 16), Fin.ext ?_⟩
      show col.val = c + (col.val - c)
      omega
  constructor
  · intro f col hcol
    rcases split col hcol with hlt | ⟨l, rfl⟩
    · rw [u6.miss f col (.inr (.inl hlt)), u5.miss f col (.inr (.inl hlt)), u4.miss f col (.inr (.inl hlt)), u3.miss f col (.inr (.inl hlt)),
        u2.miss f col (.inr (.inl hlt)), u1.miss f col (.inr (.inl hlt)), u0.miss f col (.inr (.inl hlt))]
      exact h7 f col hlt
    · have c0 := congrFun e0 l
      have c1 := congrFun e1 l
      have c2 := congrFun e2 l
      have c3 := congrFun e3 l
      have c4 := congrFun e4 l
      have cw := colW_lane j0 hc l
      match f with
      | ⟨0, _⟩ =>
        rw [u6.miss _ _ (.inl (by simp)), u5.miss _ _ (.inl (by simp)), u4.miss _ _ (.inl (by simp)), u3.miss _ _ (.inl (by simp)),
          u2.miss _ _ (.inl (by simp)), u1.miss _ _ (.inl (by simp))]
        refine (u0.hit l).trans ?_
        simp only [Spec.box, Spec.logi, ← c0, ← cw]; rfl
      | ⟨1, _⟩ =>
        rw [u6.miss _ _ (.inl (by simp)), u5.miss _ _ (.inl (by simp)), u4.miss _ _ (.inl (by simp)), u3.miss _ _ (.inl (by simp)),
          u2.miss _ _ (.inl (by simp))]
        refine (u1.hit l).trans ?_
        simp only [Spec.box, Spec.logi, ← c1, ← cw]; rfl
      | ⟨2, _⟩ =>
        rw [u6.miss _ _ (.inl (by simp)), u5.miss _ _ (.inl (by simp)), u4.miss _ _ (.inl (by simp)), u3.miss _ _ (.inl (by simp))]
        refine (u2.hit l).trans ?_
        simp only [Spec.box, Spec.logi, ← c2]; rfl
      | ⟨3, _⟩ =>
        rw [u6.miss _ _ (.inl (by simp)), u5.miss _ _ (.inl (by simp)), u4.miss _ _ (.inl (by simp))]
        refine (u3.hit l).trans ?_
        simp only [Spec.box, Spec.logi, ← c3]; rfl
      | ⟨4, _⟩ =>
        rw [u6.miss _ _ (.inl (by simp)), u5.miss _ _ (.inl (by simp))]
        refine (u4.hit l).trans ?_
        simp only [Spec.box, Spec.logi, ← c4]; rfl
      | ⟨5, _⟩ =>
        rw [u6.miss _ _ (.inl (by simp))]
        exact u5.hit l
      | ⟨6, _⟩ => exact u6.hit l
  · intro col hcol
    rcases split col hcol with hlt | ⟨l, rfl⟩
    · rw [u8.miss col (.inl hlt)]
      exact h8 col hlt
    · refine (u8.hit l).trans ?_
      have c4 := congrFun e4 l
      simp only [Spec.keep, Spec.logi, ← c4]; rfl

/-- An anchor's blocks: from nothing done to every column done. -/
theorem wp_anchor (q : PosShare TreeShare) (g6 : Buf (Elt F) (arg6.view.loc (VT d i)))
    (th : F .f32) (th16 : FVec F S16 .f32) (hth : th16 = fun _ => th) (j0 : BitVec 32) {a : ℕ} (ha : a < 3) (aw ah : BitVec 32)
    (rest : TP (F := F) i PUnit) (Q : PUnit → Pr F) (g7 : Buf (Elt F) (arg7.view.loc (VT d i))) (g8 : Buf (Elt F) (arg8.view.loc (VT d i))) :
    iprop(Held6 d i arg6 q g6 ∗ Held7 d i arg7 g7 ∗ Held8 d i arg8 g8)
      ⊢ iprop((∀ g7' g8', ⌜RowsDone d i arg7 (arg6.view.read (Elt F) g6) j0 ⟨a, ha⟩ aw ah 256 g7'
            ∧ FlagsDone d i arg8 (arg6.view.read (Elt F) g6) th ⟨a, ha⟩ 256 g8'⌝
          -∗ Held6 d i arg6 q g6 -∗ Held7 d i arg7 g7' -∗ Held8 d i arg8 g8' -∗ Wp d i rest Q)
        -∗ Wp d i (anchor i arg6 arg7 arg8 th16 j0 ha aw ah groups rest) Q) := by
  have main : ∀ (n k : ℕ), k + n = 16 → ∀ (g7 : Buf (Elt F) (arg7.view.loc (VT d i))) (g8 : Buf (Elt F) (arg8.view.loc (VT d i))),
      RowsDone d i arg7 (arg6.view.read (Elt F) g6) j0 ⟨a, ha⟩ aw ah (16 * k) g7 →
      FlagsDone d i arg8 (arg6.view.read (Elt F) g6) th ⟨a, ha⟩ (16 * k) g8 →
      iprop(Held6 d i arg6 q g6 ∗ Held7 d i arg7 g7 ∗ Held8 d i arg8 g8)
      ⊢ iprop((∀ g7' g8', ⌜RowsDone d i arg7 (arg6.view.read (Elt F) g6) j0 ⟨a, ha⟩ aw ah 256 g7'
            ∧ FlagsDone d i arg8 (arg6.view.read (Elt F) g6) th ⟨a, ha⟩ 256 g8'⌝
          -∗ Held6 d i arg6 q g6 -∗ Held7 d i arg7 g7' -∗ Held8 d i arg8 g8' -∗ Wp d i rest Q)
        -∗ Wp d i (anchor i arg6 arg7 arg8 th16 j0 ha aw ah ((List.finRange 16).drop k) rest) Q) := by
    intro n
    induction n with
    | zero =>
      intro k hk g7 g8 h7 h8
      obtain rfl : k = 16 := by omega
      rw [List.drop_of_length_le (by simp)]
      iintro ⟨H6, H7, H8⟩ HK
      unfold anchor
      rw [List.foldr_nil]
      iapply HK $$ [] H6 H7 H8
      ipureintro; exact ⟨h7, h8⟩
    | succ n ih =>
      intro k hk g7 g8 h7 h8
      have hlt : k < (List.finRange 16).length := by simp; omega
      rw [List.drop_eq_getElem_cons hlt, List.getElem_finRange]
      iintro ⟨H6, H7, H8⟩ HK
      unfold anchor
      rw [List.foldr_cons]
      iapply (wp_blk d i arg6 arg7 arg8 q g6 g7 g8 th th16 hth j0 ha _ aw ah h7 h8 _ Q) $$ [H6 H7 H8]
      · isplitl [H6]
        · iexact H6
        isplitl [H7] <;> iassumption
      iintro %g7' %g8' %h H6 H7 H8
      iapply (ih (k + 1) (by omega) g7' g8' (by have := h.1; exact this) (by have := h.2; exact this)) $$ [H6 H7 H8]
      · isplitl [H6]
        · iexact H6
        isplitl [H7] <;> iassumption
      iexact HK
  rw [show groups = (List.finRange 16).drop 0 by decide]
  exact main 16 0 rfl g7 g8 (fun _ _ h => absurd h (by omega)) (fun _ h => absurd h (by omega))

end Cert.Proof.Tile

end
-- ==== Proof.TileRun.lean ====
/-
  A tile's whole run: the two fetches, then per anchor its blocks and its two copies out. The tile's part of the two
  results comes to hold the boxes, and the flags, of its columns.
-/
module

public import proofs.«01_k».proof.Proof.TileWp
public import Idealize.ShloMosaic.Lib.Transfers

@[expose] public section

noncomputable section

namespace Cert.Proof.Tile

open Cert.KernelIdeal
open Cert.KernelIdeal.Facts₀ Cert.KernelIdeal.Facts
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Which tile does what -/

/-- The tile's number: its batch (of the last eight) is its quotient by four, its columns its remainder's 256. -/
abbrev wid (i : grid0.Coords) : ℕ := (i 1).val * 2 + (i 0).val

theorem wid_lt (i : grid0.Coords) : wid i < 32 := by
  have h0 : (i 0).val < 2 := (i 0).isLt
  have h1 : (i 1).val < 16 := (i 1).isLt
  show (i 1).val * 2 + (i 0).val < 32
  omega

/-- The coordinates of a tile, from its SparseCore and its subcore. -/
def coordsV (c : Fin (grid0.bound 0)) (s : Fin (grid0.bound 1)) : grid0.Coords :=
  fun | 0 => c | 1 => s | ⟨_ + 2, h⟩ => absurd h (Nat.not_lt.2 (Nat.le_add_left _ _))

theorem eq_coordsV (i : grid0.Coords) : i = coordsV (i 0) (i 1) := by
  funext a; match a with | 0 => rfl | 1 => rfl

theorem off1_eq (i : grid0.Coords) : k0_off1 i = ![56 + wid i / 4, 0, 0, wid i % 4 * 256] := by
  rw [eq_coordsV i]; generalize i 0 = c; generalize i 1 = s
  revert c s; decide +kernel
theorem off34_eq (i : grid0.Coords) : k0_off34 i = ![wid i / 4, 0, 0, wid i % 4 * 256] := by
  rw [eq_coordsV i]; generalize i 0 = c; generalize i 1 = s
  revert c s; decide +kernel
theorem off35_eq (i : grid0.Coords) : k0_off35 i = ![wid i / 4, 0, wid i % 4 * 256] := by
  rw [eq_coordsV i]; generalize i 0 = c; generalize i 1 = s
  revert c s; decide +kernel
theorem off68_eq (i : grid0.Coords) : k0_off68 i = ![wid i / 4, 1, 0, wid i % 4 * 256] := by
  rw [eq_coordsV i]; generalize i 0 = c; generalize i 1 = s
  revert c s; decide +kernel
theorem off69_eq (i : grid0.Coords) : k0_off69 i = ![wid i / 4, 1, wid i % 4 * 256] := by
  rw [eq_coordsV i]; generalize i 0 = c; generalize i 1 = s
  revert c s; decide +kernel
theorem off102_eq (i : grid0.Coords) : k0_off102 i = ![wid i / 4, 2, 0, wid i % 4 * 256] := by
  rw [eq_coordsV i]; generalize i 0 = c; generalize i 1 = s
  revert c s; decide +kernel
theorem off103_eq (i : grid0.Coords) : k0_off103 i = ![wid i / 4, 2, wid i % 4 * 256] := by
  rw [eq_coordsV i]; generalize i 0 = c; generalize i 1 = s
  revert c s; decide +kernel
theorem colStart_eq (i : grid0.Coords) : colStart i = BitVec.ofNat 32 (wid i % 4 * 256) := by
  rw [eq_coordsV i]; generalize i 0 = c; generalize i 1 = s
  revert c s; decide +kernel

/-- The places of the two results that tile `w` fills. -/
def boxSet (w : ℕ) : Finset S8x3x7x1024.Idx := Finset.univ.filter fun y => (y 0).val * 4 + (y 3).val / 256 = w
def flagSet (w : ℕ) : Finset S8x3x1024.Idx := Finset.univ.filter fun y => (y 0).val * 4 + (y 2).val / 256 = w

/-! ## What the SparseCore's two results come to hold -/

/-- The features of a cell of the input: batch, anchor, column. -/
def xfeat (X : S64x3x85x1024.Idx → F .f32) (b : Fin 64) (a : Fin 3) (c : Fin 1024) (f : ℕ) : F .f32 := X (ix4 b a (Fin.ofNat 85 f) c)

/-- The batch the SparseCore's batch `b` is. -/
abbrev lateBatch (b : Fin 8) : Fin 64 := ⟨56 + b.val, by omega⟩

def boxT (X : S64x3x85x1024.Idx → F .f32) : S8x3x7x1024.Idx → F .f32 := fun y =>
  Spec.box (Spec.anchW (y 1)) (Spec.anchH (y 1)) (BitVec.ofNat 32 (y 3).val) (xfeat X (lateBatch (y 0)) (y 1) (y 3)) (y 2).val
def flagT (X : S64x3x85x1024.Idx → F .f32) (th : F .f32) : S8x3x1024.Idx → F .f32 := fun y =>
  Spec.keep th (xfeat X (lateBatch (y 0)) (y 1) (y 2))

/-! ## The buffers -/

abbrev xM : Memref sig .scVector .hbm S64x3x85x1024 .f32 := Memref.whole main_v0_scv
abbrev tM : Memref sig .scVector .hbm S16 .f32 := Memref.whole main_v2_scv
abbrev bM : Memref sig .scVector .hbm S8x3x7x1024 .f32 := Memref.whole main_v3_0_scv
abbrev kM : Memref sig .scVector .hbm S8x3x1024 .f32 := Memref.whole main_v3_1_scv
abbrev m6 : Memref sig .scVector .vmem S1x3x85x256 .f32 := Memref.whole cc0_scratch0
abbrev m7 : Memref sig .scVector .vmem S1x1x7x256 .f32 := Memref.whole cc0_scratch1
abbrev m8 : Memref sig .scVector .vmem S1x1x256 .f32 := Memref.whole cc0_scratch2
abbrev m9 : Memref sig .scVector .vmem S16 .f32 := Memref.whole cc0_scratch3

/-- The fetched block holds the tile's columns of its batch. -/
theorem fetched (i : grid0.Coords) (X : S64x3x85x1024.Idx → F .f32) (a : Fin 3) (f : Fin 85) (c : Fin 256) (hb : 56 + wid i / 4 < 64) (hj : wid i % 4 * 256 + c.val < 1024) :
    (xSrc i xM).view.read (Elt F) X (ix4 (0 : Fin 1) a f c) = X (ix4 (⟨56 + wid i / 4, hb⟩ : Fin 64) a f (⟨wid i % 4 * 256 + c.val, hj⟩ : Fin 1024)) := by
  show X ((Rect.unit (s := S64x3x85x1024) (k0_off1 i) S1x3x85x256.size (k0_off1_inb i)).emb (ix4 (0 : Fin 1) a f c)) = _
  congr 1
  refine Rect.emb_eq_of_coords _ _ _ fun x => ?_
  have h := off1_eq i
  match x with
  | ⟨0, _⟩ => show _ = k0_off1 i 0 + 1 * 0; rw [h]; rfl
  | ⟨1, _⟩ => show a.val = k0_off1 i 1 + 1 * a.val; rw [h]; simp
  | ⟨2, _⟩ => show f.val = k0_off1 i 2 + 1 * f.val; rw [h]; simp
  | ⟨3, _⟩ => show _ = k0_off1 i 3 + 1 * c.val; rw [h]; simp

/-- A copy of a box scratch into the tile's anchor `a`: the boxes there, the other places as they were. -/
theorem boxes_landed (i : grid0.Coords) (bm : Memref sig .scVector .hbm S8x3x7x1024 .f32) (B : bm.view.ty.Idx → Elt F bm.view.ty.elt) (a : Fin 3) (off : Fin 4 → ℕ) (ho : off = ![wid i / 4, a.val, 0, wid i % 4 * 256])
    (h : ∀ x, off x + S1x1x7x256.size x ≤ S8x3x7x1024.size x) (T : S8x3x7x1024.Idx → F .f32) (w : S1x1x7x256.Idx → F .f32)
    (hw : ∀ (f : Fin 7) (c : Fin 256) (y : S8x3x7x1024.Idx), (y 0).val = wid i / 4 → (y 1) = a → (y 2) = f → (y 3).val = wid i % 4 * 256 + c.val →
      w (ix4 (0 : Fin 1) (0 : Fin 1) f c) = T y)
    (y : S8x3x7x1024.Idx) (hy : y ∈ boxSet (wid i)) :
    bm.view.read (Elt F) ((boxDst bm off h).view.write (Elt F) B w Finset.univ) y = if (y 1).val = a.val then T y else bm.view.read (Elt F) B y := by
  subst ho
  have hy' : (y 0).val * 4 + (y 3).val / 256 = wid i := (Finset.mem_filter.mp hy).2
  have h3 : (y 3).val < 1024 := (y 3).isLt
  have h1 : (y 1).val < 3 := (y 1).isLt
  have h2 : (y 2).val < 7 := (y 2).isLt
  split
  · rename_i e0
    have e : y 1 = a := Fin.ext e0
    refine (View.read_writes_cons_hit_of_coords bm.view B (Rect.unit (s := S8x3x7x1024) ![wid i / 4, a.val, 0, wid i % 4 * 256] S1x1x7x256.size h) w []
      (ix4 (0 : Fin 1) (0 : Fin 1) (⟨(y 2).val, h2⟩ : Fin 7) (⟨(y 3).val % 256, by omega⟩ : Fin 256)) y ?_).trans ?_
    · intro x
      match x with
      | ⟨0, _⟩ => show (y 0).val = wid i / 4 + 1 * 0; omega
      | ⟨1, _⟩ => show (y 1).val = a.val + 1 * 0; rw [e]; omega
      | ⟨2, _⟩ => show (y 2).val = 0 + 1 * (y 2).val; omega
      | ⟨3, _⟩ => show (y 3).val = wid i % 4 * 256 + 1 * ((y 3).val % 256); omega
    · refine hw _ _ y (by omega) e rfl ?_
      show (y 3).val = wid i % 4 * 256 + ((y 3).val % 256); omega
  · rename_i e
    refine (View.read_writes_cons_miss_of_axis bm.view B ⟨Rect.unit (s := S8x3x7x1024) ![wid i / 4, a.val, 0, wid i % 4 * 256] S1x1x7x256.size h, w⟩ []
      y (1 : Fin 4) a.val 1 rfl rfl rfl ?_)
    omega

theorem flags_landed (i : grid0.Coords) (bm : Memref sig .scVector .hbm S8x3x1024 .f32) (B : bm.view.ty.Idx → Elt F bm.view.ty.elt) (a : Fin 3) (off : Fin 3 → ℕ) (ho : off = ![wid i / 4, a.val, wid i % 4 * 256])
    (h : ∀ x, off x + S1x1x256.size x ≤ S8x3x1024.size x) (T : S8x3x1024.Idx → F .f32) (w : S1x1x256.Idx → F .f32)
    (hw : ∀ (c : Fin 256) (y : S8x3x1024.Idx), (y 0).val = wid i / 4 → (y 1) = a → (y 2).val = wid i % 4 * 256 + c.val →
      w (ix3 (0 : Fin 1) (0 : Fin 1) c) = T y)
    (y : S8x3x1024.Idx) (hy : y ∈ flagSet (wid i)) :
    bm.view.read (Elt F) ((keepDst bm off h).view.write (Elt F) B w Finset.univ) y = if (y 1).val = a.val then T y else bm.view.read (Elt F) B y := by
  subst ho
  have hy' : (y 0).val * 4 + (y 2).val / 256 = wid i := (Finset.mem_filter.mp hy).2
  have h3 : (y 2).val < 1024 := (y 2).isLt
  split
  · rename_i e0
    have e : y 1 = a := Fin.ext e0
    refine (View.read_writes_cons_hit_of_coords bm.view B (Rect.unit (s := S8x3x1024) ![wid i / 4, a.val, wid i % 4 * 256] S1x1x256.size h) w []
      (ix3 (0 : Fin 1) (0 : Fin 1) (⟨(y 2).val % 256, by omega⟩ : Fin 256)) y ?_).trans ?_
    · intro x
      match x with
      | ⟨0, _⟩ => show (y 0).val = wid i / 4 + 1 * 0; omega
      | ⟨1, _⟩ => show (y 1).val = a.val + 1 * 0; rw [e]; omega
      | ⟨2, _⟩ => show (y 2).val = wid i % 4 * 256 + 1 * ((y 2).val % 256); omega
    · refine hw _ y (by omega) e ?_
      show (y 2).val = wid i % 4 * 256 + ((y 2).val % 256); omega
  · rename_i e
    refine (View.read_writes_cons_miss_of_axis bm.view B ⟨Rect.unit (s := S8x3x1024) ![wid i / 4, a.val, wid i % 4 * 256] S1x1x256.size h, w⟩ []
      y (1 : Fin 3) a.val 1 rfl rfl rfl ?_)
    omega

theorem boxDst_sub (i : grid0.Coords) (a : ℕ) (off : Fin 4 → ℕ) (ho : off = ![wid i / 4, a, 0, wid i % 4 * 256])
    (h : ∀ x, off x + S1x1x7x256.size x ≤ S8x3x7x1024.size x) : (boxDst bM off h).view.set ⊆ boxSet (wid i) := by
  subst ho
  intro y hy
  have hy' : y ∈ (Rect.unit (s := S8x3x7x1024) ![wid i / 4, a, 0, wid i % 4 * 256] S1x1x7x256.size h).set := by
    have e : (boxDst bM ![wid i / 4, a, 0, wid i % 4 * 256] h).view.set = (Rect.unit (s := S8x3x7x1024) ![wid i / 4, a, 0, wid i % 4 * 256] S1x1x7x256.size h).set := by
      show ((View.whole (main_v3_0_scv : Ref sig .scVector)).slice _).set = _
      rw [View.set_slice]; exact Finset.map_refl
    rw [e] at hy; exact hy
  rw [Rect.mem_set_unit] at hy'
  have h0 : wid i / 4 ≤ (y 0).val ∧ (y 0).val < wid i / 4 + 1 := hy' 0
  have h3 : wid i % 4 * 256 ≤ (y 3).val ∧ (y 3).val < wid i % 4 * 256 + 256 := hy' 3
  refine Finset.mem_filter.mpr ⟨Finset.mem_univ _, ?_⟩
  omega

theorem keepDst_sub (i : grid0.Coords) (a : ℕ) (off : Fin 3 → ℕ) (ho : off = ![wid i / 4, a, wid i % 4 * 256])
    (h : ∀ x, off x + S1x1x256.size x ≤ S8x3x1024.size x) : (keepDst kM off h).view.set ⊆ flagSet (wid i) := by
  subst ho
  intro y hy
  have hy' : y ∈ (Rect.unit (s := S8x3x1024) ![wid i / 4, a, wid i % 4 * 256] S1x1x256.size h).set := by
    have e : (keepDst kM ![wid i / 4, a, wid i % 4 * 256] h).view.set = (Rect.unit (s := S8x3x1024) ![wid i / 4, a, wid i % 4 * 256] S1x1x256.size h).set := by
      show ((View.whole (main_v3_1_scv : Ref sig .scVector)).slice _).set = _
      rw [View.set_slice]; exact Finset.map_refl
    rw [e] at hy; exact hy
  rw [Rect.mem_set_unit] at hy'
  have h0 : wid i / 4 ≤ (y 0).val ∧ (y 0).val < wid i / 4 + 1 := hy' 0
  have h3 : wid i % 4 * 256 ≤ (y 2).val ∧ (y 2).val < wid i % 4 * 256 + 256 := hy' 2
  refine Finset.mem_filter.mpr ⟨Finset.mem_univ _, ?_⟩
  omega

/-! ## A copy, issued and waited for -/

variable (d : Dev nD) (i : grid0.Coords)

/-- What a thread owes once it has waited some more, each wait at the index that puts off nothing. -/
def OwesFrom (O : CellTallies nD τ sig (HIx 1)) (W : Finset (SemLoc sig × HIx 1)) : Pr F :=
  iprop(∃ W', ⌜∀ p ∈ W', p ∈ W ∨ p.2 = none⌝ ∗ owes (VT d i) O W')

theorem wp_copy {sp sp' : Space} {s : Shape} {src : Memref sig .scVector sp s .f32} {dst : Memref sig .scVector sp' s .f32} {sem : DmaSem sig}
    {hs : src.view.WordExact} {hd : dst.view.WordExact} {ht} {hs' : src.view.WordExact} {hd' : dst.view.WordExact} {β : Type} (k : PUnit → TP (F := F) i β) (Q : β → Pr F)
    (q : PosShare TreeShare) (fs : Buf (Elt F) (src.view.loc (VT d i))) (Sd : Finset (Idx (dst.view.loc (VT d i)))) (fd : Buf (Elt F) (dst.view.loc (VT d i)))
    (O : CellTallies nD τ sig (HIx 1)) (W : Finset (SemLoc sig × HIx 1)) (hSd : dst.view.set ⊆ Sd) (hpos : 0 < s.numel) :
    iprop(Transfers.MayWaits (VT d i) (none : HIx 1) O ∗ (src.view.loc (VT d i) ↦[src.view.set]{q} fs) ∗ (dst.view.loc (VT d i) ↦[Sd]{fullShare} fd)
        ∗ semVal (VT d i, .dma sem) 0 ∗ OwesFrom d i O W)
      ⊢ (iprop((iprop((src.view.loc (VT d i) ↦[src.view.set]{q} fs)
            ∗ (dst.view.loc (VT d i) ↦[Sd]{fullShare} (dst.view.write (Elt F) fd (src.view.read (Elt F) fs) Finset.univ))
            ∗ semVal (VT d i, .dma sem) 0 ∗ OwesFrom d i O W) -∗ Wp d i (k ⟨⟩) Q)
        -∗ Wp d i (.op (.enqueueDma src (.here dst) (.dma sem) hs hd ht) fun _ => .op (.waitDma2 sem src dst hs' hd') k) Q) : Pr F) := by
  iintro ⟨#Hmw, Hs, Hd, Hv, HO⟩ HK
  unfold OwesFrom
  icases HO with ⟨%W₁, %hW₁, HO⟩
  iapply (Transfers.wp_dmaLocal countersEmb 𝒱₀ (VT d i) none (none : HIx 1) _ (View.amount_dma _ _) (View.dmaCredit_pos _ hpos) hSd) $$ [Hs Hd Hv]
  · isplitl [Hs]; · iexact Hs
    isplitl [Hd] <;> iassumption
  iintro HF
  iapply (Transfers.wp_waitLocalO countersEmb 𝒱₀ (VT d i) none (none : HIx 1) (sem := sem) rfl (O := O) (W := W₁)) $$ [HF HO]
  · isplitl [HF]; · iexact HF
    isplitl [HO]; · iexact HO
    iapply (Transfers.MayWaits.elim (SemLoc.dma sem)); iexact Hmw
  iintro ⟨⟨Hd, Hs⟩, Hv, HO⟩
  iapply HK
  isplitl [Hs]; · iexact Hs
  isplitl [Hd]; · iexact Hd
  isplitl [Hv]; · iexact Hv
  iexists (insert (SemLoc.dma sem, none) W₁)
  isplitr
  · ipureintro
    intro p hp
    rcases Finset.mem_insert.mp hp with h | h
    · right; rw [h]
    · exact hW₁ p h
  · iexact HO

/-! ## One anchor: its blocks, and its two copies out -/

/-- The tile's part of the results: the boxes and the flags, the anchors below `n` at their targets. -/
def PartDone {s : Shape} (S : Finset s.Idx) (anch : s.Idx → ℕ) (n : ℕ) (T B : s.Idx → F .f32) : Prop := ∀ y ∈ S, anch y < n → B y = T y

theorem wp_anchorOut (X : S64x3x85x1024.Idx → F .f32) (g6 : Buf (Elt F) (m6.view.loc (VT d i)))
    (h6 : m6.view.read (Elt F) g6 = (xSrc i xM).view.read (Elt F) X)
    (th : F .f32) (th16 : FVec F S16 .f32) (hth : th16 = fun _ => th) {a : ℕ} (ha : a < 3) (aw ah : BitVec 32)
    (haw : aw = Spec.anchW ⟨a, ha⟩) (hah : ah = Spec.anchH ⟨a, ha⟩)
    (off : Fin 4 → ℕ) (ho : off = ![wid i / 4, a, 0, wid i % 4 * 256]) (h : ∀ x, off x + S1x1x7x256.size x ≤ S8x3x7x1024.size x)
    (off' : Fin 3 → ℕ) (ho' : off' = ![wid i / 4, a, wid i % 4 * 256]) (h' : ∀ x, off' x + S1x1x256.size x ≤ S8x3x1024.size x)
    (r r' : DmaSems sig S_) (rest : TP (F := F) i PUnit) (Q : PUnit → Pr F)
    (h7 : m7.IsWhole) (h8 : m8.IsWhole)
    (g7 : Buf (Elt F) (m7.view.loc (VT d i))) (g8 : Buf (Elt F) (m8.view.loc (VT d i)))
    (B : S8x3x7x1024.Idx → F .f32) (hB : PartDone (boxSet (wid i)) (fun y => (y 1).val) a (boxT X) B)
    (K' : S8x3x1024.Idx → F .f32) (hK : PartDone (flagSet (wid i)) (fun y => (y 1).val) a (flagT X th) K')
    (O : CellTallies nD τ sig (HIx 1)) (W : Finset (SemLoc sig × HIx 1)) :
    iprop(Transfers.MayWaits (VT d i) (none : HIx 1) O ∗ Held6 d i m6 fullShare g6 ∗ Held7 d i m7 g7 ∗ Held8 d i m8 g8
        ∗ (bM.view.loc (VT d i) ↦[boxSet (wid i)]{fullShare} B) ∗ (kM.view.loc (VT d i) ↦[flagSet (wid i)]{fullShare} K')
        ∗ semVal (VT d i, .dma r.sem) 0 ∗ semVal (VT d i, .dma r'.sem) 0 ∗ OwesFrom d i O W)
      ⊢ (iprop((∀ g7' g8' B' K'', ⌜PartDone (boxSet (wid i)) (fun y => (y 1).val) (a + 1) (boxT X) B'
              ∧ PartDone (flagSet (wid i)) (fun y => (y 1).val) (a + 1) (flagT X th) K''⌝
            -∗ (Held6 d i m6 fullShare g6 ∗ Held7 d i m7 g7' ∗ Held8 d i m8 g8'
              ∗ (bM.view.loc (VT d i) ↦[boxSet (wid i)]{fullShare} B') ∗ (kM.view.loc (VT d i) ↦[flagSet (wid i)]{fullShare} K'')
              ∗ semVal (VT d i, .dma r.sem) 0 ∗ semVal (VT d i, .dma r'.sem) 0 ∗ OwesFrom d i O W) -∗ Wp d i rest Q)
        -∗ Wp d i (anchor i m6 m7 m8 th16 (colStart i) ha aw ah groups <| flush i bM kM m7 h7 m8 h8 off h off' h' r r' rest) Q) : Pr F) := by
  iintro ⟨#Hmw, H6, H7, H8, Hb, Hk, Hr, Hr', HO⟩ HK
  iapply (wp_anchor d i m6 m7 m8 fullShare g6 th th16 hth (colStart i) ha aw ah) $$ [H6 H7 H8]
  · isplitl [H6]; · iexact H6
    isplitl [H7] <;> iassumption
  iintro %g7' %g8' %hdone H6 H7 H8
  obtain ⟨hd7, hd8⟩ := hdone
  have hw4 : wid i < 32 := wid_lt i
  have col : ∀ c : Fin 256, colWord (colStart i) c = BitVec.ofNat 32 (wid i % 4 * 256 + c.val) := fun c => by
    rw [colWord, colStart_eq, BitVec.ofNat_add]
  have ft : ∀ (c : Fin 256) (b : Fin 8) (e : Fin 1024), b.val = wid i / 4 → e.val = wid i % 4 * 256 + c.val →
      feat (m6.view.read (Elt F) g6) ⟨a, ha⟩ c = xfeat X (lateBatch b) ⟨a, ha⟩ e := by
    intro c b e hb he
    funext f
    rw [h6]
    have hb' : b = ⟨wid i / 4, by omega⟩ := Fin.ext hb
    have he' : e = ⟨wid i % 4 * 256 + c.val, by omega⟩ := Fin.ext he
    rw [hb', he']
    exact fetched i X ⟨a, ha⟩ (Fin.ofNat 85 f) c _ _
  unfold flush
  iapply (wp_copy d i (src := m7) (dst := boxDst bM off h) _ _ fullShare g7' (boxSet (wid i)) B O W (boxDst_sub i a off ho h) (by decide)) $$ [H7 Hb Hr HO]
  · isplitr; · iexact Hmw
    isplitl [H7]; · iexact H7
    isplitl [Hb]; · iexact Hb
    isplitl [Hr] <;> iassumption
  iintro ⟨H7, Hb, Hr, HO⟩
  iapply (wp_copy d i (src := m8) (dst := keepDst kM off' h') _ _ fullShare g8' (flagSet (wid i)) K' O W (keepDst_sub i a off' ho' h') (by decide)) $$ [H8 Hk Hr' HO]
  · isplitr; · iexact Hmw
    isplitl [H8]; · iexact H8
    isplitl [Hk]; · iexact Hk
    isplitl [Hr'] <;> iassumption
  iintro ⟨H8, Hk, Hr', HO⟩
  iapply HK $$ %g7' %g8' %_ %_ %(?_) [H6 H7 H8 Hb Hk Hr Hr' HO]
  rotate_left
  · isplitl [H6]; · iexact H6
    isplitl [H7]; · iexact H7
    isplitl [H8]; · iexact H8
    isplitl [Hb]; · iexact Hb
    isplitl [Hk]; · iexact Hk
    isplitl [Hr]; · iexact Hr
    isplitl [Hr'] <;> iassumption
  refine ⟨fun y hy hlt => ?_, fun y hy hlt => ?_⟩
  · refine (boxes_landed i bM B ⟨a, ha⟩ off ho h (boxT X) _ ?_ y hy).trans ?_
    · intro f c z h0 h1 h2 h3
      refine (hd7 f c c.isLt).trans ?_
      rw [col, ft c (z 0) (z 3) h0 h3, haw, hah]
      show _ = Spec.box (Spec.anchW (z 1)) (Spec.anchH (z 1)) (BitVec.ofNat 32 (z 3).val) (xfeat X (lateBatch (z 0)) (z 1) (z 3)) (z 2).val
      rw [h1, h2, h3]
    · split
      · rfl
      · rename_i e; exact hB y hy (by show (y 1).val < a; have : (y 1).val < a + 1 := hlt; have : (y 1).val ≠ a := e; omega)
  · refine (flags_landed i kM K' ⟨a, ha⟩ off' ho' h' (flagT X th) _ ?_ y hy).trans ?_
    · intro c z h0 h1 h3
      refine (hd8 c c.isLt).trans ?_
      rw [ft c (z 0) (z 2) h0 h3]
      show _ = Spec.keep th (xfeat X (lateBatch (z 0)) (z 1) (z 2))
      rw [h1]
    · split
      · rfl
      · rename_i e; exact hK y hy (by show (y 1).val < a; have : (y 1).val < a + 1 := hlt; have : (y 1).val ≠ a := e; omega)

/-! ## The whole run -/

theorem tile_run (h2 : xM.IsWhole) (h3 : tM.IsWhole) (h6 : m6.IsWhole) (h7 : m7.IsWhole) (h8 : m8.IsWhole) (h9 : m9.IsWhole)
    (r0 r1 r2 r3 r4 r5 r6 r7 : DmaSems sig S_) (X : S64x3x85x1024.Idx → F .f32) (th : F .f32) (qx qt : PosShare TreeShare)
    (B : S8x3x7x1024.Idx → F .f32) (K' : S8x3x1024.Idx → F .f32)
    (O : CellTallies nD τ sig (HIx 1)) (W : Finset (SemLoc sig × HIx 1)) :
    iprop(Transfers.MayWaits (VT d i) (none : HIx 1) O
        ∗ ((xSrc i xM).view.loc (VT d i) ↦[(xSrc i xM).view.set]{qx} X) ∗ (tM.view.loc (VT d i) ↦[tM.view.set]{qt} fun _ => th)
        ∗ (bM.view.loc (VT d i) ↦[boxSet (wid i)]{fullShare} B) ∗ (kM.view.loc (VT d i) ↦[flagSet (wid i)]{fullShare} K')
        ∗ (∃ g6, Held6 d i m6 fullShare g6) ∗ (∃ g7, Held7 d i m7 g7) ∗ (∃ g8, Held8 d i m8 g8)
        ∗ (∃ g9, m9.view.loc (VT d i) ↦[m9.view.set]{fullShare} g9)
        ∗ semVal (VT d i, .dma r0.sem) 0 ∗ semVal (VT d i, .dma r1.sem) 0 ∗ semVal (VT d i, .dma r2.sem) 0 ∗ semVal (VT d i, .dma r3.sem) 0
        ∗ semVal (VT d i, .dma r4.sem) 0 ∗ semVal (VT d i, .dma r5.sem) 0 ∗ semVal (VT d i, .dma r6.sem) 0 ∗ semVal (VT d i, .dma r7.sem) 0
        ∗ OwesFrom d i O W)
      ⊢ (Wp d i (tileProg i xM tM h3 bM kM m6 h6 m7 h7 m8 h8 m9 h9 r0 r1 r2 r3 r4 r5 r6 r7) (fun _ => iprop(
          ((xSrc i xM).view.loc (VT d i) ↦[(xSrc i xM).view.set]{qx} X) ∗ (tM.view.loc (VT d i) ↦[tM.view.set]{qt} fun _ => th)
        ∗ (bM.view.loc (VT d i) ↦[boxSet (wid i)]{fullShare} boxT X) ∗ (kM.view.loc (VT d i) ↦[flagSet (wid i)]{fullShare} flagT X th)
        ∗ (∃ g6, Held6 d i m6 fullShare g6) ∗ (∃ g7, Held7 d i m7 g7) ∗ (∃ g8, Held8 d i m8 g8)
        ∗ (∃ g9, m9.view.loc (VT d i) ↦[m9.view.set]{fullShare} g9)
        ∗ semVal (VT d i, .dma r0.sem) 0 ∗ semVal (VT d i, .dma r1.sem) 0 ∗ semVal (VT d i, .dma r2.sem) 0 ∗ semVal (VT d i, .dma r3.sem) 0
        ∗ semVal (VT d i, .dma r4.sem) 0 ∗ semVal (VT d i, .dma r5.sem) 0 ∗ semVal (VT d i, .dma r6.sem) 0 ∗ semVal (VT d i, .dma r7.sem) 0
        ∗ OwesFrom d i O W)) : Pr F) := by
  iintro ⟨#Hmw, Hx, Ht, Hb, Hk, ⟨%g6, H6⟩, ⟨%g7, H7⟩, ⟨%g8, H8⟩, ⟨%g9, H9⟩, Hr0, Hr1, Hr2, Hr3, Hr4, Hr5, Hr6, Hr7, HO⟩
  unfold tileProg fetch
  iapply (wp_copy d i (src := tM) (dst := m9) _ _ qt (fun _ => th) m9.view.set g9 O W subset_rfl (by decide)) $$ [Ht H9 Hr0 HO]
  · isplitr; · iexact Hmw
    isplitl [Ht]; · iexact Ht
    isplitl [H9]; · iexact H9
    isplitl [Hr0] <;> iassumption
  iintro ⟨Ht, H9, Hr0, HO⟩
  iapply (wp_load 𝒱₀ (VT d i) none Set.univ (View.setOn_subset_set _ _)) $$ [H9]
  · iexact H9
  iintro H9
  iapply (wp_copy d i (src := xSrc i xM) (dst := m6) _ _ qx X m6.view.set g6 O W subset_rfl (by decide)) $$ [Hx H6 Hr1 HO]
  · isplitr; · iexact Hmw
    isplitl [Hx]; · iexact Hx
    isplitl [H6]; · iexact H6
    isplitl [Hr1] <;> iassumption
  iintro ⟨Hx, H6, Hr1, HO⟩
  have hth : (shapeCast S16 (m9.view.readAt (Elt F) (Rect.unit (s := S16) ![0] S16.size inb_S16_S16_0).toLoadRect
      (m9.view.write (Elt F) g9 (tM.view.read (Elt F) fun _ => th) Finset.univ)) shapeCasts_S16_S16 : FVec F S16 .f32) = fun _ => th := by
    funext l
    refine (shapeCast_apply (s := S16) (t := S16) _ _ l l rfl).trans ?_
    rw [View.readAt_apply, View.read_write_univ]
    rfl
  iapply (wp_anchorOut d i X _ (View.read_write_univ _ _) th _ hth (a := 0) _ 0x3E0E0000#32 0x3DDC0000#32 rfl rfl (k0_off34 i) (off34_eq i) (k0_off34_inb i) (k0_off35 i) (off35_eq i) (k0_off35_inb i)
    r2 r3 _ _ h7 h8 g7 g8 B (fun _ _ h => absurd h (Nat.not_lt_zero _)) K' (fun _ _ h => absurd h (Nat.not_lt_zero _)) O W) $$ [H6 H7 H8 Hb Hk Hr2 Hr3 HO]
  · isplitr; · iexact Hmw
    isplitl [H6]; · iexact H6
    isplitl [H7]; · iexact H7
    isplitl [H8]; · iexact H8
    isplitl [Hb]; · iexact Hb
    isplitl [Hk]; · iexact Hk
    isplitl [Hr2]; · iexact Hr2
    isplitl [Hr3]; · iexact Hr3
    iexact HO
  iintro %g7 %g8 %B %K' %hBK ⟨H6, H7, H8, Hb, Hk, Hr2, Hr3, HO⟩
  iapply (wp_anchorOut d i X _ (View.read_write_univ _ _) th _ hth (a := 1) _ 0x3E400000#32 0x3E730000#32 rfl rfl (k0_off68 i) (off68_eq i) (k0_off68_inb i) (k0_off69 i) (off69_eq i) (k0_off69_inb i)
    r4 r5 _ _ h7 h8 g7 g8 B hBK.1 K' hBK.2 O W) $$ [H6 H7 H8 Hb Hk Hr4 Hr5 HO]
  · isplitr; · iexact Hmw
    isplitl [H6]; · iexact H6
    isplitl [H7]; · iexact H7
    isplitl [H8]; · iexact H8
    isplitl [Hb]; · iexact Hb
    isplitl [Hk]; · iexact Hk
    isplitl [Hr4]; · iexact Hr4
    isplitl [Hr5]; · iexact Hr5
    iexact HO
  iintro %g7 %g8 %B %K' %hBK ⟨H6, H7, H8, Hb, Hk, Hr4, Hr5, HO⟩
  iapply (wp_anchorOut d i X _ (View.read_write_univ _ _) th _ hth (a := 2) _ 0x3EE58000#32 0x3EC88000#32 rfl rfl (k0_off102 i) (off102_eq i) (k0_off102_inb i) (k0_off103 i) (off103_eq i) (k0_off103_inb i)
    r6 r7 _ _ h7 h8 g7 g8 B hBK.1 K' hBK.2 O W) $$ [H6 H7 H8 Hb Hk Hr6 Hr7 HO]
  · isplitr; · iexact Hmw
    isplitl [H6]; · iexact H6
    isplitl [H7]; · iexact H7
    isplitl [H8]; · iexact H8
    isplitl [Hb]; · iexact Hb
    isplitl [Hk]; · iexact Hk
    isplitl [Hr6]; · iexact Hr6
    isplitl [Hr7]; · iexact Hr7
    iexact HO
  iintro %g7 %g8 %B %K' %hBK ⟨H6, H7, H8, Hb, Hk, Hr6, Hr7, HO⟩
  unfold Wp
  rw [wp_ret]
  have eB : (bM.view.loc (VT d i) ↦[boxSet (wid i)]{fullShare} B : Pr F) = (bM.view.loc (VT d i) ↦[boxSet (wid i)]{fullShare} boxT X) :=
    pointsTo_congr fun y hy => hBK.1 y hy (y 1).isLt
  have eK : (kM.view.loc (VT d i) ↦[flagSet (wid i)]{fullShare} K' : Pr F) = (kM.view.loc (VT d i) ↦[flagSet (wid i)]{fullShare} flagT X th) :=
    pointsTo_congr fun y hy => hBK.2 y hy (y 1).isLt
  rw [← eB, ← eK]
  imodintro
  isplitl [Hx]; · iexact Hx
  isplitl [Ht]; · iexact Ht
  isplitl [Hb]; · iexact Hb
  isplitl [Hk]; · iexact Hk
  isplitl [H6]; · iexists _; iexact H6
  isplitl [H7]; · iexists _; iexact H7
  isplitl [H8]; · iexists _; iexact H8
  isplitl [H9]; · iexists _; iexact H9
  isplitl [Hr0]; · iexact Hr0
  isplitl [Hr1]; · iexact Hr1
  isplitl [Hr2]; · iexact Hr2
  isplitl [Hr3]; · iexact Hr3
  isplitl [Hr4]; · iexact Hr4
  isplitl [Hr5]; · iexact Hr5
  isplitl [Hr6]; · iexact Hr6
  isplitl [Hr7]; · iexact Hr7
  iexact HO

end Cert.Proof.Tile

end
-- ==== Proof.TileObl.lean ====
/-
  What the SparseCore call carries, what each tile owes for it, and how the call's buffers part among the tiles.
-/
module

public import proofs.«01_k».proof.Proof.TileEq
public import proofs.«01_k».proof.Proof.TileRun

@[expose] public section

noncomputable section

namespace Cert.Proof.Tile

open Cert.KernelIdeal
open Cert.KernelIdeal.Facts₀ Cert.KernelIdeal.Facts
open Idealize.ShloMosaic Idealize.ShloMosaic.ValueIdx Idealize.ShloMosaic.Rounds
open Idealize.ShloMosaic.SparseCore (V)
open Idealize.ShloMosaic.SparseCore.Cfg (HIx ownSems0 ownBufs ownCells ownRefs mem_ownCells)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## What the call carries -/

abbrev xLoc (d : Dev nD) : Loc nD τ sig := (SparseCore.T d).loc main_v0
abbrev tLoc (d : Dev nD) : Loc nD τ sig := (SparseCore.T d).loc main_v2
abbrev bLoc (d : Dev nD) : Loc nD τ sig := (SparseCore.T d).loc main_v3_0
abbrev kLoc (d : Dev nD) : Loc nD τ sig := (SparseCore.T d).loc main_v3_1

/-- The share of the input that tile `w` reads through. -/
abbrev shr (w : Fin 32) : PosShare TreeShare := Transfers.dealOf fullShare Finset.univ w

/-- Tile `w`'s part of the call's buffers: shares of the input and of the threshold's lanes, its places of the results. -/
def part (d : Dev nD) (X : S64x3x85x1024.Idx → F .f32) (th : F .f32) (B : S8x3x7x1024.Idx → F .f32) (K' : S8x3x1024.Idx → F .f32) (w : Fin 32) : Pr F :=
  iprop((xLoc d ↦{shr w} X) ∗ (tLoc d ↦{shr w} fun _ => th) ∗ (bLoc d ↦[boxSet w.val]{fullShare} B) ∗ (kLoc d ↦[flagSet w.val]{fullShare} K'))

instance part_storable (d : Dev nD) (X : S64x3x85x1024.Idx → F .f32) (th : F .f32) (B : S8x3x7x1024.Idx → F .f32) (K' : S8x3x1024.Idx → F .f32) (w : Fin 32) :
    BI.Storable (upEmb : UEmb _ (MT nD τ sig (HIx 1) (Elt F) ℕ UU ℕ)) (part d X th B K' w) := by
  unfold part; infer_instance

/-- The tile of SparseCore `c`, subcore `s`. -/
abbrev tileNo (c : Fin 2) (s : Fin 16) : Fin 32 := ⟨s.val * 2 + c.val, by omega⟩

variable (X : Dev nD → S64x3x85x1024.Idx → F .f32) (th : Dev nD → F .f32) (B : Dev nD → S8x3x7x1024.Idx → F .f32) (K' : Dev nD → S8x3x1024.Idx → F .f32)

/-- The call hands each tile its part, and gets it back with the boxes and the flags in it. -/
def P : (K (F := F)).Pay (nD := nD) (Val := Elt F) (Name := ℕ) (U := UU) where
  st := fun q d c => match q with | 0 => bigSep Finset.univ fun s : Fin 16 => part d (X d) (th d) (B d) (K' d) (tileNo c s)
  dn := fun q d c => match q with | 0 => bigSep Finset.univ fun s : Fin 16 => part d (X d) (th d) (boxT (X d)) (flagT (X d) (th d)) (tileNo c s)
  go := fun q d c s => match q with | 0 => part d (X d) (th d) (B d) (K' d) (tileNo c s)
  td := fun q d c s => match q with | 0 => part d (X d) (th d) (boxT (X d)) (flagT (X d) (th d)) (tileNo c s)
  x := fun _ _ => iprop(emp)

instance P_storable : (P X th B K').IsStorable where
  st q d c := match q with
    | 0 => (inferInstance : BI.Storable (upEmb : UEmb _ (MT nD τ sig (HIx 1) (Elt F) ℕ UU ℕ)) (bigSep Finset.univ fun s : Fin 16 => part d (X d) (th d) (B d) (K' d) (tileNo c s)))
  dn q d c := match q with
    | 0 => (inferInstance : BI.Storable (upEmb : UEmb _ (MT nD τ sig (HIx 1) (Elt F) ℕ UU ℕ)) (bigSep Finset.univ fun s : Fin 16 => part d (X d) (th d) (boxT (X d)) (flagT (X d) (th d)) (tileNo c s)))
  go q d c s := match q with
    | 0 => (inferInstance : BI.Storable (upEmb : UEmb _ (MT nD τ sig (HIx 1) (Elt F) ℕ UU ℕ)) (part d (X d) (th d) (B d) (K' d) (tileNo c s)))
  td q d c s := match q with
    | 0 => (inferInstance : BI.Storable (upEmb : UEmb _ (MT nD τ sig (HIx 1) (Elt F) ℕ UU ℕ)) (part d (X d) (th d) (boxT (X d)) (flagT (X d) (th d)) (tileNo c s)))

/-! ## A tile's own cells and buffers -/

variable (d : Dev nD) (i : grid0.Coords)

abbrev csem (k : Nat) (hk : k < 15 := by decide) : DmaSem sig := ⟨k, hk⟩
abbrev dcell (c : Fin τ.nSC) (s : Fin τ.nSub) (k : Fin 8) : GSem nD τ sig := (V d c s, .dma (csem k.val (by omega)))

theorem dcell_mem (c : Fin τ.nSC) (s : Fin τ.nSub) (k : Fin 8) : dcell d c s k ∈ ownCells (V d c s) :=
  mem_ownCells.mpr ⟨rfl, (show ∀ s : DmaSem sig, (SemLoc.dma s : SemLoc sig).isScoped .scVector = true by decide) _⟩

/-- The eight cells the body names, in its spelling. -/
abbrev cells0 : Pr F :=
  iprop(semVal (VT d i, .dma cc0_scoped0.sem) 0 ∗ semVal (VT d i, .dma cc0_scoped1.sem) 0 ∗ semVal (VT d i, .dma cc0_scoped2.sem) 0 ∗ semVal (VT d i, .dma cc0_scoped3.sem) 0
    ∗ semVal (VT d i, .dma cc0_scoped4.sem) 0 ∗ semVal (VT d i, .dma cc0_scoped5.sem) 0 ∗ semVal (VT d i, .dma cc0_scoped6.sem) 0 ∗ semVal (VT d i, .dma cc0_scoped7.sem) 0)

theorem ownSems0_tile :
    (ownSems0 (VT d i) : Pr F)
      = iprop(cells0 d i ∗ bigSep ((ownCells (VT d i)) \ Finset.univ.image (dcell d (cV i) (jV i))) fun g => semVal g 0) := by
  unfold SparseCore.Cfg.ownSems0
  rw [SparseCore.bigSep_sdiff_split' (t := Finset.univ.image (dcell d (cV i) (jV i)))
      (Finset.image_subset_iff.mpr fun k _ => dcell_mem d (cV i) (jV i) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 8)) = {0, 1, 2, 3, 4, 5, 6, 7} by decide,
    SparseCore.bigSep_insert' (by decide), SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- The tile's other buffers. -/
abbrev otherRefs : Finset (DevRef τ sig) :=
  ((((ownRefs (τ := τ) (.scVector (cV i) (jV i))).erase ((Proc.scVector (cV i) (jV i)).devRef cc0_scratch0)).erase
    ((Proc.scVector (cV i) (jV i)).devRef cc0_scratch1)).erase ((Proc.scVector (cV i) (jV i)).devRef cc0_scratch2)).erase
    ((Proc.scVector (cV i) (jV i)).devRef cc0_scratch3)

theorem scratch_ne {a b : Ref sig .scVector} (h : a ≠ b) : (Proc.scVector (cV i) (jV i)).devRef a ≠ (Proc.scVector (cV i) (jV i)).devRef b :=
  fun e => absurd (Proc.devRef_injective _ e) h
theorem scratch_mem {a : Ref sig .scVector} (h : ((Proc.scVector (cV i) (jV i)).devRef a).owner = .proc (Proc.scVector (cV i) (jV i))) :
    (Proc.scVector (cV i) (jV i)).devRef a ∈ ownRefs (τ := τ) (.scVector (cV i) (jV i)) := SparseCore.Cfg.mem_ownRefs_of_owner h

theorem ownBufs_tile :
    (ownBufs (VT d i) : Pr F)
      = iprop((∃ f, (VT d i).loc cc0_scratch0 ↦{fullShare} f) ∗ (∃ f, (VT d i).loc cc0_scratch1 ↦{fullShare} f)
          ∗ (∃ f, (VT d i).loc cc0_scratch2 ↦{fullShare} f) ∗ (∃ f, (VT d i).loc cc0_scratch3 ↦{fullShare} f)
          ∗ bigSep (otherRefs i) fun b => iprop(∃ f, ((d, b) : Loc nD τ sig) ↦{fullShare} f)) := by
  unfold SparseCore.Cfg.ownBufs
  have m0 := scratch_mem i (a := cc0_scratch0) rfl
  have m1 := scratch_mem i (a := cc0_scratch1) rfl
  have m2 := scratch_mem i (a := cc0_scratch2) rfl
  have m3 := scratch_mem i (a := cc0_scratch3) rfl
  have n10 := scratch_ne i (a := cc0_scratch1) (b := cc0_scratch0) (by decide)
  have n20 := scratch_ne i (a := cc0_scratch2) (b := cc0_scratch0) (by decide)
  have n21 := scratch_ne i (a := cc0_scratch2) (b := cc0_scratch1) (by decide)
  have n30 := scratch_ne i (a := cc0_scratch3) (b := cc0_scratch0) (by decide)
  have n31 := scratch_ne i (a := cc0_scratch3) (b := cc0_scratch1) (by decide)
  have n32 := scratch_ne i (a := cc0_scratch3) (b := cc0_scratch2) (by decide)
  refine (SparseCore.bigSep_erase' m0).trans ?_
  rw [SparseCore.bigSep_erase' (Finset.mem_erase.mpr ⟨n10, m1⟩),
    SparseCore.bigSep_erase' (Finset.mem_erase.mpr ⟨n21, Finset.mem_erase.mpr ⟨n20, m2⟩⟩),
    SparseCore.bigSep_erase' (Finset.mem_erase.mpr ⟨n32, Finset.mem_erase.mpr ⟨n31, Finset.mem_erase.mpr ⟨n30, m3⟩⟩⟩)]

/-! ## The tile's obligation -/

/-- The body on tile `i`, from its part of the call's buffers and what the launch deals it. -/
theorem tile_body (Xd : S64x3x85x1024.Idx → F .f32) (thd : F .f32) (Bd : S8x3x7x1024.Idx → F .f32) (Kd : S8x3x1024.Idx → F .f32)
    (O : CellTallies nD τ sig (HIx 1)) (W : Waits sig (HIx 1)) (hO : ∀ g, O g none = 0) :
    iprop(levAts (K (F := F)).L (K (F := F)).lev ∗ emp ∗ part d Xd thd Bd Kd ⟨wid i, wid_lt i⟩
        ∗ scopedBufs (VT d i) ∗ scopedSems0 (VT d i) ∗ owes (VT d i) O W)
      ⊢ (wp frame (wpE (defs₀ (F := F)) 𝒱₀ (VT d i) none) Set.univ
          (cc0__sc_body i xM (Memref.isWhole_whole _) tM (Memref.isWhole_whole _) bM (Memref.isWhole_whole _) kM (Memref.isWhole_whole _)
            m6 (Memref.isWhole_whole _) m7 (Memref.isWhole_whole _) m8 (Memref.isWhole_whole _) m9 (Memref.isWhole_whole _)
            cc0_scoped0 cc0_scoped1 cc0_scoped2 cc0_scoped3 cc0_scoped4 cc0_scoped5 cc0_scoped6 cc0_scoped7)
          fun _ => iprop(part d Xd thd (boxT Xd) (flagT Xd thd) ⟨wid i, wid_lt i⟩
            ∗ scopedBufs (VT d i) ∗ scopedSems0 (VT d i)
            ∗ ∃ W', ⌜∀ p ∈ W', p ∈ W ∨ p.2 = none ∨ p.2 = some (0 : Fin 1)⌝ ∗ owes (VT d i) O W') : Pr F) := by
  rw [(K (F := F)).scopedBufs_V scFacts d (cV i) (jV i), SparseCore.Cfg.scopedSems0_V (Val := Elt F) d (cV i) (jV i), ownSems0_tile, ownBufs_tile, body_eq]
  unfold part
  have hx : (xLoc d ↦{shr ⟨wid i, wid_lt i⟩} Xd : Pr F)
      = iprop(((xSrc i xM).view.loc (VT d i) ↦[(xSrc i xM).view.set]{shr ⟨wid i, wid_lt i⟩} Xd)
        ∗ xLoc d ↦[Finset.univ \ (xSrc i xM).view.set]{shr ⟨wid i, wid_lt i⟩} Xd) :=
    BI.Entails.antisymm (pointsTo_split_subset (Finset.subset_univ _)).1 (pointsTo_split_subset (Finset.subset_univ _)).2
  rw [hx]
  iintro ⟨#Hlv, -, ⟨⟨Hx, Hxr⟩, Ht, Hb, Hk⟩, ⟨⟨%g6, H6⟩, ⟨%g7, H7⟩, ⟨%g8, H8⟩, ⟨%g9, H9⟩, Hbufs⟩, ⟨⟨Hr0, Hr1, Hr2, Hr3, Hr4, Hr5, Hr6, Hr7⟩, Hsems⟩, HO⟩
  ihave Hmw := (show levAts (K (F := F)).L (K (F := F)).lev ⊢ (Transfers.MayWaits (VT d i) (none : HIx 1) O : Pr F) from
    (K (F := F)).mayWaits_none (thr := VT d i) hO) $$ Hlv
  iapply (wp_wand_r Idealize.ShloMosaic.frame (wpE (defs₀ (F := F)) 𝒱₀ (VT d i) none) Set.univ)
  isplitl [Hx Ht Hb Hk H6 H7 H8 H9 Hr0 Hr1 Hr2 Hr3 Hr4 Hr5 Hr6 Hr7 HO]
  · iapply (tile_run d i (Memref.isWhole_whole _) (Memref.isWhole_whole _) (Memref.isWhole_whole _) (Memref.isWhole_whole _) (Memref.isWhole_whole _) (Memref.isWhole_whole _)
      cc0_scoped0 cc0_scoped1 cc0_scoped2 cc0_scoped3 cc0_scoped4 cc0_scoped5 cc0_scoped6 cc0_scoped7 Xd thd (shr ⟨wid i, wid_lt i⟩) (shr ⟨wid i, wid_lt i⟩) Bd Kd O W)
    isplitr; · iexact Hmw
    isplitl [Hx]; · iexact Hx
    isplitl [Ht]; · rw [View.set_whole]; iexact Ht
    isplitl [Hb]; · iexact Hb
    isplitl [Hk]; · iexact Hk
    isplitl [H6]; · iexists _; unfold Held6; rw [View.set_whole]; iexact H6
    isplitl [H7]; · iexists _; unfold Held7; rw [View.set_whole]; iexact H7
    isplitl [H8]; · iexists _; unfold Held8; rw [View.set_whole]; iexact H8
    isplitl [H9]; · iexists _; rw [View.set_whole]; iexact H9
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    unfold OwesFrom; iexists W
    isplitr; · ipureintro; intro p hp; exact .inl hp
    iexact HO
  unfold OwesFrom Held6 Held7 Held8
  rw [View.set_whole, View.set_whole, View.set_whole, View.set_whole, View.set_whole]
  iintro %_ ⟨Hx, Ht, Hb, Hk, H6, H7, H8, H9, Hr0, Hr1, Hr2, Hr3, Hr4, Hr5, Hr6, Hr7, ⟨%W', %hW', HO⟩⟩
  isplitl [Hx Hxr Ht Hb Hk]
  · isplitl [Hx Hxr]; · isplitl [Hx] <;> iassumption
    isplitl [Ht]; · iexact Ht
    isplitl [Hb] <;> iassumption
  isplitl [H6 H7 H8 H9 Hbufs]
  · isplitl [H6]; · iexact H6
    isplitl [H7]; · iexact H7
    isplitl [H8]; · iexact H8
    isplitl [H9] <;> iassumption
  isplitl [Hr0 Hr1 Hr2 Hr3 Hr4 Hr5 Hr6 Hr7 Hsems]
  · isplitr [Hsems]
    · isplitl [Hr0]; · iexact Hr0
      isplitl [Hr1]; · iexact Hr1
      isplitl [Hr2]; · iexact Hr2
      isplitl [Hr3]; · iexact Hr3
      isplitl [Hr4]; · iexact Hr4
      isplitl [Hr5]; · iexact Hr5
      isplitl [Hr6] <;> iassumption
    · iexact Hsems
  iexists W'; isplitr
  · ipureintro; intro p hp
    rcases hW' p hp with h | h
    · exact .inl h
    · exact .inr (.inl h)
  · iexact HO

theorem defs₀_vector (c : Fin τ.nSC) (s : Fin τ.nSub) :
    defs₀ (F := F) (.scVector c s) 0 ()
      = SparseCore.onTile hcore0 hsub0 (fun c s => cc0__sc_body (coordsV c s) xM (Memref.isWhole_whole _) tM (Memref.isWhole_whole _) bM (Memref.isWhole_whole _) kM (Memref.isWhole_whole _)
            m6 (Memref.isWhole_whole _) m7 (Memref.isWhole_whole _) m8 (Memref.isWhole_whole _) m9 (Memref.isWhole_whole _)
            cc0_scoped0 cc0_scoped1 cc0_scoped2 cc0_scoped3 cc0_scoped4 cc0_scoped5 cc0_scoped6 cc0_scoped7) ⟨⟩ c s := rfl

theorem tileObl : (K (F := F)).TileObl (D (F := F)) 𝒱 (P X th B K') v₀ 0 := by
  intro d c i O W hO _ _
  simp only [show (P X th B K').ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (coordsV ⟨_, hci.1⟩ ⟨_, hci.2⟩) (X d) (th d) (B d) (K' d) O W hO

theorem vecSplit : (K (F := F)).VecSplit' (P X th B K') 0 := by
  intro d c
  show (bigSep Finset.univ fun s : Fin 16 => part d (X d) (th d) (B d) (K' d) (tileNo c s)) ⊢ |={Set.univ}=> iprop(
      (bigSep Finset.univ fun s : Fin 16 => part d (X d) (th d) (B d) (K' d) (tileNo c s))
      ∗ ((bigSep Finset.univ fun s : Fin 16 => part d (X d) (th d) (boxT (X d)) (flagT (X d) (th d)) (tileNo c s))
          -∗ (bigSep Finset.univ fun s : Fin 16 => part d (X d) (th d) (boxT (X d)) (flagT (X d) (th d)) (tileNo c s))))
  iintro H; imodintro
  isplitl [H]; · iexact H
  iintro H; iexact H

/-! ## The call's buffers part among the tiles -/

theorem boxSet_disjoint : ∀ w ∈ (Finset.univ : Finset (Fin 32)), ∀ w' ∈ (Finset.univ : Finset (Fin 32)), w ≠ w' → Disjoint (boxSet w.val) (boxSet w'.val) :=
  fun w _ w' _ h => Finset.disjoint_left.mpr fun y hy hy' => h (Fin.ext ((Finset.mem_filter.mp hy).2.symm.trans (Finset.mem_filter.mp hy').2))
theorem flagSet_disjoint : ∀ w ∈ (Finset.univ : Finset (Fin 32)), ∀ w' ∈ (Finset.univ : Finset (Fin 32)), w ≠ w' → Disjoint (flagSet w.val) (flagSet w'.val) :=
  fun w _ w' _ h => Finset.disjoint_left.mpr fun y hy hy' => h (Fin.ext ((Finset.mem_filter.mp hy).2.symm.trans (Finset.mem_filter.mp hy').2))
theorem boxSet_cover : (Finset.univ : Finset (Fin 32)).biUnion (fun w => boxSet w.val) = Finset.univ := by
  refine Finset.eq_univ_of_forall fun y => Finset.mem_biUnion.mpr ?_
  have h0 : (y 0).val < 8 := (y 0).isLt
  have h3 : (y 3).val < 1024 := (y 3).isLt
  exact ⟨⟨(y 0).val * 4 + (y 3).val / 256, by omega⟩, Finset.mem_univ _, Finset.mem_filter.mpr ⟨Finset.mem_univ _, rfl⟩⟩
theorem flagSet_cover : (Finset.univ : Finset (Fin 32)).biUnion (fun w => flagSet w.val) = Finset.univ := by
  refine Finset.eq_univ_of_forall fun y => Finset.mem_biUnion.mpr ?_
  have h0 : (y 0).val < 8 := (y 0).isLt
  have h3 : (y 2).val < 1024 := (y 2).isLt
  exact ⟨⟨(y 0).val * 4 + (y 2).val / 256, by omega⟩, Finset.mem_univ _, Finset.mem_filter.mpr ⟨Finset.mem_univ _, rfl⟩⟩

/-- Over the tiles at once is over the SparseCores, and over the subcores of each. -/
theorem bigSep_tiles (Φ : Fin 32 → Pr F) :
    bigSep Finset.univ Φ = bigSep Finset.univ fun c : Fin 2 => bigSep Finset.univ fun s : Fin 16 => Φ (tileNo c s) := by
  rw [bigSep_univ_equiv ((Equiv.prodComm (Fin 2) (Fin 16)).trans finProdFinEquiv) Φ, BI.bigSep_univ_prod]
  refine bigSep_congr fun c _ => bigSep_congr fun s _ => congrArg Φ (Fin.ext ?_)
  show c.val + 2 * s.val = s.val * 2 + c.val
  omega

theorem parts_eq (d : Dev nD) (X : S64x3x85x1024.Idx → F .f32) (th : F .f32) (B : S8x3x7x1024.Idx → F .f32) (K' : S8x3x1024.Idx → F .f32) :
    (iprop((xLoc d ↦{fullShare} X) ∗ (tLoc d ↦{fullShare} fun _ => th) ∗ (bLoc d ↦{fullShare} B) ∗ (kLoc d ↦{fullShare} K')) : Pr F)
      = bigSep Finset.univ fun c : Fin 2 => bigSep Finset.univ fun s : Fin 16 => part d X th B K' (tileNo c s) := by
  have hb : (bLoc d ↦{fullShare} B : Pr F) = bigSep Finset.univ fun w : Fin 32 => bLoc d ↦[boxSet w.val]{fullShare} B := by
    rw [← pointsTo_biUnion Finset.univ (ℓ := bLoc d) (fun w : Fin 32 => boxSet w.val) boxSet_disjoint, boxSet_cover]; try rfl
  have hk : (kLoc d ↦{fullShare} K' : Pr F) = bigSep Finset.univ fun w : Fin 32 => kLoc d ↦[flagSet w.val]{fullShare} K' := by
    rw [← pointsTo_biUnion Finset.univ (ℓ := kLoc d) (fun w : Fin 32 => flagSet w.val) flagSet_disjoint, flagSet_cover]; try rfl
  have hx : (xLoc d ↦{fullShare} X : Pr F) = bigSep Finset.univ fun w : Fin 32 => xLoc d ↦{shr w} X :=
    Transfers.pointsTo_deal Finset.univ Finset.univ_nonempty fullShare
  have ht : (tLoc d ↦{fullShare} (fun _ => th) : Pr F) = bigSep Finset.univ fun w : Fin 32 => tLoc d ↦{shr w} fun _ => th :=
    Transfers.pointsTo_deal Finset.univ Finset.univ_nonempty fullShare
  rw [hb, hk, hx, ht, ← bigSep_tiles (fun w => part d X th B K' w)]
  unfold part
  rw [bigSep_sep', bigSep_sep', bigSep_sep']

end Cert.Proof.Tile

end
-- ==== Proof.TcProg.lean ====
/-
  The TensorCore kernel's body as one block, said once: batch `b` of the eight fetched, anchor `a`. The body is the
  threshold's read and the twenty-four blocks.
-/
module

public import proofs.«01_k».proof.Defs
public import proofs.«01_k».proof.Proof.Gen.KernelIdeal

@[expose] public section

noncomputable section

namespace Cert.Proof.Tc

open Cert.KernelIdeal
open Cert.KernelIdeal.Facts₀ Cert.KernelIdeal.Facts
open Idealize.ShloMosaic Idealize.SL.Sem

variable {F : FTy → Type} [FloatOps F]

/-- The lanes 0 … 1023. -/
abbrev lane : IVec S1x1024 32 := iota .tc S1x1024 32 [1] iota_S1x1024_d1_w32
abbrev w32 : BitVec 32 := Scalar.select (Scalar.cmpi .eq 32#32 0#32) 1#32 32#32

/-- Each lane's column of the grid: the remainder by 32, as the program computes it. -/
def gridX : IVec S1x1024 32 :=
  select (andi (xori (cmpi .slt (remsi lane (broadcast S1x1024 w32)) (broadcast S1x1024 0#32))
      (broadcastTo S1x1024 (broadcast S1x1024 (Scalar.cmpi .slt w32 0#32)) broadcasts_S1x1024_S1x1024))
      (cmpi .ne (remsi lane (broadcast S1x1024 w32)) (broadcast S1x1024 0#32)))
    (addi (remsi lane (broadcast S1x1024 w32)) (broadcast S1x1024 w32)) (remsi lane (broadcast S1x1024 w32))

/-- Each lane's row of the grid: the quotient by 32, as the program computes it. -/
def gridY : IVec S1x1024 32 :=
  select (andi (cmpi .ne (subi (extui 32 (cmpi .sgt lane (broadcast S1x1024 0#32)) natLt_1_32) (extui 32 (cmpi .slt lane (broadcast S1x1024 0#32)) natLt_1_32))
        (broadcast S1x1024 (Scalar.subi (Scalar.extui (Scalar.cmpi .sgt 32#32 0#32)) (Scalar.extui (Scalar.cmpi .slt 32#32 0#32)))))
      (cmpi .ne (remsi lane (broadcast S1x1024 32#32)) (broadcast S1x1024 0#32)))
    (subi (divsi lane (broadcast S1x1024 32#32)) (broadcast S1x1024 1#32)) (divsi lane (broadcast S1x1024 32#32))

/-- The logistic function as the kernel spells it. -/
abbrev sigR (x : FVec F S1x1024 .f32) : FVec F S1x1024 .f32 :=
  divf (broadcast S1x1024 (Scalar.ofBits .f32 0x3F800000#32))
    (addf (broadcast S1x1024 (Scalar.ofBits .f32 0x3F800000#32)) (exp (subf (broadcast S1x1024 (Scalar.ofBits .f32 0x00000000#32)) x)))

section Rows
variable (t : FVec F S85x1024 .f32)

abbrev clsR : FVec F S80x1024 .f32 := extractStridedSlice S80x1024 ![5, 0] t slices_S85x1024_o5_0_S80x1024
/-- The largest class of each column. -/
abbrev topR : FVec F S1x1024 .f32 :=
  shapeCast S1x1024 (multiReduction .maximumf [0] S1024 (clsR t) 0xFF800000#32 reduces_S80x1024_S1024 (.inl rfl) rfl) shapeCasts_S1024_S1x1024
abbrev topB : FVec F S80x1024 .f32 := broadcastTo S80x1024 (topR t) broadcasts_S1x1024_S80x1024

def rowXs : FVec F S1x1024 .f32 :=
  mulf (addf (sigR (extractStridedSlice S1x1024 ![0, 0] t slices_S85x1024_o0_0_S1x1024)) (sitofp .f32 gridX)) (broadcast S1x1024 (Scalar.ofBits .f32 0x3D000000#32))
def rowYs : FVec F S1x1024 .f32 :=
  mulf (addf (sigR (extractStridedSlice S1x1024 ![1, 0] t slices_S85x1024_o1_0_S1x1024)) (sitofp .f32 gridY)) (broadcast S1x1024 (Scalar.ofBits .f32 0x3D000000#32))
def rowWs (aw : BitVec 32) : FVec F S1x1024 .f32 :=
  mulf (exp (extractStridedSlice S1x1024 ![2, 0] t slices_S85x1024_o2_0_S1x1024)) (broadcast S1x1024 (Scalar.ofBits .f32 aw))
def rowHs (ah : BitVec 32) : FVec F S1x1024 .f32 :=
  mulf (exp (extractStridedSlice S1x1024 ![3, 0] t slices_S85x1024_o3_0_S1x1024)) (broadcast S1x1024 (Scalar.ofBits .f32 ah))
def rowDet : FVec F S1x1024 .f32 := sigR (extractStridedSlice S1x1024 ![4, 0] t slices_S85x1024_o4_0_S1x1024)
def rowConf : FVec F S1x1024 .f32 :=
  divf (broadcast S1x1024 (Scalar.ofBits .f32 0x3F800000#32))
    (shapeCast S1x1024 (multiReduction .add [0] S1024 (exp (subf (clsR t) (topB t))) 0x00000000#32 reduces_S80x1024_S1024 (.inl rfl) rfl) shapeCasts_S1024_S1x1024)
def rowCid : FVec F S1x1024 .f32 :=
  sitofp .f32 (shapeCast S1x1024 (multiReductionI .minsi [0] S1024
    (select (cmpf .oeq (clsR t) (topB t)) (iota .tc S80x1024 32 [0] iota_S80x1024_d0_w32) (broadcast S80x1024 80#32)) 2147483647#32 reduces_S80x1024_S1024 rfl) shapeCasts_S1024_S1x1024)

/-- The seven rows of a block's boxes. -/
def tcBoxes (aw ah : BitVec 32) : FVec F S7x1024 .f32 :=
  concatenate S7x1024 0 [⟨S1x1024, rowXs t⟩, ⟨S1x1024, rowYs t⟩, ⟨S1x1024, rowWs t aw⟩, ⟨S1x1024, rowHs t ah⟩, ⟨S1x1024, rowDet t⟩, ⟨S1x1024, rowConf t⟩, ⟨S1x1024, rowCid t⟩]
    concatenates_S1x1024_S1x1024_S1x1024_S1x1024_S1x1024_S1x1024_S1x1024_S7x1024_d0

/-- The flags of a block, widened. -/
def tcKeep (th : F .f32) : IVec S1x1024 32 := extui 32 (cmpf .ogt (rowDet t) (broadcast S1x1024 th)) natLt_1_32
end Rows

/-! ## The blocks -/

theorem xin {b a : ℕ} (hb : b < 8) (ha : a < 3) : ∀ d, (![b, a, 0, 0] : Fin 4 → ℕ) d + S1x1x85x1024.size d ≤ S8x3x85x1024.size d := by
  intro d; fin_cases d
  · show b + 1 ≤ 8; omega
  · show a + 1 ≤ 3; omega
  · show 0 + 85 ≤ 85; omega
  · show 0 + 1024 ≤ 1024; omega
theorem bin {b a : ℕ} (hb : b < 8) (ha : a < 3) : ∀ d, (![b, a, 0, 0] : Fin 4 → ℕ) d + S1x1x7x1024.size d ≤ S8x3x7x1024.size d := by
  intro d; fin_cases d
  · show b + 1 ≤ 8; omega
  · show a + 1 ≤ 3; omega
  · show 0 + 7 ≤ 7; omega
  · show 0 + 1024 ≤ 1024; omega
theorem kin {b a : ℕ} (hb : b < 8) (ha : a < 3) : ∀ d, (![b, a, 0, 0] : Fin 4 → ℕ) d + S1x1x1x1024.size d ≤ S8x3x1x1024.size d := by
  intro d; fin_cases d
  · show b + 1 ≤ 8; omega
  · show a + 1 ≤ 3; omega
  · show 0 + 1 ≤ 1; omega
  · show 0 + 1024 ≤ 1024; omega

abbrev TcP : Type 1 := Prog (TpuEff nD τ sig (Elt F) Λ₀ .tc) PUnit

variable (arg1 : Memref sig .tc .smem S1 .f32) (arg2 : Memref sig .tc .vmem S8x3x85x1024 .f32)
  (arg3 : Memref sig .tc .vmem S8x3x7x1024 .f32) (arg4 : Memref sig .tc .vmem S8x3x1x1024 .i32)

abbrev rows85 (v : Vec F S1x1x85x1024 .f32) : FVec F S85x1024 .f32 := shapeCast S85x1024 v shapeCasts_S1x1x85x1024_S85x1024

/-- One block: batch `b` of the eight, anchor `a` with its box sizes. -/
def tcBlk (th : F .f32) {b a : ℕ} (hb : b < 8) (ha : a < 3) (aw ah : BitVec 32) (rest : TcP (F := F)) : TcP (F := F) :=
  .op (.load arg2 (Rect.unit (s := S8x3x85x1024) ![b, a, 0, 0] S1x1x85x1024.size (xin hb ha)).toLoadRect (View.loadsAt_vmem h_S1x1x85x1024)) fun (v : Vec F S1x1x85x1024 .f32) =>
  .op (.load arg3 (Rect.unit (s := S8x3x7x1024) ![b, a, 0, 0] S1x1x7x1024.size (bin hb ha)).toLoadRect (View.loadsAt_vmem h_S1x1x7x1024)) fun _ =>
  .op (.store arg3 (Rect.unit (s := S8x3x7x1024) ![b, a, 0, 0] S1x1x7x1024.size (bin hb ha)) (shapeCast S1x1x7x1024 (tcBoxes (rows85 v) aw ah) shapeCasts_S7x1024_S1x1x7x1024)
    Finset.univ (View.stores_vmem_bits_univ h_S1x1x7x1024 rfl) (.inl rfl)) fun _ =>
  .op (.load arg4 (Rect.unit (s := S8x3x1x1024) ![b, a, 0, 0] S1x1x1x1024.size (kin hb ha)).toLoadRect (View.loadsAt_vmem h_S1x1x1x1024)) fun _ =>
  .op (.store arg4 (Rect.unit (s := S8x3x1x1024) ![b, a, 0, 0] S1x1x1x1024.size (kin hb ha)) (shapeCast S1x1x1x1024 (tcKeep (rows85 v) th) shapeCasts_S1x1024_S1x1x1x1024)
    Finset.univ (View.stores_vmem_bits_univ h_S1x1x1x1024 rfl) (.inl rfl)) fun _ => rest

/-- The three blocks of a batch. -/
def tcBatch (th : F .f32) {b : ℕ} (hb : b < 8) (rest : TcP (F := F)) : TcP (F := F) :=
  tcBlk arg2 arg3 arg4 th hb (a := 0) (by omega) 0x3E0E0000#32 0x3DDC0000#32 <|
  tcBlk arg2 arg3 arg4 th hb (a := 1) (by omega) 0x3E400000#32 0x3E730000#32 <|
  tcBlk arg2 arg3 arg4 th hb (a := 2) (by omega) 0x3EE58000#32 0x3EC88000#32 rest

def tcProg : TcP (F := F) :=
  smemLoad arg1 (Rect.unit (s := S1) ![0] S1.size inb_S1_S1_0) numel1_S1 rfl >>= fun th =>
  tcBatch arg2 arg3 arg4 th (b := 0) (by omega) <|
  tcBatch arg2 arg3 arg4 th (b := 1) (by omega) <|
  tcBatch arg2 arg3 arg4 th (b := 2) (by omega) <|
  tcBatch arg2 arg3 arg4 th (b := 3) (by omega) <|
  tcBatch arg2 arg3 arg4 th (b := 4) (by omega) <|
  tcBatch arg2 arg3 arg4 th (b := 5) (by omega) <|
  tcBatch arg2 arg3 arg4 th (b := 6) (by omega) <|
  tcBatch arg2 arg3 arg4 th (b := 7) (by omega) <|
  .ret ⟨⟩

end Cert.Proof.Tc

end
-- ==== Proof.TcEq.lean ====
/-
  The printed body of the TensorCore kernel is `tcProg`: one operation at a time, the text of both opened by computation.
-/
module

public import proofs.«01_k».proof.Proof.TcProg

@[expose] public section

noncomputable section

namespace Cert.Proof.Tc

open Cert.KernelIdeal
open Cert.KernelIdeal.Facts₀ Cert.KernelIdeal.Facts
open Idealize.ShloMosaic Idealize.SL.Sem

variable {F : FTy → Type} [FloatOps F]

/-- Two programs that begin with the same operation. -/
theorem tc_step {E : Type → Type _} {α β : Type} {e : E β} {k k' : β → Prog E α} (h : ∀ x, k x = k' x) : Prog.op e k = Prog.op e k' := by
  rw [funext h]

set_option maxRecDepth 65536 in
set_option maxHeartbeats 40000000 in
/-- The body is `tcProg`: step by step, what either does next is read off by computation. -/
theorem tc_eq (i : grid1.Coords) (arg1 harg1 arg2 harg2 arg3 harg3 arg4 harg4) :
    cc1__tc_body (F := F) i arg1 harg1 arg2 harg2 arg3 harg3 arg4 harg4 = tcProg arg1 arg2 arg3 arg4 := by
  symm
  unfold tcProg
  conv => { lhs; whnf }
  repeat
    conv => { rhs; whnf }
    refine tc_step fun _ => ?_; conv => { lhs; whnf }
  rfl

end Cert.Proof.Tc

end
-- ==== Proof.TcWp.lean ====
/-
  The TensorCore kernel's body run at one grid point: the twenty-four blocks of the two result buffers come to hold the
  rows computed from the fetched buffer's blocks.
-/
module

public import proofs.«01_k».proof.Proof.Setup
public import proofs.«01_k».proof.Proof.Spec
public import proofs.«01_k».proof.Proof.TcProg
public import Idealize.ShloMosaic.Lib.Writes
public import Idealize.ShloMosaic.Lib.ValueIdx
public import Idealize.ShloMosaic.Lib.Pipeline.Value

@[expose] public section

noncomputable section

namespace Cert.Proof.Tc

open Cert.KernelIdeal
open Cert.KernelIdeal.Facts₀ Cert.KernelIdeal.Facts
open Idealize.ShloMosaic Idealize.ShloMosaic.ValueIdx
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

abbrev TT (d : Dev nD) : Thread nD τ := SparseCore.T d

variable (d : Dev nD)

/-- What a program of the TensorCore kernel comes to. -/
abbrev Wp (p : TcP (F := F)) (Q : PUnit → Pr F) : Pr F :=
  wp frame (wpE (defs₀ (F := F)) 𝒱₀ (TT d) none) Set.univ p Q

/-- The features of block `(b, a)`. -/
def rowsAt (x : S8x3x85x1024.Idx → F .f32) (b : Fin 8) (a : Fin 3) : FVec F S85x1024 .f32 := fun j => x (ix4 b a (j 0) (j 1))

/-- What the two result buffers come to hold. -/
def tcB (x : S8x3x85x1024.Idx → F .f32) : S8x3x7x1024.Idx → F .f32 :=
  fun y => tcBoxes (rowsAt x (y 0) (y 1)) (Spec.anchW (y 1)) (Spec.anchH (y 1)) (ix2 (y 2) (y 3))
def tcK (x : S8x3x85x1024.Idx → F .f32) (th : F .f32) : S8x3x1x1024.Idx → BitVec 32 :=
  fun y => tcKeep (rowsAt x (y 0) (y 1)) th (ix2 (y 2) (y 3))

/-- The blocks numbered below `n` are done. -/
def Done {γ : Type} {m k : ℕ} (n : ℕ) (T f : (⟨4, ![8, 3, m, k]⟩ : Shape).Idx → γ) : Prop :=
  ∀ y, 3 * (y 0).val + (y 1).val < n → f y = T y

theorem Done.cast {γ : Type} {m k n n' : ℕ} {T f : (⟨4, ![8, 3, m, k]⟩ : Shape).Idx → γ} (h : Done n T f) (e : n = n') : Done n' T f := e ▸ h

variable (arg1 : Memref sig .tc .smem S1 .f32) (arg2 : Memref sig .tc .vmem S8x3x85x1024 .f32)
  (arg3 : Memref sig .tc .vmem S8x3x7x1024 .f32) (arg4 : Memref sig .tc .vmem S8x3x1x1024 .i32)

abbrev Held {sp : Space} {s : Shape} {e : EltTy} (m : Memref sig .tc sp s e) (g : Buf (Elt F) (m.view.loc (TT d))) : Pr F :=
  m.view.loc (TT d) ↦[m.view.set]{fullShare} g

theorem rows_read (g : Buf (Elt F) (arg2.view.loc (TT d))) {b a : ℕ} (hb : b < 8) (ha : a < 3) :
    rows85 (F := F) (arg2.view.readAt (Elt F) (Rect.unit (s := S8x3x85x1024) ![b, a, 0, 0] S1x1x85x1024.size (xin hb ha)).toLoadRect g)
      = rowsAt (arg2.view.read (Elt F) g) ⟨b, hb⟩ ⟨a, ha⟩ := by
  funext j
  unfold rows85 rowsAt
  refine (shapeCast_apply (s := S1x1x85x1024) (t := S85x1024) _ _ j (ix4 (0 : Fin 1) (0 : Fin 1) (j 0) (j 1)) ?_).trans ?_
  · rw [Shape.rowMajor_val_four, Shape.rowMajor_val_two]; simp
  rw [View.readAt_apply]
  congr 1
  funext x
  apply Fin.ext
  match x with
  | ⟨0, _⟩ => simp [LoadRect.idx, Rect.unit]
  | ⟨1, _⟩ => simp [LoadRect.idx, Rect.unit]
  | ⟨2, _⟩ => simp [LoadRect.idx, Rect.unit]
  | ⟨3, _⟩ => simp [LoadRect.idx, Rect.unit]

/-- Writing block `(b, a)` brings the count on by one. -/
theorem done_write {m k : ℕ} {e : EltTy} (M : Memref sig .tc .vmem (⟨4, ![8, 3, m, k]⟩ : Shape) e) (g : Buf (Elt F) (M.view.loc (TT d)))
    {b a : ℕ} (ha : a < 3)
    (h : ∀ x, (![b, a, 0, 0] : Fin 4 → ℕ) x + (⟨4, ![1, 1, m, k]⟩ : Shape).size x ≤ (⟨4, ![8, 3, m, k]⟩ : Shape).size x)
    (w : (⟨4, ![1, 1, m, k]⟩ : Shape).Idx → Elt F e) (T : (⟨4, ![8, 3, m, k]⟩ : Shape).Idx → Elt F e)
    (hw : ∀ y, (y 0).val = b → (y 1).val = a → w (ix4 (0 : Fin 1) (0 : Fin 1) (y 2) (y 3)) = T y)
    (hg : Done (3 * b + a) T (M.view.read (Elt F) g)) :
    Done (3 * b + a + 1) T (M.view.read (Elt F)
      (M.view.writes (Elt F) g [⟨Rect.unit (s := (⟨4, ![8, 3, m, k]⟩ : Shape)) ![b, a, 0, 0] (⟨4, ![1, 1, m, k]⟩ : Shape).size h, w⟩])) := by
  intro y hy
  have h1 : (y 1).val < 3 := (y 1).isLt
  by_cases e0 : (y 0).val = b
  · by_cases e1 : (y 1).val = a
    · refine (View.read_writes_cons_hit_of_coords M.view g (Rect.unit (s := (⟨4, ![8, 3, m, k]⟩ : Shape)) ![b, a, 0, 0] (⟨4, ![1, 1, m, k]⟩ : Shape).size h)
        w [] (show (⟨4, ![1, 1, m, k]⟩ : Shape).Idx from ix4 (0 : Fin 1) (0 : Fin 1) (y 2) (y 3)) y ?_).trans ?_
      rotate_left
      · exact hw y e0 e1
      · intro x
        match x with
        | ⟨0, _⟩ => simpa [Rect.unit] using e0
        | ⟨1, _⟩ => simpa [Rect.unit] using e1
        | ⟨2, _⟩ => simp [Rect.unit]
        | ⟨3, _⟩ => simp [Rect.unit]
    · rw [View.read_writes_cons_miss_of_axis M.view g _ [] y 1 a 1 rfl rfl rfl (by omega)]
      exact hg y (by omega)
  · rw [View.read_writes_cons_miss_of_axis M.view g _ [] y 0 b 1 rfl rfl rfl (by omega)]
    exact hg y (by omega)

theorem wp_tcBlk (x : S8x3x85x1024.Idx → F .f32) (th : F .f32) {b a : ℕ} (hb : b < 8) (ha : a < 3) (aw ah : BitVec 32)
    (haw : aw = Spec.anchW ⟨a, ha⟩) (hah : ah = Spec.anchH ⟨a, ha⟩) (rest : TcP (F := F)) (Q : PUnit → Pr F)
    (g2 : Buf (Elt F) (arg2.view.loc (TT d))) (h2 : arg2.view.read (Elt F) g2 = x)
    (g3 : Buf (Elt F) (arg3.view.loc (TT d))) (h3 : Done (3 * b + a) (tcB x) (arg3.view.read (Elt F) g3))
    (g4 : Buf (Elt F) (arg4.view.loc (TT d))) (h4 : Done (3 * b + a) (tcK x th) (arg4.view.read (Elt F) g4))
    (k : ∀ (g3' : Buf (Elt F) (arg3.view.loc (TT d))) (g4' : Buf (Elt F) (arg4.view.loc (TT d))),
      Done (3 * b + a + 1) (tcB x) (arg3.view.read (Elt F) g3') → Done (3 * b + a + 1) (tcK x th) (arg4.view.read (Elt F) g4') →
      iprop(Held d arg2 g2 ∗ Held d arg3 g3' ∗ Held d arg4 g4') ⊢ Wp d rest Q) :
    iprop(Held d arg2 g2 ∗ Held d arg3 g3 ∗ Held d arg4 g4) ⊢ Wp d (tcBlk arg2 arg3 arg4 th hb ha aw ah rest) Q := by
  subst haw hah
  unfold tcBlk Wp
  iintro ⟨H2, H3, H4⟩
  iapply (wp_load 𝒱₀ (TT d) none Set.univ (arg2.view.setOn_subset_set _)) $$ H2
  iintro H2
  iapply (wp_load 𝒱₀ (TT d) none Set.univ (arg3.view.setOn_subset_set _)) $$ H3
  iintro H3
  iapply (wp_store_writes₀ 𝒱₀ (TT d) none Set.univ (arg3.view.set_slice_subset _)) $$ H3
  iintro H3
  iapply (wp_load 𝒱₀ (TT d) none Set.univ (arg4.view.setOn_subset_set _)) $$ H4
  iintro H4
  iapply (wp_store_writes₀ 𝒱₀ (TT d) none Set.univ (arg4.view.set_slice_subset _)) $$ H4
  iintro H4
  rw [rows_read d arg2 g2 hb ha, h2]
  iapply (k _ _ (done_write d arg3 g3 ha _ _ _ ?_ h3) (done_write d arg4 g4 ha _ _ _ ?_ h4))
  rotate_left 2
  · isplitl [H2]; · iexact H2
    isplitl [H3] <;> iassumption
  · intro y e0 e1
    refine (shapeCast_apply (s := S7x1024) (t := S1x1x7x1024) _ _ _ (ix2 (y 2) (y 3)) ?_).trans ?_
    · rw [Shape.rowMajor_val_four, Shape.rowMajor_val_two]; simp
    · unfold tcB
      rw [show y 0 = (⟨b, hb⟩ : Fin 8) from Fin.ext e0, show y 1 = (⟨a, ha⟩ : Fin 3) from Fin.ext e1]
  · intro y e0 e1
    refine (shapeCast_apply (s := S1x1024) (t := S1x1x1x1024) _ _ _ (ix2 (y 2) (y 3)) ?_).trans ?_
    · rw [Shape.rowMajor_val_four, Shape.rowMajor_val_two]; simp
    · unfold tcK
      rw [show y 0 = (⟨b, hb⟩ : Fin 8) from Fin.ext e0, show y 1 = (⟨a, ha⟩ : Fin 3) from Fin.ext e1]

/-- The three blocks of a batch. -/
theorem wp_tcBatch (x : S8x3x85x1024.Idx → F .f32) (th : F .f32) {b : ℕ} (hb : b < 8) (rest : TcP (F := F)) (Q : PUnit → Pr F)
    (g2 : Buf (Elt F) (arg2.view.loc (TT d))) (h2 : arg2.view.read (Elt F) g2 = x)
    (k : ∀ (g3' : Buf (Elt F) (arg3.view.loc (TT d))) (g4' : Buf (Elt F) (arg4.view.loc (TT d))),
      Done (3 * (b + 1)) (tcB x) (arg3.view.read (Elt F) g3') → Done (3 * (b + 1)) (tcK x th) (arg4.view.read (Elt F) g4') →
      iprop(Held d arg2 g2 ∗ Held d arg3 g3' ∗ Held d arg4 g4') ⊢ Wp d rest Q)
    (g3 : Buf (Elt F) (arg3.view.loc (TT d))) (g4 : Buf (Elt F) (arg4.view.loc (TT d)))
    (h3 : Done (3 * b) (tcB x) (arg3.view.read (Elt F) g3)) (h4 : Done (3 * b) (tcK x th) (arg4.view.read (Elt F) g4)) :
    iprop(Held d arg2 g2 ∗ Held d arg3 g3 ∗ Held d arg4 g4) ⊢ Wp d (tcBatch arg2 arg3 arg4 th hb rest) Q :=
  wp_tcBlk d arg2 arg3 arg4 x th hb (a := 0) _ _ _ rfl rfl _ Q g2 h2 g3 (h3.cast (by omega)) g4 (h4.cast (by omega)) fun g3 g4 h3 h4 =>
  wp_tcBlk d arg2 arg3 arg4 x th hb (a := 1) _ _ _ rfl rfl _ Q g2 h2 g3 (h3.cast (by omega)) g4 (h4.cast (by omega)) fun g3 g4 h3 h4 =>
  wp_tcBlk d arg2 arg3 arg4 x th hb (a := 2) _ _ _ rfl rfl _ Q g2 h2 g3 (h3.cast (by omega)) g4 (h4.cast (by omega)) fun g3 g4 h3 h4 =>
  k g3 g4 (h3.cast (by omega)) (h4.cast (by omega))

/-- The body at one point: the result buffers at the rows of the fetched one. -/
theorem wp_tcProg (x : S8x3x85x1024.Idx → F .f32) (t1 : S1.Idx → F .f32) (X3 : S8x3x7x1024.Idx → F .f32) (X4 : S8x3x1x1024.Idx → BitVec 32)
    (Q : PUnit → Pr F) :
    iprop((owns (TT d) arg1 fullShare t1 ∗ owns (TT d) arg2 fullShare x ∗ owns (TT d) arg3 fullShare X3 ∗ owns (TT d) arg4 fullShare X4)
        ∗ ((owns (TT d) arg1 fullShare t1 ∗ owns (TT d) arg2 fullShare x ∗ owns (TT d) arg3 fullShare (tcB x)
          ∗ owns (TT d) arg4 fullShare (tcK x (t1 (ix1 (0 : Fin 1))))) -∗ Q ⟨⟩))
      ⊢ Wp d (tcProg arg1 arg2 arg3 arg4) Q := by
  unfold owns
  iintro ⟨⟨⟨%g1, %h1, H1⟩, ⟨%g2, %h2, H2⟩, ⟨%g3, -, H3⟩, ⟨%g4, -, H4⟩⟩, HK⟩
  unfold tcProg smemLoad Wp
  rw [wp_bind]
  iapply (wp_smemLoadElt 𝒱₀ (TT d) none Set.univ (m := arg1) (r := Rect.unit (s := S1) ![0] S1.size inb_S1_S1_0) (S := arg1.view.set) (f := g1)
    (arg1.view.set_slice_subset _)) $$ H1
  iintro H1
  rw [wp_ret]
  imodintro
  have e1 : (arg1.access (Rect.unit (s := S1) ![0] S1.size inb_S1_S1_0)).read (Elt F) g1 (Shape.Idx.first (numel1_S1.symm ▸ Nat.one_pos))
      = t1 (ix1 (0 : Fin 1)) := by
    rw [← h1]
    show arg1.view.read (Elt F) g1 _ = _
    congr 1
    funext a
    match a with
    | ⟨0, _⟩ => exact Subsingleton.elim (α := Fin 1) _ _
  rw [e1]
  have all : ∀ {γ : Type} {m k : ℕ} {T f : (⟨4, ![8, 3, m, k]⟩ : Shape).Idx → γ}, Done (3 * (7 + 1)) T f → f = T := fun h => funext fun y => h y (by
    have h0 : (y 0).val < 8 := (y 0).isLt
    have h1 : (y 1).val < 3 := (y 1).isLt
    omega)
  have run := wp_tcBatch d arg2 arg3 arg4 x (t1 (ix1 (0 : Fin 1))) (b := 0) (by omega) _ (fun _ => iprop(owns (TT d) arg2 fullShare x ∗ owns (TT d) arg3 fullShare (tcB x)
          ∗ owns (TT d) arg4 fullShare (tcK x (t1 (ix1 (0 : Fin 1)))))) g2 h2
    (wp_tcBatch d arg2 arg3 arg4 x _ (b := 1) (by omega) _ _ g2 h2 <|
     wp_tcBatch d arg2 arg3 arg4 x _ (b := 2) (by omega) _ _ g2 h2 <|
     wp_tcBatch d arg2 arg3 arg4 x _ (b := 3) (by omega) _ _ g2 h2 <|
     wp_tcBatch d arg2 arg3 arg4 x _ (b := 4) (by omega) _ _ g2 h2 <|
     wp_tcBatch d arg2 arg3 arg4 x _ (b := 5) (by omega) _ _ g2 h2 <|
     wp_tcBatch d arg2 arg3 arg4 x _ (b := 6) (by omega) _ _ g2 h2 <|
     wp_tcBatch d arg2 arg3 arg4 x _ (b := 7) (by omega) (.ret ⟨⟩) _ g2 h2 fun g3 g4 h3 h4 => by
      unfold Wp owns
      rw [wp_ret]
      iintro ⟨H2, H3, H4⟩
      imodintro
      isplitl [H2]
      · iexists g2; isplitr; · ipureintro; exact h2
        iexact H2
      isplitl [H3]
      · iexists g3; isplitr; · ipureintro; exact all h3
        iexact H3
      · iexists g4; isplitr; · ipureintro; exact all h4
        iexact H4)
    g3 g4 (fun y h => absurd h (by omega)) (fun y h => absurd h (by omega))
  ihave Hw := run $$ [H2 H3 H4]
  · isplitl [H2]; · iexact H2
    isplitl [H3] <;> iassumption
  iapply (wp_wand frame (wpE (defs₀ (F := F)) 𝒱₀ (TT d) none) Set.univ (Q := fun _ => iprop(owns (TT d) arg2 fullShare x ∗ owns (TT d) arg3 fullShare (tcB x)
          ∗ owns (TT d) arg4 fullShare (tcK x (t1 (ix1 (0 : Fin 1))))))) $$ Hw
  iintro %u ⟨H2, H3, H4⟩
  iapply HK
  unfold owns
  isplitl [H1]
  · iexists g1; isplitr; · ipureintro; exact h1
    iexact H1
  isplitl [H2]; · iexact H2
  isplitl [H3] <;> iassumption

end Cert.Proof.Tc

end
-- ==== Proof.TcRegion.lean ====
/-
  The TensorCore call of @main as one region: its four windows' arrays enter at given contents and leave with the two
  results computed from the planes.
-/
module

public import proofs.«01_k».proof.Proof.Setup
public import proofs.«01_k».proof.Proof.TcEq
public import proofs.«01_k».proof.Proof.TcWp
public import proofs.«01_k».proof.Proof.Gen.KernelIdeal.Points
public import Idealize.ShloMosaic.Lib.Pipeline.Frame
public import Idealize.ShloMosaic.Lib.Pipeline.FrameBody
public import Idealize.ShloMosaic.Lib.Pipeline.FrameTail
public import Idealize.ShloMosaic.Lib.Pipeline.ValueKit
public import Idealize.ShloMosaic.Lib.Pipeline.ValueKit.Geometry

@[expose] public section

noncomputable section

namespace Cert.Proof.Tc

open Cert.KernelIdeal
open Cert.KernelIdeal.Facts₀ Cert.KernelIdeal.Facts
open Idealize.ShloMosaic Idealize.ShloMosaic.Pipeline Idealize.ShloMosaic.Rounds
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

-- The valuation at the region's entry, per device.
variable (W : Dev nD → Valuation τ sig (Elt F))

/-- The planes and the threshold's buffer as the region finds them. -/
abbrev planes (d : Dev nD) : S64x3x85x1024.Idx → F .f32 := W d (Proc.devRef .tc main_v0)
abbrev thr1 (d : Dev nD) : S1.Idx → F .f32 := W d (Proc.devRef .tc main_v4)

/-- The planes of the eight batches of a grid point. -/
def planesAt (d : Dev nD) (t : Fin cfg1.N) : S8x3x85x1024.Idx → F .f32 :=
  (win1_1.blk t).view.read (Elt F) (planes W d)

/-- The threshold's block: its whole buffer at every point. -/
def thrAt (d : Dev nD) (t : Fin cfg1.N) : S1.Idx → F .f32 :=
  (win1_0.blk t).view.read (Elt F) (thr1 W d)

/-- The waits recorded up to the region's end sit at or below the level of the SparseCore call's end. -/
def rec8 (d : Dev nD) : Set (SemLoc sig × HIx 1) := {p | (K (F := F)).lev (SparseCore.T d, p.1) p.2 ≤ 8}

/-- The region's proof data. -/
def dats (_ : Fin 1) (d : Dev nD) : Dat τ (Elt F) (HIx 1) ℕ UU ℕ cfg1 d where
  A w := W d (Proc.devRef .tc (arrRef spec1 w))
  after w t := match w with
    | ⟨0, _⟩ => thrAt W d t
    | ⟨1, _⟩ => planesAt W d t
    | ⟨2, _⟩ => tcB (planesAt W d t)
    | ⟨3, _⟩ => tcK (planesAt W d t) (thrAt W d t (ValueIdx.ix1 (0 : Fin 1)))
  Φ _ := iprop(emp)
  q _ := fullShare
  owed _ := 0
  recorded _ := rec8 (F := F) d

theorem A_eq (d : Dev nD) (w : Fin cfg1.W) : (dats W 0 d).A w = W d (Proc.devRef .tc (arrRef spec1 w)) := by
  dsimp only [dats]

theorem before_0 (d : Dev nD) (t : Fin cfg1.N) (x) : (dats W 0 d).before (0 : Fin 4) t x = thrAt W d t :=
  (dats W 0 d).before_in_eq_fetched (0 : Fin 4) rfl (fun _ => rfl) (fun _ _ _ => rfl) (fun _ => rfl) t x

theorem before_1 (d : Dev nD) (t : Fin cfg1.N) (x) : (dats W 0 d).before (1 : Fin 4) t x = planesAt W d t :=
  (dats W 0 d).before_in_eq_fetched (1 : Fin 4) rfl (fun _ => rfl) (fun _ _ _ => rfl) (fun _ => rfl) t x

theorem body_obligation (d : Dev nD) :
    BodyObligationLoose (dats W 0 d) (defs₀ (F := F)) 𝒱₀ none Set.univ := fun t => by
  rw [Cert.KernelIdeal.Gen.bigSep_W1, Cert.KernelIdeal.Gen.bigSep_W1]
  simp only
  rw [show (dats W 0 d).Φ t.succ = (dats W 0 d).Φ t.castSucc from rfl,
    show (dats W 0 d).owesAt none t.succ = (dats W 0 d).owesAt none t.castSucc from rfl]
  iintro ⟨HΦ, Ho, ⟨%d0, H0⟩, ⟨%d1, H1⟩, ⟨%d2, H2⟩, ⟨%d3, H3⟩⟩
  rw [before_0 W d t d0, before_1 W d t d1]
  rw [show defs₀ (F := F) .tc cfg1.body (cfg1.bodyArgs t (cfg1.slots t)) = tcProg _ _ _ _ from tc_eq _ _ _ _ _ _ _ _ _]
  iapply (wp_tcProg d _ _ _ _ (planesAt W d t) (thrAt W d t) _ _ _)
  isplitl [H0 H1 H2 H3]
  · isplitl [H0]; · iexact H0
    isplitl [H1]; · iexact H1
    isplitl [H2]; · iexact H2
    iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-! ## The results' arrays after the region -/

/-- The rows of one batch and anchor of the planes. -/
def rows64 (X : S64x3x85x1024.Idx → F .f32) (b : Fin 64) (a : Fin 3) : FVec F S85x1024 .f32 := fun j => X (ValueIdx.ix4 b a (j 0) (j 1))

/-- The boxes of the first fifty-six batches, from the planes. -/
def boxHead (X : S64x3x85x1024.Idx → F .f32) : S56x3x7x1024.Idx → F .f32 := fun y =>
  tcBoxes (rows64 X ((y 0).castLE (by decide)) (y 1)) (Spec.anchW (y 1)) (Spec.anchH (y 1)) (ValueIdx.ix2 (y 2) (y 3))

/-- The keep words of the first fifty-six batches. -/
def flagHead (X : S64x3x85x1024.Idx → F .f32) (th : F .f32) : S56x3x1x1024.Idx → BitVec 32 := fun y =>
  tcKeep (rows64 X ((y 0).castLE (by decide)) (y 1)) th (ValueIdx.ix2 (y 2) (y 3))

theorem e1 : ∀ t : Fin grid1.N, win1_1.index t = ![(grid1.coords t 0).val, 0, 0, 0] := by decide +kernel
theorem e2 : ∀ t : Fin grid1.N, win1_2.index t = ![(grid1.coords t 0).val, 0, 0, 0] := by decide +kernel
theorem e3 : ∀ t : Fin grid1.N, win1_3.index t = ![(grid1.coords t 0).val, 0, 0, 0] := by decide +kernel

/-- The rows of a batch of a point are the rows of that batch of the planes. -/
theorem rowsAt_planes (d : Dev nD) (t : Fin cfg1.N) (b : Fin 8) (a : Fin 3) :
    rowsAt (planesAt W d t) b a = rows64 (planes W d) ⟨8 * (grid1.coords t 0).val + b.val, by have := (grid1.coords t 0).isLt; change _ < 7 at this; omega⟩ a := by
  funext j
  unfold rowsAt planesAt rows64
  blk_simp
  congr 1
  blk_ext [e1]
  simp only [ValueIdx.ix4]; omega

/-- The rows of a batch of a point, the batch named by its number among all. -/
theorem rowsAt_eq (d : Dev nD) (t : Fin cfg1.N) (b : Fin 8) (a : Fin 3) (b' : Fin 64) (a' : Fin 3)
    (hb : b'.val = 8 * (grid1.coords t 0).val + b.val) (ha : a'.val = a.val) : rowsAt (planesAt W d t) b a = rows64 (planes W d) b' a' := by
  obtain rfl := Fin.ext ha
  rw [rowsAt_planes]
  congr 1
  exact Fin.ext hb.symm

theorem tcBoxes_congr {R R' : FVec F S85x1024 .f32} (hR : R = R') {a a' : Fin 3} (ha : a'.val = a.val) {f f' : Fin 7} (hf : f'.val = f.val)
    {l l' : Fin 1024} (hl : l'.val = l.val) :
    tcBoxes R (Spec.anchW a) (Spec.anchH a) (ValueIdx.ix2 f l) = tcBoxes R' (Spec.anchW a') (Spec.anchH a') (ValueIdx.ix2 f' l') := by
  obtain rfl := hR; obtain rfl := Fin.ext ha; obtain rfl := Fin.ext hf; obtain rfl := Fin.ext hl; rfl

theorem tcKeep_congr {R R' : FVec F S85x1024 .f32} (hR : R = R') (th : F .f32) {f f' : Fin 1} (hf : f'.val = f.val)
    {l l' : Fin 1024} (hl : l'.val = l.val) : tcKeep R th (ValueIdx.ix2 f l) = tcKeep R' th (ValueIdx.ix2 f' l') := by
  obtain rfl := hR; obtain rfl := Fin.ext hf; obtain rfl := Fin.ext hl; rfl

theorem box_at (d : Dev nD) (t : Fin cfg1.N) (y : S8x3x7x1024.Idx) (z : S56x3x7x1024.Idx)
    (h0 : (z 0).val = 8 * (grid1.coords t 0).val + (y 0).val) (h1 : (z 1).val = (y 1).val) (h2 : (z 2).val = (y 2).val) (h3 : (z 3).val = (y 3).val) :
    tcB (planesAt W d t) y = boxHead (planes W d) z :=
  tcBoxes_congr (rowsAt_eq W d t _ _ _ _ h0 h1) h1 h2 h3

theorem flag_at (d : Dev nD) (t : Fin cfg1.N) (th : F .f32) (y : S8x3x1x1024.Idx) (z : S56x3x1x1024.Idx)
    (h0 : (z 0).val = 8 * (grid1.coords t 0).val + (y 0).val) (h1 : (z 1).val = (y 1).val) (h2 : (z 2).val = (y 2).val) (h3 : (z 3).val = (y 3).val) :
    tcK (planesAt W d t) th y = flagHead (planes W d) th z :=
  tcKeep_congr (rowsAt_eq W d t _ _ _ _ h0 h1) th h2 h3

theorem thrAt_zero (d : Dev nD) (t : Fin cfg1.N) : thrAt W d t (ValueIdx.ix1 (0 : Fin 1)) = thr1 W d (ValueIdx.ix1 (0 : Fin 1)) := by
  unfold thrAt
  blk_simp
  congr 1
  funext a
  match a with
  | ⟨0, _⟩ => exact Subsingleton.elim (α := Fin 1) _ _

theorem final_2 (d : Dev nD) : (dats W 0 d).arrAt (2 : Fin 4) cfg1.N = boxHead (planes W d) := by
  refine (dats W 0 d).arrAt_eq_of_covers (2 : Fin 4) _ (by decide +kernel) fun t hf y => ?_
  blk_simp
  refine box_at W d t y _ ?_ ?_ ?_ ?_ <;> blk_simp [e2] <;> first | done | omega

theorem final_3 (d : Dev nD) : (dats W 0 d).arrAt (3 : Fin 4) cfg1.N = flagHead (planes W d) (thr1 W d (ValueIdx.ix1 (0 : Fin 1))) := by
  refine (dats W 0 d).arrAt_eq_of_covers (3 : Fin 4) _ (by decide +kernel) fun t hf y => ?_
  blk_simp
  show tcK (planesAt W d t) (thrAt W d t (ValueIdx.ix1 (0 : Fin 1))) y = _
  rw [thrAt_zero]
  refine flag_at W d t _ y _ ?_ ?_ ?_ ?_ <;> blk_simp [e3] <;> first | done | omega

/-! ## The region -/

/-- The admissible contents of the prefetched tables: there is no table. -/
abbrev adm : (p : Fin 1) → (pcfgs (F := F) p).Adm := fun p => (cfgs p).toPCfg_adm

/-- Where the region's rounds live among the ghosts. -/
def EP : Emb UP (MT nD τ sig (HIx 1) (Elt F) ℕ UU ℕ) := (Emb.inl : Emb UP (UP × Counters)).trans embR

instance : (EP (F := F)).LandsIn (upEmb : UEmb _ (MT nD τ sig (HIx 1) (Elt F) ℕ UU ℕ)) := by unfold EP; infer_instance

/-- What the core owes around the region: nothing, its recorded waits at or below level eight. -/
abbrev owes8 (d : Dev nD) : Pr F :=
  iprop(∃ Wd, ⌜(K (F := F)).WBelow (SparseCore.T d) Wd 8⌝ ∗ owes (SparseCore.T d) (0 : CellTallies nD τ sig (HIx 1)) Wd)

/-- The contents of every buffer after the region. -/
abbrev Wafter (d : Dev nD) : Valuation τ sig (Elt F) := afterRegion (dats W 0 d) (W d)

set_option backward.isDefEq.respectTransparency.types false in
def reg : RegionSeg (pcfgs (F := F)) adm (dats W) none defs₀ 𝒱₀ (K (F := F)).L (K (F := F)).lev 0 where
  win := Cert.KernelIdeal.Gen.launch1.win.to₀
  block_pos := Cert.KernelIdeal.Gen.launch1.block_pos
  stage_whole := Cert.KernelIdeal.Gen.launch1.stage_whole
  K := PEmpty
  osem := fun k => k.elim
  ho := OwnSemFacts.none _
  hbody d := body_obligation W d
  hwaits := hwaits_of_owed_zero _ _ _ _ (K (F := F)).L (K (F := F)).lev 0 fun _ _ => rfl
  pre d := iprop(StableHlo.held (d.tc : Thread nD τ) (ucRefs τ sig) (W d) ∗ owes8 d)
  post d := iprop(StableHlo.held (d.tc : Thread nD τ) (ucRefs τ sig) (Wafter W d) ∗ owes8 d)
  X _ := iprop(emp)
  Y _ := iprop(emp)
  Z d := unscopedRest (Ix := HIx 1) (Name := ℕ) (U := UU) (Lvl := ℕ) spec1 d (fun b => W d (Proc.devRef .tc b))
  hentry d := by
    rw [ownSems0_none,
      show StableHlo.held (d.tc : Thread nD τ) (ucRefs τ sig) (W d) = unscopedBufs d (fun b => W d (Proc.devRef .tc b))
        from (unscopedBufs_held (Ix := HIx 1) (Name := ℕ) (U := UU) (Lvl := ℕ) d (W d)).symm]
    have hsplit := arrays_of_unscopedBufs (p := 0) (pcfgs (F := F)) adm (dats W) Cert.KernelIdeal.Gen.launch1.win Cert.KernelIdeal.Gen.launch1.arr_whole d
      ((dats W 0 d).share_full fun _ => rfl) (fun b => W d (Proc.devRef .tc b)) (fun w => A_eq W d w)
    iintro ⟨⟨Hub, HO⟩, -, -⟩
    ihave H := hsplit $$ Hub
    icases H with ⟨Ha, Hrest⟩
    imodintro
    isplitl [Ha]; · iexact Ha
    isplitr; · unfold prefHeld; rw [show (Finset.univ : Finset (Fin 0)) = ∅ from rfl, BI.bigSep_empty]; iempintro
    isplitl [HO]
    · unfold Dat.owesAt owesWithin
      icases HO with ⟨%Wd, %hW, HO⟩; iexists Wd; isplitr
      · ipureintro; exact fun p hp => Or.inl (hW p hp)
      iexact HO
    isplitr; · iempintro
    iexact Hrest
  hin d := by
    rw [Cert.KernelIdeal.Gen.scopedRest1_eq, show (dats W 0 d).Φ 0 = iprop(emp) from rfl]
    iintro ⟨-, -, -⟩
    iempintro
  hout d := by
    rw [ownSems0_none, Cert.KernelIdeal.Gen.scopedRest1_eq, show (dats W 0 d).Φ (Fin.last cfg1.N) = iprop(emp) from rfl]
    iintro -
    isplitr; · iempintro
    isplitr <;> iempintro
  hexit d := by
    have hjoin := unscopedBufs_of_arrays (p := 0) (pcfgs (F := F)) adm (Ix := HIx 1) (Name := ℕ) (U := UU) (Lvl := ℕ)
      Cert.KernelIdeal.Gen.launch1.win Cert.KernelIdeal.Gen.launch1.arr_whole d (dats W) ((dats W 0 d).share_full fun _ => rfl)
      (fun b => W d (Proc.devRef .tc b)) (fun b => Wafter W d (Proc.devRef .tc b)) ((dats W 0 d).arrAt · cfg1.N)
      (fun w => (afterRegion_arr (dats W 0 d) (W d) Cert.KernelIdeal.Gen.launch1.win.arr_inj w).symm)
      (fun b hb => afterRegion_of_not_arr (dats W 0 d) (W d) fun w h => hb (h ▸ Finset.mem_image.mpr ⟨w, Finset.mem_univ _, rfl⟩))
    rw [show StableHlo.held (d.tc : Thread nD τ) (ucRefs τ sig) (Wafter W d) = unscopedBufs d (fun b => Wafter W d (Proc.devRef .tc b))
        from (unscopedBufs_held (Ix := HIx 1) (Name := ℕ) (U := UU) (Lvl := ℕ) d (Wafter W d)).symm]
    iintro ⟨Ha, HO, -, HZ⟩
    imodintro
    isplitr [HO]
    · iapply hjoin
      isplitl [Ha] <;> iassumption
    · unfold Dat.owesAt owesWithin
      icases HO with ⟨%Wd, %hW, HO⟩; iexists Wd; isplitr
      · ipureintro
        intro p hp
        rcases hW hp with h | h
        · exact h
        · obtain ⟨w, s, rfl⟩ := h
          exact ((K (F := F)).lev_none _).le.trans (Nat.zero_le _)
      iexact HO

end Cert.Proof.Tc

end
-- ==== Proof.Launch.lean ====
/-
  @main on the TensorCore: the host operations, the SparseCore call, the region and the operations after it; and the
  program's run from any memory.
-/
module

public import proofs.«01_k».proof.Proof.Setup
public import proofs.«01_k».proof.Proof.TileObl
public import proofs.«01_k».proof.Proof.TcRegion

@[expose] public section

noncomputable section

namespace Cert.Proof.Launch

open Cert.KernelIdeal
open Cert.KernelIdeal.Facts₀ Cert.KernelIdeal.Facts
open Idealize.ShloMosaic Idealize.ShloMosaic.StableHlo Idealize.ShloMosaic.Pipeline Idealize.ShloMosaic.Rounds
open Idealize.ShloMosaic.SparseCore (S V)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Cert.Proof.Tile Cert.Proof.Tc

variable {F : FTy → Type} [FloatOps F]

/-! ## The host operations -/

/-- Before the SparseCore call: the planes, the threshold and its sixteen lanes. -/
def ops0 : List (HloOp τ sig (Elt F)) :=
  [StableHlo.reshape main_arg0 main_v0 (rfl : (.f32 : EltTy) = .f32) shapeCasts_S64x255x32x32_S64x3x85x1024,
   StableHlo.unary main_arg1 main_v1 (sitofp .f32 : (⟨S_, .i32⟩ : BufTy).Contents (Elt F) → (⟨S_, .f32⟩ : BufTy).Contents (Elt F)),
   StableHlo.unary main_v1 main_v2 (broadcastInDim S16 ![] bcast_S_S16 : (⟨S_, .f32⟩ : BufTy).Contents (Elt F) → (⟨S16, .f32⟩ : BufTy).Contents (Elt F))]
/-- Between the two calls: the threshold's one-element buffer. -/
def ops1 : List (HloOp τ sig (Elt F)) :=
  [StableHlo.reshape main_v1 main_v4 (rfl : (.f32 : EltTy) = .f32) shapeCasts_S_S1]
/-- After the calls: the two results assembled. -/
def ops2 : List (HloOp τ sig (Elt F)) :=
  [StableHlo.nullary main_c (constantI S_ 32 0#32),
   StableHlo.unary main_c main_v6 (broadcastInDim S56x3x1x1024 ![] bcast_S_S56x3x1x1024 : (⟨S_, .i32⟩ : BufTy).Contents (Elt F) → (⟨S56x3x1x1024, .i32⟩ : BufTy).Contents (Elt F)),
   StableHlo.binary main_v5_1 main_v6 main_v7 (cmpi .ne : (⟨S56x3x1x1024, .i32⟩ : BufTy).Contents (Elt F) → (⟨S56x3x1x1024, .i32⟩ : BufTy).Contents (Elt F) → (⟨S56x3x1x1024, .i1⟩ : BufTy).Contents (Elt F)),
   StableHlo.unary main_v7 main_v8 (id : (⟨S56x3x1x1024, .i1⟩ : BufTy).Contents (Elt F) → (⟨S56x3x1x1024, .i1⟩ : BufTy).Contents (Elt F)),
   StableHlo.binary main_v5_0 main_v3_0 main_v9 ((fun a b => concatenate S64x3x7x1024 0 [⟨S56x3x7x1024, a⟩, ⟨S8x3x7x1024, b⟩] concatenates_S56x3x7x1024_S8x3x7x1024_S64x3x7x1024_d0) : (⟨S56x3x7x1024, .f32⟩ : BufTy).Contents (Elt F) → (⟨S8x3x7x1024, .f32⟩ : BufTy).Contents (Elt F) → (⟨S64x3x7x1024, .f32⟩ : BufTy).Contents (Elt F)),
   StableHlo.reshape main_v8 main_v10 (rfl : (.i1 : EltTy) = .i1) shapeCasts_S56x3x1x1024_S56x3072,
   StableHlo.reshape main_v3_1 main_v11 (rfl : (.f32 : EltTy) = .f32) shapeCasts_S8x3x1024_S8x3072,
   StableHlo.nullary main_cst (constant S_ .f32 0x3F000000#32),
   StableHlo.unary main_cst main_v12 (broadcastInDim S8x3072 ![] bcast_S_S8x3072 : (⟨S_, .f32⟩ : BufTy).Contents (Elt F) → (⟨S8x3072, .f32⟩ : BufTy).Contents (Elt F)),
   StableHlo.binary main_v11 main_v12 main_v13 (cmpf .ogt : (⟨S8x3072, .f32⟩ : BufTy).Contents (Elt F) → (⟨S8x3072, .f32⟩ : BufTy).Contents (Elt F) → (⟨S8x3072, .i1⟩ : BufTy).Contents (Elt F)),
   StableHlo.binary main_v10 main_v13 main_v14 ((fun a b => concatenate S64x3072 0 [⟨S56x3072, a⟩, ⟨S8x3072, b⟩] concatenates_S56x3072_S8x3072_S64x3072_d0) : (⟨S56x3072, .i1⟩ : BufTy).Contents (Elt F) → (⟨S8x3072, .i1⟩ : BufTy).Contents (Elt F) → (⟨S64x3072, .i1⟩ : BufTy).Contents (Elt F)),
   StableHlo.unary main_v9 main_v15 ((transpose S64x3x1024x7 [0, 1, 3, 2] · transposes_S64x3x7x1024_S64x3x1024x7_0_1_3_2) : (⟨S64x3x7x1024, .f32⟩ : BufTy).Contents (Elt F) → (⟨S64x3x1024x7, .f32⟩ : BufTy).Contents (Elt F)),
   StableHlo.reshape main_v15 main_v16 (rfl : (.f32 : EltTy) = .f32) shapeCasts_S64x3x1024x7_S64x3072x7]

theorem main_eq (d : Dev nD) :
    main (F := F) d = (seq ops0 >>= fun _ => sc.run d 0 >>= fun _ => seq ops1 >>= fun _ =>
      Prog.lift (.customCall (SparseCore.inner (Pipeline.entry 0)) ()) >>= fun _ => seq ops2) := rfl

theorem sub0 : ∀ op ∈ (ops0 : List (HloOp τ sig (Elt F))), op.bufs ⊆ ucRefs τ sig :=
  fun op h => sub_ucRefs op ((List.forall_iff_forall_mem.mp
    (show (ops0 : List (HloOp τ sig (Elt F))).Forall fun op => op.bufs ⊆ tcRefs τ sig from
      ⟨reshape_bufs_sub .., unary_bufs_sub .., unary_bufs_sub ..⟩)) op h)
theorem sub1 : ∀ op ∈ (ops1 : List (HloOp τ sig (Elt F))), op.bufs ⊆ ucRefs τ sig :=
  fun op h => sub_ucRefs op ((List.forall_iff_forall_mem.mp
    (show (ops1 : List (HloOp τ sig (Elt F))).Forall fun op => op.bufs ⊆ tcRefs τ sig from reshape_bufs_sub ..)) op h)
theorem sub2 : ∀ op ∈ (ops2 : List (HloOp τ sig (Elt F))), op.bufs ⊆ ucRefs τ sig :=
  fun op h => sub_ucRefs op ((List.forall_iff_forall_mem.mp
    (show (ops2 : List (HloOp τ sig (Elt F))).Forall fun op => op.bufs ⊆ tcRefs τ sig from
      ⟨nullary_bufs_sub .., unary_bufs_sub .., binary_bufs_sub .., unary_bufs_sub .., binary_bufs_sub .., reshape_bufs_sub .., reshape_bufs_sub ..,
        nullary_bufs_sub .., unary_bufs_sub .., binary_bufs_sub .., binary_bufs_sub .., unary_bufs_sub .., reshape_bufs_sub ..⟩)) op h)

theorem fresh0 : ∀ op ∈ (ops0 : List (HloOp τ sig (Elt F))), op.fresh = ∅ := by
  intro _ h; (repeat (cases h with | head => rfl | tail _ h => ?_)); exact nomatch h
theorem fresh1 : ∀ op ∈ (ops1 : List (HloOp τ sig (Elt F))), op.fresh = ∅ := by
  intro _ h; (repeat (cases h with | head => rfl | tail _ h => ?_)); exact nomatch h
theorem fresh2 : ∀ op ∈ (ops2 : List (HloOp τ sig (Elt F))), op.fresh = ∅ := by
  intro _ h; (repeat (cases h with | head => rfl | tail _ h => ?_)); exact nomatch h

/-! ## The buffers' contents along @main -/

variable (m : (ℓ : Loc nD τ sig) → Buf (Elt F) ℓ)

/-- Device `d`'s planes and threshold, from its arguments. -/
def planes0 (d : Dev nD) : S64x3x85x1024.Idx → F .f32 :=
  shapeCast _ (m ((SparseCore.T d).loc main_arg0) : S64x255x32x32.Idx → F .f32) shapeCasts_S64x255x32x32_S64x3x85x1024
def thr0 (d : Dev nD) : F .f32 := FloatOps.sitofp .f32 (m ((SparseCore.T d).loc main_arg1) (fun a => a.elim0))

/-- At launch; as the SparseCore call finds them; as it leaves them; as the region finds them; as the region leaves
    them; at the end. -/
abbrev W0 (d : Dev nD) : Valuation τ sig (Elt F) := launchContents m d
def W1 (d : Dev nD) : Valuation τ sig (Elt F) := after ops0 (W0 m d)
def W2 (d : Dev nD) : Valuation τ sig (Elt F) :=
  Function.update (Function.update (W1 m d) (Proc.devRef .tc main_v3_0) (boxT (planes0 m d) : S8x3x7x1024.Idx → F .f32))
    (Proc.devRef .tc main_v3_1) (flagT (planes0 m d) (thr0 m d) : S8x3x1024.Idx → F .f32)
def W3 (d : Dev nD) : Valuation τ sig (Elt F) := after ops1 (W2 m d)
def W4 (d : Dev nD) : Valuation τ sig (Elt F) := Wafter (W3 m) d
def W5 (d : Dev nD) : Valuation τ sig (Elt F) := after ops2 (W4 m d)

theorem W1_v0 (d : Dev nD) : W1 m d (Proc.devRef .tc main_v0) = planes0 m d := by
  unfold W1 ops0
  after_results
  rfl
theorem W1_v2 (d : Dev nD) : W1 m d (Proc.devRef .tc main_v2) = (fun _ => thr0 m d : S16.Idx → F .f32) := by
  unfold W1 ops0
  after_results
  funext j
  show FloatOps.sitofp .f32 (m ((SparseCore.T d).loc main_arg1) _) = FloatOps.sitofp .f32 (m ((SparseCore.T d).loc main_arg1) _)
  congr 2
  exact Subsingleton.elim (α := S_.Idx) _ _

/-! ## The SparseCore call's buffers -/

/-- What the call's tiles are handed and give back. -/
abbrev scP : (K (F := F)).Pay (nD := nD) (Val := Elt F) (Name := ℕ) (U := UU) :=
  P (planes0 m) (thr0 m) (fun d => W1 m d (Proc.devRef .tc main_v3_0)) (fun d => W1 m d (Proc.devRef .tc main_v3_1))

/-- The buffers of the call. -/
def scRefs : Finset (DevRef τ sig) :=
  {Proc.devRef .tc main_v0, Proc.devRef .tc main_v2, Proc.devRef .tc main_v3_0, Proc.devRef .tc main_v3_1}

theorem scRefs_sub : scRefs ⊆ ucRefs τ sig := by
  intro b hb
  simp only [scRefs, Finset.mem_insert, Finset.mem_singleton] at hb
  rcases hb with rfl | rfl | rfl | rfl <;> exact devRef_mem_ucRefs rfl

theorem held_sc (d : Dev nD) (W : Valuation τ sig (Elt F)) :
    (held (d.tc : Thread nD τ) scRefs W : Pr F) = iprop((xLoc d ↦{fullShare} W (Proc.devRef .tc main_v0)) ∗ (tLoc d ↦{fullShare} W (Proc.devRef .tc main_v2))
      ∗ (bLoc d ↦{fullShare} W (Proc.devRef .tc main_v3_0)) ∗ (kLoc d ↦{fullShare} W (Proc.devRef .tc main_v3_1))) := by
  unfold held scRefs
  rw [SparseCore.bigSep_insert' (by decide), SparseCore.bigSep_insert' (by decide), SparseCore.bigSep_insert' (by decide), bigSep_singleton]

theorem st_eq (d : Dev nD) : (bigSep Finset.univ fun c : Fin ((K (F := F)).nCore 0) => (scP m).st 0 d c) = held (d.tc : Thread nD τ) scRefs (W1 m d) := by
  rw [held_sc, W1_v0, W1_v2]
  exact (parts_eq d _ _ _ _).symm

theorem dn_eq (d : Dev nD) : (bigSep Finset.univ fun c : Fin ((K (F := F)).nCore 0) => (scP m).dn 0 d c) = held (d.tc : Thread nD τ) scRefs (W2 m d) := by
  rw [held_sc]
  have h0 : W2 m d (Proc.devRef .tc main_v0) = planes0 m d := by
    unfold W2
    rw [Function.update_of_ne (by decide), Function.update_of_ne (by decide), W1_v0]
  have h2 : W2 m d (Proc.devRef .tc main_v2) = (fun _ => thr0 m d : S16.Idx → F .f32) := by
    unfold W2
    rw [Function.update_of_ne (by decide), Function.update_of_ne (by decide), W1_v2]
  have h3 : W2 m d (Proc.devRef .tc main_v3_0) = (boxT (planes0 m d) : S8x3x7x1024.Idx → F .f32) := by
    unfold W2
    rw [Function.update_of_ne (by decide), Function.update_self]
  have h4 : W2 m d (Proc.devRef .tc main_v3_1) = (flagT (planes0 m d) (thr0 m d) : S8x3x1024.Idx → F .f32) := by
    unfold W2
    rw [Function.update_self]
  rw [h0, h2, h3, h4]
  exact (parts_eq d _ _ _ _).symm

theorem rest_eq (d : Dev nD) : (held (d.tc : Thread nD τ) (ucRefs τ sig \ scRefs) (W1 m d) : Pr F) = held (d.tc : Thread nD τ) (ucRefs τ sig \ scRefs) (W2 m d) := by
  refine held_congr _ fun b hb => ?_
  have hb' := (Finset.mem_sdiff.mp hb).2
  unfold W2
  rw [Function.update_of_ne (fun e => hb' (by rw [e]; decide)), Function.update_of_ne (fun e => hb' (by rw [e]; decide))]

/-! ## The launch's ghosts -/

def u₀ : UU := (initOf (K (F := F)).hsCells (K (F := F)).hsToks,
  (initOf (Pipeline.cells cfgs Cert.KernelIdeal.Gen.cellOf_inj) (Pipeline.launchToks cfgs Cert.KernelIdeal.Gen.cellOf_inj), 1))

/-- What the launch deals a TensorCore for its region. -/
abbrev G (d : Dev nD) : Pr F := iprop(cellsGhost (pin (pcfgs (F := F)) adm) EP 0 d ∗ toksInit (pin (pcfgs (F := F)) adm) EP 0 d)

theorem emp_all : (bigSep Finset.univ fun _ : Thread nD τ => iprop(emp)) = (iprop(emp) : Pr F) := bigSep_emp_const _

theorem hu₀ : (ownU (u₀ (F := F)) : Pr F)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (scP m).x q thr) := by
  unfold u₀
  iintro Hu
  ihave H := (ownU_pair (initOf (K (F := F)).hsCells (K (F := F)).hsToks)
    ((initOf (Pipeline.cells cfgs Cert.KernelIdeal.Gen.cellOf_inj) (Pipeline.launchToks cfgs Cert.KernelIdeal.Gen.cellOf_inj), 1) : UP × Counters)) $$ Hu
  icases H with ⟨HH, HR⟩
  ihave HR' := (Entails.of_eq (show BI.own (embR ((initOf (Pipeline.cells cfgs Cert.KernelIdeal.Gen.cellOf_inj) (Pipeline.launchToks cfgs Cert.KernelIdeal.Gen.cellOf_inj), 1) : UP × Counters))
    = BI.own (EP (F := F) (initOf (Pipeline.cells cfgs Cert.KernelIdeal.Gen.cellOf_inj) (Pipeline.launchToks cfgs Cert.KernelIdeal.Gen.cellOf_inj))) from rfl)) $$ HR
  imod (fund_ghost cfgs (EP (F := F)) Cert.KernelIdeal.Gen.cellOf_inj) $$ HR' with ⟨Hg, Ht⟩
  imodintro
  isplitl [HH]; · iexact HH
  isplitl [Hg Ht]
  · rw [bigSep_sep']
    isplitl [Hg]
    · rw [show (bigSep Finset.univ fun d : Dev nD => cellsGhost (pin (pcfgs (F := F)) adm) EP 0 d : Pr F)
        = bigSep Finset.univ fun d : Dev nD => bigSep Finset.univ fun p : Fin 1 => cellsGhost cfgs (EP (F := F)) p d from
        bigSep_congr fun d _ => (bigSep_univ_of_subsingleton (Φ := fun p : Fin 1 => (cellsGhost cfgs (EP (F := F)) p d : Pr F)) (0 : Fin 1)).symm]
      iexact Hg
    · rw [show (bigSep Finset.univ fun d : Dev nD => toksInit (pin (pcfgs (F := F)) adm) EP 0 d : Pr F)
        = bigSep Finset.univ fun d : Dev nD => bigSep Finset.univ fun p : Fin 1 => toksInit cfgs (EP (F := F)) p d from
        bigSep_congr fun d _ => (bigSep_univ_of_subsingleton (Φ := fun p : Fin 1 => (toksInit cfgs (EP (F := F)) p d : Pr F)) (0 : Fin 1)).symm]
      iexact Ht
  rw [show (bigSep Finset.univ fun thr : Thread nD τ => bigSep Finset.univ fun q : Fin 1 => (scP (F := F) m).x q thr) = bigSep Finset.univ fun _ => iprop(emp) from
    bigSep_congr fun _ _ => bigSep_univ_of_subsingleton (0 : Fin 1), emp_all]
  iempintro

/-! ## @main -/

variable (ρ : Dev nD → PrngReg)

theorem Otc_one (d : Dev nD) : (K (F := F)).Otc d 1 = 0 := by
  unfold SparseCore.Cfg.Otc
  rw [Finset.sum_eq_zero]
  intro q _
  rw [if_neg (by omega)]

theorem hmain (κ : GSem nD τ sig → ℕ) (d : Dev nD) :
    iprop((K (F := F)).ctx EH (scP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ held (d.tc : Thread nD τ) (ucRefs τ sig) (W5 m d) ∗ (K (F := F)).tcEnd d) := by
  unfold SparseCore.Cfg.tcRes SparseCore.Cfg.tcEnd
  rw [show (unscopedBufs d (fun b => m ((SparseCore.T d).loc b)) : Pr F) = held (d.tc : Thread nD τ) (ucRefs τ sig) (W0 m d) from
    unscopedBufs_held (Ix := HIx 1) (Name := ℕ) (U := UU) (Lvl := ℕ) d (W0 m d), main_eq]
  iintro ⟨#Hctx, Hst, ⟨Hb, Hh, Hts, -⟩, Hg⟩
  -- the host operations before the call
  iapply (wp_seq 𝒱 none Set.univ d (ucRefs τ sig) _ ops0 sub0 fresh0 (W0 m d)) $$ [Hb Hh]
  · isplitl [Hb] <;> iassumption
  rw [show after ops0 (W0 m d) = W1 m d from rfl]
  iintro ⟨Hb, Hh⟩
  -- the SparseCore call
  rw [wp_bind]
  ihave Hh' := (Entails.of_eq (held_sub_split (d.tc : Thread nD τ) scRefs_sub (W1 m d))) $$ Hh
  icases Hh' with ⟨Hsc, Hrest⟩
  iapply ((K (F := F)).wp_run (D (F := F)) 𝒱 (EH := EH) (P := scP m) κ d 0)
  isplitr; · iexact Hctx
  isplitl [Hst]; · iexact Hst
  isplitl [Hsc]
  · rw [st_eq]; iexact Hsc
  iintro ⟨Hst, Hdn⟩
  ihave Hdn := (Entails.of_eq (dn_eq m d)) $$ Hdn
  ihave Hrest' := (Entails.of_eq (rest_eq m d)) $$ Hrest
  ihave Hh := (Entails.of_eq (held_sub_split (d.tc : Thread nD τ) scRefs_sub (W2 m d)).symm) $$ [Hdn Hrest']
  · isplitl [Hdn] <;> iassumption
  -- between the calls
  iapply (wp_seq 𝒱 none Set.univ d (ucRefs τ sig) _ ops1 sub1 fresh1 (W2 m d)) $$ [Hb Hh]
  · isplitl [Hb] <;> iassumption
  rw [show after ops1 (W2 m d) = W3 m d from rfl]
  iintro ⟨Hb, Hh⟩
  -- the region
  rw [wp_bind]
  ihave #Hlev := (SparseCore.Cfg.ctx_levAts κ) $$ Hctx
  unfold SparseCore.Cfg.tcSt
  rw [show (K (F := F)).Otc d ((0 : Fin 1).val + 1) = 0 from Otc_one d]
  icases Hst with ⟨⟨%Wd, %hWd, HO⟩, Hat⟩
  icases Hg with ⟨Hg, Ht⟩
  iapply ((K (F := F)).wp_liftProg (D (F := F)) 𝒱 (SparseCore.T d) Set.univ none (Prog.lift (.customCall (Pipeline.entry 0) ())) _)
  iapply (RegionSeg.wp (pcfgs (F := F)) adm (dats (W3 m)) none Cert.KernelIdeal.Gen.cellOf_inj EP defs₀ 𝒱₀ (K (F := F)).L (K (F := F)).lev
    (reg (W3 m)) d none (fun _ h => nomatch h) (fun x => .ret x))
  isplitl [Hat Hts]
  · rw [show (reg (W3 m)).post d = iprop(held (d.tc : Thread nD τ) (ucRefs τ sig) (W4 m d) ∗ owes8 d) from rfl]
    iintro ⟨Hb, Hh, ⟨%Wd', %hWd', HO⟩⟩
    rw [wp_ret]; imodintro
    iapply (wp_seq 𝒱 none Set.univ d (ucRefs τ sig) (fun x => .ret x) ops2 sub2 fresh2 (W4 m d)) $$ [Hb Hh]
    · isplitl [Hb] <;> iassumption
    rw [show after ops2 (W4 m d) = W5 m d from rfl]
    iintro ⟨Hb, Hh⟩
    rw [wp_ret]; imodintro
    isplitl [HO Hat]
    · isplitl [HO]
      · iexists Wd'; isplitr; · ipureintro; exact hWd'
        rw [Otc_one]; iexact HO
      iexact Hat
    isplitl [Hh]; · iexact Hh
    isplitl [Hb] <;> iassumption
  isplitl [Hb]; · iexact Hb
  isplitl [Hh HO]
  · rw [show (reg (W3 m)).pre d = iprop(held (d.tc : Thread nD τ) (ucRefs τ sig) (W3 m d) ∗ owes8 d) from rfl]
    isplitl [Hh]; · iexact Hh
    iexists Wd; isplitr; · ipureintro; exact hWd
    iexact HO
  isplitr; · iexact Hlev
  isplitl [Hg] <;> iassumption

def fq (d : Dev nD) (s' : Phys nD τ sig (Elt F)) : Prop := ∀ b ∈ ucRefs τ sig, s'.mem.mem (d, b) = W5 m d b

theorem hfin (d : Dev nD) (s' : Phys nD τ sig (Elt F)) :
    iprop(held (d.tc : Thread nD τ) (ucRefs τ sig) (W5 m d) ∗ SI s') ⊢ (⌜fq m d s'⌝ : Pr F) := by
  unfold held
  iintro ⟨Hh, HSI⟩
  ihave Hr := (pointsTo_read_all (ucRefs τ sig) (fun b => ((d.tc : Thread nD τ).1, b)) (W5 m d) s') $$ [Hh HSI]
  · isplitl [Hh] <;> iassumption
  icases Hr with ⟨%h, -⟩
  ipureintro
  exact h

/-- Every execution of the program ends, with every buffer of a TensorCore that is no kernel's own at `W5` and every
    semaphore at zero. -/
theorem run_main [∀ e, Nonempty (Elt F e)] :
    θ_run (Cert.KernelIdeal.defs (F := F)) (Cert.KernelIdeal.threads (F := F)) ⟨m, fun _ => 0, ρ⟩
      (fun r => (∀ d : Dev nD, ∀ b ∈ ucRefs τ sig, r.2.mem (d, b) = W5 m d b) ∧ r.2.sem = fun _ => 0) :=
  SparseCore.Cfg.θ_run_sc_quiescent (K := K (F := F)) (D := D (F := F)) (𝒱 := 𝒱) (EH := EH) (P := scP m) (A := ∅) scFacts v₀
    (fun q hq => match q with | 0 => nomatch hq)
    (fun q _ => match q with | 0 => tileObl _ _ _ _)
    (fun q _ => match q with | 0 => SparseCore.Cfg.VecSplit.of_plain (vecSplit _ _ _ _))
    m ρ main (fun d => G d) (fun d => held (d.tc : Thread nD τ) (ucRefs τ sig) (W5 m d)) (u₀ (F := F)) (sep_elim_left.trans (hu₀ m)) (hmain m ρ) (fq m) (hfin m)
    (fun r => (∀ d : Dev nD, ∀ b ∈ ucRefs τ sig, r.2.mem (d, b) = W5 m d b) ∧ r.2.sem = fun _ => 0) (fun _ h hz => ⟨h, hz⟩)

end Cert.Proof.Launch

end
-- ==== Proof.KernelVal.lean ====
/-
  What the kernel's buffers hold at the end: the arguments as launched, and the two results assembled from the blocks of
  the first 56 batches and the tiles' blocks of the last 8.
-/
module

public import proofs.«01_k».proof.Proof.Launch

@[expose] public section

noncomputable section

namespace Cert.Proof.Launch

open Cert.KernelIdeal
open Cert.KernelIdeal.Facts₀ Cert.KernelIdeal.Facts
open Idealize.ShloMosaic Idealize.ShloMosaic.StableHlo Idealize.ShloMosaic.Pipeline
open Idealize.ShloMosaic.SparseCore (S V)
open Idealize.SL.Sem
open Cert.Proof.Tile Cert.Proof.Tc

variable {F : FTy → Type} [FloatOps F] (m : (ℓ : Loc nD τ sig) → Buf (Elt F) ℓ)

/-- The boxes, from all batches' blocks. -/
def boxesOf (hd : S56x3x7x1024.Idx → F .f32) (tl : S8x3x7x1024.Idx → F .f32) : S64x3072x7.Idx → F .f32 :=
  shapeCast _ (transpose S64x3x1024x7 [0, 1, 3, 2]
    (concatenate S64x3x7x1024 0 [⟨S56x3x7x1024, hd⟩, ⟨S8x3x7x1024, tl⟩] concatenates_S56x3x7x1024_S8x3x7x1024_S64x3x7x1024_d0)
    transposes_S64x3x7x1024_S64x3x1024x7_0_1_3_2) shapeCasts_S64x3x1024x7_S64x3072x7

/-- The flags: the first batches' integers compared with zero, the last ones' numbers with one half. -/
def flagsOf (hd : S56x3x1x1024.Idx → BitVec 32) (tl : S8x3x1024.Idx → F .f32) : S64x3072.Idx → BitVec 1 :=
  concatenate S64x3072 0
    [⟨S56x3072, shapeCast _ (cmpi .ne hd (broadcastInDim S56x3x1x1024 ![] bcast_S_S56x3x1x1024 (constantI S_ 32 0#32))) shapeCasts_S56x3x1x1024_S56x3072⟩,
     ⟨S8x3072, cmpf .ogt (shapeCast _ tl shapeCasts_S8x3x1024_S8x3072) (broadcastInDim S8x3072 ![] bcast_S_S8x3072 (constant S_ .f32 0x3F000000#32))⟩]
    concatenates_S56x3072_S8x3072_S64x3072_d0

theorem after2_v16 (V : Valuation τ sig (Elt F)) :
    after ops2 V (Proc.devRef .tc main_v16) = boxesOf (V (Proc.devRef .tc main_v5_0)) (V (Proc.devRef .tc main_v3_0)) := by
  unfold ops2
  after_results
  rfl

theorem after2_v14 (V : Valuation τ sig (Elt F)) :
    after ops2 V (Proc.devRef .tc main_v14) = flagsOf (V (Proc.devRef .tc main_v5_1)) (V (Proc.devRef .tc main_v3_1)) := by
  unfold ops2
  after_results
  rfl

theorem keep2 (V : Valuation τ sig (Elt F)) {r : Ref sig .tc}
    (h : r ∉ [main_c, main_v6, main_v7, main_v8, main_v9, main_v10, main_v11, main_cst, main_v12, main_v13, main_v14, main_v15, main_v16]) :
    after ops2 V (Proc.devRef .tc r) = V (Proc.devRef .tc r) :=
  after_of_writes_sub ops2 V (forall_writes_sub_of_map rfl) h
theorem keep1 (V : Valuation τ sig (Elt F)) {r : Ref sig .tc} (h : r ∉ [main_v4]) :
    after ops1 V (Proc.devRef .tc r) = V (Proc.devRef .tc r) :=
  after_of_writes_sub ops1 V (forall_writes_sub_of_map rfl) h
theorem keep0 (V : Valuation τ sig (Elt F)) {r : Ref sig .tc} (h : r ∉ [main_v0, main_v1, main_v2]) :
    after ops0 V (Proc.devRef .tc r) = V (Proc.devRef .tc r) :=
  after_of_writes_sub ops0 V (forall_writes_sub_of_map rfl) h

/-! ## Before the region -/

theorem W1_v1 (d : Dev nD) : W1 m d (Proc.devRef .tc main_v1) = (fun _ => thr0 m d : S_.Idx → F .f32) := by
  unfold W1 ops0
  after_results
  funext j
  show FloatOps.sitofp .f32 (m ((SparseCore.T d).loc main_arg1) _) = FloatOps.sitofp .f32 (m ((SparseCore.T d).loc main_arg1) _)
  congr 2
  exact Subsingleton.elim (α := S_.Idx) _ _

theorem W3_of (d : Dev nD) {r : Ref sig .tc} (h0 : r ≠ main_v3_0) (h1 : r ≠ main_v3_1) (h4 : r ∉ [main_v4]) :
    W3 m d (Proc.devRef .tc r) = W1 m d (Proc.devRef .tc r) := by
  unfold W3
  rw [keep1 _ h4]
  unfold W2
  rw [Function.update_of_ne (devRef_ne_of_ne h1), Function.update_of_ne (devRef_ne_of_ne h0)]

theorem W3_boxes (d : Dev nD) : W3 m d (Proc.devRef .tc main_v3_0) = (boxT (planes0 m d) : S8x3x7x1024.Idx → F .f32) := by
  unfold W3
  rw [keep1 _ (by decide)]
  unfold W2
  rw [Function.update_of_ne (devRef_ne_of_ne (by decide)), Function.update_self]

theorem W3_flags (d : Dev nD) : W3 m d (Proc.devRef .tc main_v3_1) = (flagT (planes0 m d) (thr0 m d) : S8x3x1024.Idx → F .f32) := by
  unfold W3
  rw [keep1 _ (by decide)]
  unfold W2
  rw [Function.update_self]

theorem planes_W3 (d : Dev nD) : planes (W3 m) d = planes0 m d := by
  unfold planes
  rw [W3_of m d (by decide) (by decide) (by decide)]
  exact W1_v0 m d

theorem thr_W3 (d : Dev nD) : thr1 (W3 m) d (ValueIdx.ix1 (0 : Fin 1)) = thr0 m d := by
  unfold thr1 W3 ops1
  after_results
  show shapeCast S1 (W2 m d (Proc.devRef .tc main_v1) : S_.Idx → F .f32) shapeCasts_S_S1 _ = _
  unfold W2
  rw [Function.update_of_ne (devRef_ne_of_ne (by decide)), Function.update_of_ne (devRef_ne_of_ne (by decide)), W1_v1]
  rfl

/-! ## After it -/

theorem W4_of (d : Dev nD) {r : Ref sig .tc} (h : ∀ w, r ≠ arrRef spec1 w) :
    W4 m d (Proc.devRef .tc r) = W3 m d (Proc.devRef .tc r) := by
  unfold W4 Wafter
  exact afterRegion_of_not_arr _ _ h

theorem W4_boxes (d : Dev nD) : W4 m d (Proc.devRef .tc main_v5_0) = (boxHead (planes0 m d) : S56x3x7x1024.Idx → F .f32) := by
  unfold W4 Wafter
  refine (afterRegion_arr (dats (W3 m) 0 d) (W3 m d) Gen.launch1.win.arr_inj (2 : Fin 4)).trans ?_
  rw [final_2, planes_W3]

theorem W4_flags (d : Dev nD) : W4 m d (Proc.devRef .tc main_v5_1) = (flagHead (planes0 m d) (thr0 m d) : S56x3x1x1024.Idx → BitVec 32) := by
  unfold W4 Wafter
  refine (afterRegion_arr (dats (W3 m) 0 d) (W3 m d) Gen.launch1.win.arr_inj (3 : Fin 4)).trans ?_
  rw [final_3, planes_W3, thr_W3]

/-! ## At the end -/

theorem W5_v16 (d : Dev nD) : W5 m d (Proc.devRef .tc main_v16) = boxesOf (boxHead (planes0 m d)) (boxT (planes0 m d)) := by
  unfold W5
  rw [after2_v16, W4_boxes, W4_of m d (by decide), W3_boxes]

theorem W5_v14 (d : Dev nD) :
    W5 m d (Proc.devRef .tc main_v14) = flagsOf (flagHead (planes0 m d) (thr0 m d)) (flagT (planes0 m d) (thr0 m d)) := by
  unfold W5
  rw [after2_v14, W4_flags, W4_of m d (by decide), W3_flags]

theorem W5_arg0 (d : Dev nD) : W5 m d (Proc.devRef .tc main_arg0) = m ((SparseCore.T d).loc main_arg0) := by
  unfold W5
  rw [keep2 _ (by decide), W4_of m d (by decide), W3_of m d (by decide) (by decide) (by decide)]
  exact keep0 _ (by decide)

theorem W5_arg1 (d : Dev nD) : W5 m d (Proc.devRef .tc main_arg1) = m ((SparseCore.T d).loc main_arg1) := by
  unfold W5
  rw [keep2 _ (by decide), W4_of m d (by decide), W3_of m d (by decide) (by decide) (by decide)]
  exact keep0 _ (by decide)

/-- The run, read at the results and the arguments. -/
theorem run_results [∀ e, Nonempty (Elt F e)] (ρ : Dev nD → PrngReg) :
    θ_run (Cert.KernelIdeal.defs (F := F)) (Cert.KernelIdeal.threads (F := F)) ⟨m, fun _ => 0, ρ⟩ (fun r =>
      (∀ d : Dev nD,
        r.2.mem ((SparseCore.T d).loc main_v16) = boxesOf (boxHead (planes0 m d)) (boxT (planes0 m d))
        ∧ r.2.mem ((SparseCore.T d).loc main_v14) = flagsOf (flagHead (planes0 m d) (thr0 m d)) (flagT (planes0 m d) (thr0 m d))
        ∧ r.2.mem ((SparseCore.T d).loc main_arg0) = m ((SparseCore.T d).loc main_arg0)
        ∧ r.2.mem ((SparseCore.T d).loc main_arg1) = m ((SparseCore.T d).loc main_arg1))
      ∧ r.2.sem = fun _ => 0) :=
  (θ_run Cert.KernelIdeal.defs _ _).mono (fun _ h => ⟨fun d =>
    ⟨(h.1 d _ (devRef_mem_ucRefs rfl)).trans (W5_v16 m d), (h.1 d _ (devRef_mem_ucRefs rfl)).trans (W5_v14 m d),
      (h.1 d _ (devRef_mem_ucRefs rfl)).trans (W5_arg0 m d), (h.1 d _ (devRef_mem_ucRefs rfl)).trans (W5_arg1 m d)⟩, h.2⟩)
    (run_main m ρ)

end Cert.Proof.Launch

end
-- ==== Proof.Scalars.lean ====
/-
  One box over the extended reals, its class logits real numbers: the first largest class, the softmax's largest value,
  and the same two as folds over the classes.
-/
module

public import proofs.«01_k».proof.Proof.Spec
public import Idealize.ShloMosaic.Lib.IdealHost
public import Idealize.ShloMosaic.PureOps.Ideal.Laws

@[expose] public section

noncomputable section

namespace Cert.Proof.Math

open Idealize.ShloMosaic

/-! ## Constants -/

theorem ofBits_zero : Ideal.ofBits .f32 0x00000000#32 = 0 := by simp [Ideal.ofBits, Ideal.ieee]
theorem ofBits_one : Ideal.ofBits .f32 0x3F800000#32 = 1 := by
  simp [Ideal.ofBits, Ideal.ieee, -EReal.coe_mul]; norm_num
theorem ofBits_negInf : Ideal.ofBits .f32 0xFF800000#32 = ⊥ := by simp [Ideal.ofBits, Ideal.ieee]
theorem ofBits_inf : Ideal.ofBits .f32 0x7F800000#32 = ⊤ := by simp [Ideal.ofBits, Ideal.ieee]
theorem ofBits_32 : Ideal.ofBits .f32 0x42000000#32 = ((32 : ℝ) : EReal) := by
  simp [Ideal.ofBits, Ideal.ieee, -EReal.coe_mul]; norm_num
theorem ofBits_inv32 : Ideal.ofBits .f32 0x3D000000#32 = ((1 / 32 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- Division by 32 is multiplication by its reciprocal. -/
theorem div_32 (x : EReal) : Ideal.div x (Ideal.ofBits .f32 0x42000000#32) = x * Ideal.ofBits .f32 0x3D000000#32 := by
  rw [ofBits_32, ofBits_inv32, Ideal.div_coe (by norm_num)]

/-! ## The first largest class -/

/-- `i` is the first of the first `n` classes at which `r` is largest. -/
def FirstMax (r : ℕ → ℝ) (n i : ℕ) : Prop := i < n ∧ (∀ j < n, r j ≤ r i) ∧ ∀ j < i, r j < r i

theorem FirstMax.unique {r : ℕ → ℝ} {n i i' : ℕ} (h : FirstMax r n i) (h' : FirstMax r n i') : i = i' := by
  rcases lt_trichotomy i i' with hl | he | hg
  · exact absurd (h'.2.2 i hl) (not_lt.mpr (h.2.1 i' h'.1))
  · exact he
  · exact absurd (h.2.2 i' hg) (not_lt.mpr (h'.2.1 i h.1))

/-- A strictly increasing function of `r` is largest first at the same class. -/
theorem FirstMax.comp {r s : ℕ → ℝ} {n i : ℕ} (h : FirstMax r n i) (hs : ∀ j k, r j < r k → s j < s k)
    (hs' : ∀ j k, r j ≤ r k → s j ≤ s k) : FirstMax s n i :=
  ⟨h.1, fun j hj => hs' _ _ (h.2.1 j hj), fun j hj => hs _ _ (h.2.2 j hj)⟩

theorem runMax_first (r : ℕ → ℝ) (n : ℕ) : ∃ i, FirstMax r (n + 1) i
    ∧ Spec.runMax (F := Ideal) (fun k => (r k : EReal)) (n + 1) = ((r i : EReal), BitVec.ofNat 32 i) := by
  induction n with
  | zero =>
    refine ⟨0, ⟨Nat.one_pos, fun j hj => ?_, fun j hj => absurd hj (Nat.not_lt_zero _)⟩, ?_⟩
    · obtain rfl : j = 0 := by omega
      exact le_rfl
    · have hc : Ideal.cmp .ogt (r 0 : EReal) (Ideal.ofBits .f32 0xFF800000#32) = 1#1 := by
        rw [ofBits_negInf]; simp [Ideal.cmp]
      show (Scalar.select (Ideal.cmp .ogt (r 0 : EReal) (Ideal.ofBits .f32 0xFF800000#32)) _ _, Scalar.select (Ideal.cmp .ogt (r 0 : EReal) (Ideal.ofBits .f32 0xFF800000#32)) _ _) = _
      rw [hc]; rfl
  | succ n ih =>
    obtain ⟨i, hi, he⟩ := ih
    have hu : Spec.runMax (F := Ideal) (fun k => (r k : EReal)) (n + 1 + 1)
        = (Scalar.select (Ideal.cmp .ogt (r (n + 1) : EReal) (r i : EReal)) (r (n + 1) : EReal) (r i : EReal),
          Scalar.select (Ideal.cmp .ogt (r (n + 1) : EReal) (r i : EReal)) (BitVec.ofNat 32 (n + 1)) (BitVec.ofNat 32 i)) := by
      rw [Spec.runMax, he]; rfl
    rw [hu]
    by_cases hlt : r i < r (n + 1)
    · have hc : Ideal.cmp .ogt (r (n + 1) : EReal) (r i : EReal) = 1#1 := by simp [Ideal.cmp, hlt]
      refine ⟨n + 1, ⟨by omega, fun j hj => ?_, fun j hj => ?_⟩, by rw [hc]; rfl⟩
      · rcases Nat.lt_succ_iff_lt_or_eq.mp hj with h | rfl
        · exact (hi.2.1 j h).trans hlt.le
        · exact le_rfl
      · exact (hi.2.1 j hj).trans_lt hlt
    · have hc : Ideal.cmp .ogt (r (n + 1) : EReal) (r i : EReal) = 0#1 := by simp [Ideal.cmp, hlt]
      refine ⟨i, ⟨by have := hi.1; omega, fun j hj => ?_, hi.2.2⟩, by rw [hc]; rfl⟩
      rcases Nat.lt_succ_iff_lt_or_eq.mp hj with h | rfl
      · exact hi.2.1 j h
      · exact not_lt.mp hlt

theorem runMax_eq {r : ℕ → ℝ} {i : ℕ} (h : FirstMax r 80 i) :
    Spec.runMax (F := Ideal) (fun k => (r k : EReal)) 80 = ((r i : EReal), BitVec.ofNat 32 i) := by
  obtain ⟨i', hi', he⟩ := runMax_first r 79
  obtain rfl := h.unique hi'
  exact he

theorem runSum_eq (y : ℕ → EReal) (m : EReal) (n : ℕ) :
    Spec.runSum (F := Ideal) y m n = ∑ k : Fin n, Ideal.exp (y k - m) := by
  induction n with
  | zero => exact ofBits_zero
  | succ n ih =>
    rw [Spec.runSum, ih, Fin.sum_univ_castSucc]
    rfl

/-- A fold of `max` from −∞ over real classes is the largest. -/
theorem fold_max_eq {r : ℕ → ℝ} {i : ℕ} (h : FirstMax r 80 i) :
    (Finset.univ : Finset (Fin 80)).fold max (⊥ : EReal) (fun k : Fin 80 => (r k : EReal)) = (r i : EReal) := by
  apply le_antisymm
  · exact Finset.fold_max_le _ |>.mpr ⟨bot_le, fun k _ => EReal.coe_le_coe_iff.mpr (h.2.1 k k.isLt)⟩
  · exact Finset.le_fold_max _ |>.mpr (.inr ⟨⟨i, h.1⟩, Finset.mem_univ _, le_rfl⟩)

/-! ## The softmax -/

/-- The sum of the exponentials of the distances to the largest class. -/
def total (r : ℕ → ℝ) (i : ℕ) : ℝ := ∑ k : Fin 80, Real.exp (r k - r i)

theorem total_pos (r : ℕ → ℝ) (i : ℕ) : 0 < total r i :=
  Finset.sum_pos (fun _ _ => Real.exp_pos _) ⟨0, Finset.mem_univ _⟩

theorem exp_sub (a b : ℝ) : Ideal.exp ((a : EReal) - (b : EReal)) = (Real.exp (a - b) : EReal) := by
  rw [← EReal.coe_sub]; rfl

theorem sum_exp (r : ℕ → ℝ) (i : ℕ) : (∑ k : Fin 80, Ideal.exp ((r k : EReal) - (r i : EReal))) = (total r i : EReal) := by
  simp only [exp_sub, total]
  exact (map_sum (⟨⟨fun x : ℝ => (x : EReal), EReal.coe_zero⟩, EReal.coe_add⟩ : ℝ →+ EReal) _ _).symm

/-- The probability of class `k`. -/
def prob (r : ℕ → ℝ) (i k : ℕ) : ℝ := Real.exp (r k - r i) / total r i

theorem div_total (r : ℕ → ℝ) (i k : ℕ) :
    Ideal.div (Ideal.exp ((r k : EReal) - (r i : EReal))) (total r i : EReal) = (prob r i k : EReal) := by
  rw [exp_sub, Ideal.div_coe (total_pos r i).ne', ← EReal.coe_mul, mul_one_div]
  rfl

theorem FirstMax.prob {r : ℕ → ℝ} {i : ℕ} (h : FirstMax r 80 i) : FirstMax (prob r i) 80 i := by
  refine h.comp (fun j k hjk => ?_) (fun j k hjk => ?_)
  · exact div_lt_div_of_pos_right (Real.exp_lt_exp.mpr (by linarith)) (total_pos r i)
  · exact div_le_div_of_nonneg_right (Real.exp_le_exp.mpr (by linarith)) (total_pos r i).le

theorem prob_self (r : ℕ → ℝ) (i : ℕ) : (prob r i i : EReal) = Ideal.div 1 (total r i : EReal) := by
  rw [Ideal.div_coe (total_pos r i).ne', one_mul]
  simp [prob]

/-- What the kernels give as confidence and class. -/
theorem conf_eq {r : ℕ → ℝ} {i : ℕ} (h : FirstMax r 80 i) :
    Ideal.div 1 (Spec.runSum (F := Ideal) (fun k => (r k : EReal)) (Spec.runMax (F := Ideal) (fun k => (r k : EReal)) 80).1 80)
      = (prob r i i : EReal) := by
  rw [runMax_eq h, runSum_eq, sum_exp, prob_self]

/-! ## The least index among the largest -/

theorem minsi_ofNat {a b : ℕ} (ha : a < 2 ^ 31) (hb : b < 2 ^ 31) :
    IntOp.minsi (BitVec.ofNat 32 a) (BitVec.ofNat 32 b) = BitVec.ofNat 32 (min a b) := by
  have ta : (BitVec.ofNat 32 a).toInt = a := by
    rw [BitVec.toInt_eq_toNat_cond, BitVec.toNat_ofNat, Nat.mod_eq_of_lt (by omega)]; split <;> omega
  have tb : (BitVec.ofNat 32 b).toInt = b := by
    rw [BitVec.toInt_eq_toNat_cond, BitVec.toNat_ofNat, Nat.mod_eq_of_lt (by omega)]; split <;> omega
  unfold IntOp.minsi
  rw [BitVec.slt_eq_decide, ta, tb]
  by_cases h : a < b
  · rw [min_eq_left h.le]; simp [h]
  · rw [min_eq_right (not_lt.mp h)]; simp [h]

theorem fold_minsi_ofNat {ι : Type} (s : Finset ι) (b : ℕ) (hb : b < 2 ^ 31) (g : ι → ℕ) (hg : ∀ k, g k < 2 ^ 31) :
    s.fold IntOp.minsi (BitVec.ofNat 32 b) (fun k => BitVec.ofNat 32 (g k)) = BitVec.ofNat 32 (s.fold min b g) ∧ s.fold min b g < 2 ^ 31 := by
  classical
  induction s using Finset.cons_induction with
  | empty => exact ⟨rfl, hb⟩
  | cons a s ha ih =>
    rw [Finset.fold_cons, Finset.fold_cons, ih.1]
    exact ⟨minsi_ofNat (hg a) ih.2, lt_of_le_of_lt (min_le_left _ _) (hg a)⟩

/-- The least number of a class that equals the largest, 80 standing for the others. -/
theorem fold_minsi_first {r : ℕ → ℝ} {i : ℕ} (h : FirstMax r 80 i) :
    (Finset.univ : Finset (Fin 80)).fold IntOp.minsi 2147483647#32
      (fun k : Fin 80 => Scalar.select (Ideal.cmp .oeq (r k : EReal) (r i : EReal)) (BitVec.ofNat 32 k.val) 80#32) = BitVec.ofNat 32 i := by
  classical
  have e : (fun k : Fin 80 => Scalar.select (Ideal.cmp .oeq (r k : EReal) (r i : EReal)) (BitVec.ofNat 32 k.val) 80#32)
      = fun k : Fin 80 => BitVec.ofNat 32 (if r k = r i then k.val else 80) := by
    funext k
    by_cases hk : r k = r i
    · simp [Scalar.select, Ideal.cmp, hk]
    · simp [Scalar.select, Ideal.cmp, hk, EReal.coe_eq_coe_iff]
  rw [e, show (2147483647#32 : BitVec 32) = BitVec.ofNat 32 2147483647 from rfl,
    (fold_minsi_ofNat _ _ (by norm_num) _ fun k => by have := k.isLt; split <;> omega).1]
  congr 1
  have hi := h.1
  apply le_antisymm
  · exact Finset.fold_min_le _ |>.mpr (.inr ⟨⟨i, hi⟩, Finset.mem_univ _, by simp⟩)
  · refine Finset.le_fold_min _ |>.mpr ⟨by omega, fun k _ => ?_⟩
    split
    · next hk => exact not_lt.mp fun hlt => absurd hk (h.2.2 k hlt).ne
    · omega

end Cert.Proof.Math

end
-- ==== Proof.TcVal.lean ====
/-
  One column of the TensorCore's block over the extended reals: its seven numbers and its flag are the box's, the class
  logits being real.
-/
module

public import proofs.«01_k».proof.Proof.Scalars
public import proofs.«01_k».proof.Proof.TcProg
public import proofs.«01_k».proof.Proof.Gen.KernelIdeal
public import Idealize.ShloMosaic.Lib.Pipeline.Value

@[expose] public section

noncomputable section

namespace Cert.Proof.Tc

open Cert.KernelIdeal
open Cert.KernelIdeal.Facts₀ Cert.KernelIdeal.Facts
open Idealize.ShloMosaic
open Cert.Proof.Math
open ValueIdx (ix1 ix2)

variable (t : FVec Ideal S85x1024 .f32) (c : Fin 1024)

/-- Column `c`'s features. -/
def col : ℕ → EReal := fun k => t (ix2 (Fin.ofNat 85 k) c)

theorem slice_row {k : ℕ} (hk : k < 85) (h : S85x1024.Slices ![k, 0] S1x1024) :
    extractStridedSlice S1x1024 ![k, 0] t h (ix2 (0 : Fin 1) c) = col t c k :=
  extractStridedSlice_apply _ _ _ _ _ fun a => by
    fin_cases a
    · show k % 85 = k + 0
      omega
    · show c.val = 0 + c.val
      omega

/-! ## The grid -/

theorem gridX_eq : gridX (ix2 (0 : Fin 1) c) = IntOp.andi (BitVec.ofNat 32 c.val) 31#32 := by
  have e : ∀ c : Fin 1024, gridX (ix2 (0 : Fin 1) c) = IntOp.andi (BitVec.ofNat 32 c.val) 31#32 := by
    decide +kernel
  exact e c

theorem gridY_eq : gridY (ix2 (0 : Fin 1) c) = IntOp.shrui .vector (BitVec.ofNat 32 c.val) 5#32 := by
  have e : ∀ c : Fin 1024, gridY (ix2 (0 : Fin 1) c) = IntOp.shrui .vector (BitVec.ofNat 32 c.val) 5#32 := by
    decide +kernel
  exact e c

/-! ## The classes -/

theorem clsR_apply (k : Fin 80) : clsR t (ix2 k c) = col t c (5 + k.val) :=
  extractStridedSlice_apply _ _ _ _ _ fun a => by
    have := k.isLt
    fin_cases a
    · show (5 + k.val) % 85 = 5 + k.val
      omega
    · show c.val = 0 + c.val
      omega

theorem lift_col (k : Fin 80) : (reduces_S80x1024_S1024 : S80x1024.Reduces [0] S1024).lift (ix1 c) k = ix2 k c := by
  funext a
  fin_cases a <;> rfl

theorem at_lift {α : Type} (x : S80x1024.Idx → α) (k : Fin 80) :
    x ((reduces_S80x1024_S1024 : S80x1024.Reduces [0] S1024).lift (ix1 c) k) = x (ix2 k c) := congrArg x (lift_col c k)

theorem row_of_vec {α : Type} (x : S1024.Idx → α) : shapeCast S1x1024 x shapeCasts_S1024_S1x1024 (ix2 (0 : Fin 1) c) = x (ix1 c) :=
  shapeCast_apply _ _ _ _ (by
    rw [Shape.rowMajor_val_one, Shape.rowMajor_val_two]
    show c.val = 0 * 1024 + c.val
    omega)

variable {r : ℕ → ℝ} (hr : ∀ k, col t c (5 + k) = (r k : EReal)) {i : ℕ} (hi : FirstMax r 80 i)
include hr hi

theorem topB_apply (k : Fin 80) : topB t (ix2 k c) = (r i : EReal) := by
  have e : topB t (ix2 k c) = topR t (ix2 (0 : Fin 1) c) :=
    broadcastTo_apply _ _ _ _ fun a => by fin_cases a <;> rfl
  rw [e]
  refine (row_of_vec c _).trans ((Ideal.multiReduction_maximumf_single _ _ _ _ _ _).trans ?_)
  have e' : (clsR t ∘ (reduces_S80x1024_S1024 : S80x1024.Reduces [0] S1024).lift (ix1 c)) = fun k : Fin 80 => (r k : EReal) := by
    funext k
    exact (at_lift c (clsR t) k).trans ((clsR_apply t c k).trans (hr k.val))
  rw [e']
  show Finset.fold max (Ideal.ofBits .f32 0xFF800000#32) _ _ = _
  rw [ofBits_negInf]
  exact fold_max_eq hi

theorem rowConf_apply : rowConf t (ix2 (0 : Fin 1) c) = (prob r i i : EReal) := by
  show Ideal.div (Ideal.ofBits .f32 0x3F800000#32) (shapeCast S1x1024 _ shapeCasts_S1024_S1x1024 (ix2 (0 : Fin 1) c)) = _
  rw [row_of_vec, ofBits_one, prob_self, ← sum_exp]
  refine congrArg (Ideal.div 1) ((Ideal.multiReduction_add_single _ _ _ _ _ _).trans ?_)
  refine Finset.sum_congr rfl fun k _ => ?_
  refine (at_lift c (fun q => Ideal.exp (clsR t q - topB t q)) k).trans ?_
  exact congrArg Ideal.exp (congrArg₂ (· - ·) ((clsR_apply t c k).trans (hr k.val)) (topB_apply t c hr hi k))

theorem rowCid_apply : rowCid t (ix2 (0 : Fin 1) c) = FloatOps.sitofp (F := Ideal) .f32 (BitVec.ofNat 32 i) := by
  show FloatOps.sitofp (F := Ideal) .f32 (shapeCast S1x1024 _ shapeCasts_S1024_S1x1024 (ix2 (0 : Fin 1) c)) = _
  rw [row_of_vec]
  refine congrArg _ ((multiReductionI_eq_fold _ _ _ _ _ _).trans ?_)
  refine (Shape.Reduces.fold_filter_drop_single _ IKind.minsi.op _ _ _).trans ?_
  have e : ∀ k : Fin 80, (select (cmpf .oeq (clsR t) (topB t)) (iota .tc S80x1024 32 [0] iota_S80x1024_d0_w32) (broadcast S80x1024 80#32))
      (ix2 k c) = Scalar.select (Ideal.cmp .oeq (r k : EReal) (r i : EReal)) (BitVec.ofNat 32 k.val) 80#32 := by
    intro k
    show Scalar.select (Ideal.cmp .oeq (clsR t (ix2 k c)) (topB t (ix2 k c))) (BitVec.ofNat 32 (0 * 80 + k.val)) 80#32 = _
    rw [clsR_apply, topB_apply t c hr hi, hr, Nat.zero_mul, Nat.zero_add]
  refine Eq.trans ?_ (fold_minsi_first hi)
  show Finset.fold IntOp.minsi _ _ (Finset.univ : Finset (Fin 80)) = _
  exact Finset.fold_congr fun k _ => (at_lift c _ k).trans (e k)

omit hr hi in
theorem det_apply {k : ℕ} (hk : k < 85) (h : S85x1024.Slices ![k, 0] S1x1024) :
    sigR (extractStridedSlice S1x1024 ![k, 0] t h) (ix2 (0 : Fin 1) c) = Spec.logi (F := Ideal) (col t c k) := by
  show Ideal.div (Ideal.ofBits .f32 0x3F800000#32) (Ideal.ofBits .f32 0x3F800000#32
    + Ideal.exp (Ideal.ofBits .f32 0x00000000#32 - extractStridedSlice S1x1024 ![k, 0] t h (ix2 (0 : Fin 1) c))) = _
  rw [slice_row t c hk]
  rfl

omit hr hi in
/-- Row `f` of a block's boxes is its `f`-th row. -/
theorem tcBoxes_row (aw ah : BitVec 32) (f : Fin 7) :
    tcBoxes t aw ah (ix2 f c) = (![rowXs t, rowYs t, rowWs t aw, rowHs t ah, rowDet t, rowConf t, rowCid t] f) (ix2 (0 : Fin 1) c) := by
  show concatenate S7x1024 0 (List.ofFn fun n : Fin 7 => (⟨S1x1024, ![rowXs t, rowYs t, rowWs t aw, rowHs t ah, rowDet t, rowConf t, rowCid t] n⟩ : (s : Shape) × (s.Idx → EReal))) _ _ = _
  refine concatenate_ofFn_unit_apply (t := S7x1024) (s₁ := S1x1024) 0 _ _ rfl rfl (ix2 f c) f rfl (ix2 (0 : Fin 1) c) fun b hb => ?_
  fin_cases b
  · exact absurd rfl hb
  · rfl

/-- The seven numbers of a column. -/
theorem tcBoxes_eq (aw ah : BitVec 32) (f : Fin 7) :
    tcBoxes t aw ah (ix2 f c) = Spec.box (F := Ideal) aw ah (BitVec.ofNat 32 c.val) (col t c) f.val := by
  rw [tcBoxes_row]
  have hy : (fun k => col t c (5 + k)) = fun k => (r k : EReal) := funext hr
  fin_cases f
  · show (sigR _ (ix2 (0 : Fin 1) c) + FloatOps.sitofp (F := Ideal) .f32 (gridX (ix2 (0 : Fin 1) c))) * _ = _
    rw [det_apply t c (by norm_num), gridX_eq]
    rfl
  · show (sigR _ (ix2 (0 : Fin 1) c) + FloatOps.sitofp (F := Ideal) .f32 (gridY (ix2 (0 : Fin 1) c))) * _ = _
    rw [det_apply t c (by norm_num), gridY_eq]
    rfl
  · show Ideal.exp (extractStridedSlice S1x1024 ![2, 0] t _ (ix2 (0 : Fin 1) c)) * _ = _
    rw [slice_row t c (by norm_num)]
    rfl
  · show Ideal.exp (extractStridedSlice S1x1024 ![3, 0] t _ (ix2 (0 : Fin 1) c)) * _ = _
    rw [slice_row t c (by norm_num)]
    rfl
  · exact det_apply t c (by norm_num) _
  · refine (rowConf_apply t c hr hi).trans ?_
    show _ = Ideal.div (Ideal.ofBits .f32 0x3F800000#32) (Spec.runSum (F := Ideal) (fun k => col t c (5 + k)) (Spec.runMax (F := Ideal) (fun k => col t c (5 + k)) 80).1 80)
    rw [hy, ofBits_one, conf_eq hi]
  · refine (rowCid_apply t c hr hi).trans ?_
    show _ = FloatOps.sitofp (F := Ideal) .f32 (Spec.runMax (F := Ideal) (fun k => col t c (5 + k)) 80).2
    rw [hy, runMax_eq hi]

omit hr hi in
/-- The flag of a column, widened. -/
theorem tcKeep_eq (th : EReal) :
    tcKeep t th (ix2 (0 : Fin 1) c) = BitVec.zeroExtend 32 (Ideal.cmp .ogt (Spec.logi (F := Ideal) (col t c 4)) th) := by
  show BitVec.zeroExtend 32 (Ideal.cmp .ogt (rowDet t (ix2 (0 : Fin 1) c)) th) = _
  unfold rowDet
  rw [det_apply t c (by norm_num)]

end Cert.Proof.Tc

end
-- ==== Proof.KernelPt.lean ====
/-
  The kernel's two results read at an index: box `a * 1024 + c` of batch `b` is anchor `a`'s cell `c`.
-/
module

public import proofs.«01_k».proof.Proof.KernelVal
public import proofs.«01_k».proof.Proof.TcVal

@[expose] public section

noncomputable section

namespace Cert.Proof.Launch

open Cert.KernelIdeal
open Cert.KernelIdeal.Facts₀ Cert.KernelIdeal.Facts
open Idealize.ShloMosaic
open Cert.Proof.Tile Cert.Proof.Tc Cert.Proof.Math

/-- The box of anchor `a` and cell `c`. -/
def boxNo (a : Fin 3) (c : Fin 1024) : Fin 3072 := ⟨a.val * 1024 + c.val, by omega⟩

variable {F : FTy → Type} [FloatOps F]

theorem boxesOf_apply (hd : S56x3x7x1024.Idx → F .f32) (tl : S8x3x7x1024.Idx → F .f32) (b : Fin 64) (a : Fin 3) (c : Fin 1024) (f : Fin 7) :
    boxesOf hd tl (ValueIdx.ix3 b (boxNo a c) f)
      = concatenate S64x3x7x1024 0 [⟨S56x3x7x1024, hd⟩, ⟨S8x3x7x1024, tl⟩] concatenates_S56x3x7x1024_S8x3x7x1024_S64x3x7x1024_d0 (ValueIdx.ix4 b a f c) := by
  unfold boxesOf
  refine (shapeCast_apply _ _ _ (ValueIdx.ix4 b a c f) ?_).trans (transpose_apply _ _ _ _ (ValueIdx.ix4 b a f c) ?_)
  · rw [Shape.rowMajor_val_three, Shape.rowMajor_val_four]
    show ((b.val * 3 + a.val) * 1024 + c.val) * 7 + f.val = (b.val * 3072 + (a.val * 1024 + c.val)) * 7 + f.val
    ring
  · intro k
    fin_cases k <;> rfl

theorem head_apply (hd : S56x3x7x1024.Idx → F .f32) (tl : S8x3x7x1024.Idx → F .f32) (b : Fin 56) (a : Fin 3) (c : Fin 1024) (f : Fin 7) :
    concatenate S64x3x7x1024 0 [⟨S56x3x7x1024, hd⟩, ⟨S8x3x7x1024, tl⟩] concatenates_S56x3x7x1024_S8x3x7x1024_S64x3x7x1024_d0
      (ValueIdx.ix4 (b.castLE (by decide) : Fin 64) a f c) = hd (ValueIdx.ix4 b a f c) :=
  concatenate_pair_apply_left (t := S64x3x7x1024) (s₁ := S56x3x7x1024) (s₂ := S8x3x7x1024) _ _ _ _ _ rfl _ fun k => by fin_cases k <;> rfl

theorem tail_apply (hd : S56x3x7x1024.Idx → F .f32) (tl : S8x3x7x1024.Idx → F .f32) (b : Fin 8) (a : Fin 3) (c : Fin 1024) (f : Fin 7) :
    concatenate S64x3x7x1024 0 [⟨S56x3x7x1024, hd⟩, ⟨S8x3x7x1024, tl⟩] concatenates_S56x3x7x1024_S8x3x7x1024_S64x3x7x1024_d0
      (ValueIdx.ix4 (lateBatch b) a f c) = tl (ValueIdx.ix4 b a f c) :=
  concatenate_pair_apply_right (t := S64x3x7x1024) (s₁ := S56x3x7x1024) (s₂ := S8x3x7x1024) _ _ _ _ _ rfl rfl _
    (fun k hk => by
      fin_cases k
      · exact absurd rfl hk
      all_goals rfl)
    (Nat.add_comm _ _)

theorem flagsHead_apply (hd : S56x3x1x1024.Idx → BitVec 32) (tl : S8x3x1024.Idx → F .f32) (b : Fin 56) (a : Fin 3) (c : Fin 1024) :
    flagsOf hd tl (ValueIdx.ix2 (b.castLE (by decide) : Fin 64) (boxNo a c)) = IntOp.cmpi .ne (hd (ValueIdx.ix4 b a (0 : Fin 1) c)) 0#32 := by
  unfold flagsOf
  refine (concatenate_pair_apply_left (t := S64x3072) (s₁ := S56x3072) (s₂ := S8x3072) _ _ _ _ _ rfl (ValueIdx.ix2 b (boxNo a c)) fun k => by fin_cases k <;> rfl).trans ?_
  refine (shapeCast_apply _ _ _ (ValueIdx.ix4 b a (0 : Fin 1) c) ?_).trans rfl
  rw [Shape.rowMajor_val_two, Shape.rowMajor_val_four]
  show ((b.val * 3 + a.val) * 1 + 0) * 1024 + c.val = b.val * 3072 + (a.val * 1024 + c.val)
  ring

theorem flagsTail_apply (hd : S56x3x1x1024.Idx → BitVec 32) (tl : S8x3x1024.Idx → F .f32) (b : Fin 8) (a : Fin 3) (c : Fin 1024) :
    flagsOf hd tl (ValueIdx.ix2 (lateBatch b) (boxNo a c)) = FloatOps.cmpf .ogt (tl (ValueIdx.ix3 b a c)) (FloatOps.ofBits .f32 0x3F000000#32) := by
  unfold flagsOf
  refine (concatenate_pair_apply_right (t := S64x3072) (s₁ := S56x3072) (s₂ := S8x3072) _ _ _ _ _ rfl rfl (ValueIdx.ix2 b (boxNo a c)) (fun k hk => ?_) (Nat.add_comm _ _)).trans ?_
  · fin_cases k
    · exact absurd rfl hk
    · rfl
  refine congrArg (fun v => FloatOps.cmpf .ogt v (FloatOps.ofBits .f32 0x3F000000#32)) (shapeCast_apply _ _ _ (ValueIdx.ix3 b a c) ?_)
  rw [Shape.rowMajor_val_two, Shape.rowMajor_val_three]
  show (b.val * 3 + a.val) * 1024 + c.val = b.val * 3072 + (a.val * 1024 + c.val)
  ring

/-- A batch is one of the first fifty-six or one of the last eight. -/
theorem batch_cases (b : Fin 64) : (∃ b' : Fin 56, b = b'.castLE (by decide)) ∨ ∃ b' : Fin 8, b = lateBatch b' := by
  rcases Nat.lt_or_ge b.val 56 with h | h
  · exact .inl ⟨⟨b.val, h⟩, rfl⟩
  · exact .inr ⟨⟨b.val - 56, by omega⟩, Fin.ext (by show b.val = 56 + (b.val - 56); omega)⟩

/-- The kernel's boxes over the extended reals. -/
theorem boxes_apply (X : S64x3x85x1024.Idx → EReal) (b : Fin 64) (a : Fin 3) (c : Fin 1024) (f : Fin 7) {r : ℕ → ℝ}
    (hr : ∀ k, xfeat (F := Ideal) X b a c (5 + k) = (r k : EReal)) {i : ℕ} (hi : FirstMax r 80 i) :
    boxesOf (F := Ideal) (boxHead (F := Ideal) X) (boxT (F := Ideal) X) (ValueIdx.ix3 b (boxNo a c) f)
      = Spec.box (F := Ideal) (Spec.anchW a) (Spec.anchH a) (BitVec.ofNat 32 c.val) (xfeat (F := Ideal) X b a c) f.val := by
  rw [boxesOf_apply]
  rcases batch_cases b with ⟨b', rfl⟩ | ⟨b', rfl⟩
  · rw [head_apply]
    exact tcBoxes_eq (rows64 (F := Ideal) X (b'.castLE (by decide)) a) c hr hi _ _ f
  · rw [tail_apply]
    rfl

theorem ne_zero_bit : ∀ v : BitVec 1, IntOp.cmpi .ne (BitVec.zeroExtend 32 v) 0#32 = v := by decide

/-- The kernel's flags over the extended reals. -/
theorem flags_apply (X : S64x3x85x1024.Idx → EReal) (th : EReal) (b : Fin 64) (a : Fin 3) (c : Fin 1024) :
    flagsOf (F := Ideal) (flagHead (F := Ideal) X th) (flagT (F := Ideal) X th) (ValueIdx.ix2 b (boxNo a c))
      = Ideal.cmp .ogt (Spec.logi (F := Ideal) (xfeat (F := Ideal) X b a c 4)) th := by
  rcases batch_cases b with ⟨b', rfl⟩ | ⟨b', rfl⟩
  · rw [flagsHead_apply]
    refine (congrArg (fun v => IntOp.cmpi .ne v 0#32) (tcKeep_eq (rows64 (F := Ideal) X (b'.castLE (by decide)) a) c th)).trans ?_
    exact ne_zero_bit _
  · rw [flagsTail_apply]
    show Ideal.cmp .ogt (Scalar.select (Ideal.cmp .ogt (Spec.logi (F := Ideal) (xfeat (F := Ideal) X (lateBatch b') a c 4)) th)
      (Ideal.ofBits .f32 0x3F800000#32) (Ideal.ofBits .f32 0x00000000#32)) (Ideal.ofBits .f32 0x3F000000#32) = _
    rw [ofBits_one, ofBits_zero, ofBits_half]
    have e : ∀ v : BitVec 1, Ideal.cmp .ogt (Scalar.select v (1 : EReal) 0) ((1 / 2 : ℝ) : EReal) = v := by
      have h1 : ((1 / 2 : ℝ) : EReal) < 1 := by exact_mod_cast (by norm_num : (1 / 2 : ℝ) < 1)
      have h0 : ¬ ((1 / 2 : ℝ) : EReal) < 0 := by
        rw [not_lt]; exact_mod_cast (by norm_num : (0 : ℝ) ≤ 1 / 2)
      intro v
      rcases (by decide : ∀ v : BitVec 1, v = 0#1 ∨ v = 1#1) v with rfl | rfl
      · simp [Scalar.select, Ideal.cmp, h0, -one_div]
      · simp [Scalar.select, Ideal.cmp, h1, -one_div]
    exact e _

end Cert.Proof.Launch

end
-- ==== Proof.RefRun.lean ====
/-
  The reference's run: its @main is a straight line of host operations, listed here by what they compute, and every
  buffer ends at their results over the launch contents.
-/
module

public import proofs.«01_k».proof.Proof.Gen.ReferenceIdeal
public import Idealize.ShloMosaic.Lib.StableHlo.Run
public import Idealize.ShloMosaic.Lib.Pipeline.Frame

@[expose] public section

noncomputable section

namespace Cert.Proof.Ref

open Cert.ReferenceIdeal
open Cert.ReferenceIdeal.Facts₀ Cert.ReferenceIdeal.Facts
open Idealize.ShloMosaic Idealize.ShloMosaic.TcCoe Idealize.ShloMosaic.StableHlo
open Idealize.SL.Sem

variable {F : FTy → Type} [FloatOps F]

/-- The operations of the planes, the two grids and the anchors. -/
def opsGrid : List (HloOp τ sig (Elt F)) :=
  [nullary main_cst (fun i => FloatOps.ofBits .f32 (lit0 (S3.rowMajor i))),
   nullary main_cst_0 (fun i => FloatOps.ofBits .f32 (lit1 (S3.rowMajor i))),
   reshape main_arg0 main_v0 (rfl : (.f32 : EltTy) = .f32) shapeCasts_S64x255x32x32_S64x3x85x32x32,
   nullary main_v1 (sitofp .f32 (iotaInDim S32 32 0)),
   unary main_v1 main_v2 (broadcastInDim S1x1x1x32 ![3] bcast_S32_S1x1x1x32_3 : (⟨S32, .f32⟩ : BufTy).Contents (Elt F) → (⟨S1x1x1x32, .f32⟩ : BufTy).Contents (Elt F)),
   nullary main_v3 (sitofp .f32 (iotaInDim S32 32 0)),
   unary main_v3 main_v4 (broadcastInDim S1x1x32x1 ![2] bcast_S32_S1x1x32x1_2 : (⟨S32, .f32⟩ : BufTy).Contents (Elt F) → (⟨S1x1x32x1, .f32⟩ : BufTy).Contents (Elt F))]

theorem keepGrid (V : Valuation τ sig (Elt F)) {r : Ref sig .tc} (h : r ∉ [main_cst, main_cst_0, main_v0, main_v1, main_v2, main_v3, main_v4]) :
    after opsGrid V (Proc.devRef .tc r) = V (Proc.devRef .tc r) :=
  after_of_writes_sub opsGrid V (forall_writes_sub_of_map rfl) h

/-- The operations of the box centres' first coordinate. -/
def opsXs : List (HloOp τ sig (Elt F)) :=
  [unary main_v0 main_v5 ((extractStridedSlice S64x3x1x32x32 ![0, 0, 0, 0, 0] · slices_S64x3x85x32x32_S64x3x1x32x32_0_0_0_0_0) : (⟨S64x3x85x32x32, .f32⟩ : BufTy).Contents (Elt F) → (⟨S64x3x1x32x32, .f32⟩ : BufTy).Contents (Elt F)),
   reshape main_v5 main_v6 (rfl : (.f32 : EltTy) = .f32) shapeCasts_S64x3x1x32x32_S64x3x32x32,
   unary main_v6 main_v7 (Host.negf : (⟨S64x3x32x32, .f32⟩ : BufTy).Contents (Elt F) → (⟨S64x3x32x32, .f32⟩ : BufTy).Contents (Elt F)),
   unary main_v7 main_v8 (Host.exp : (⟨S64x3x32x32, .f32⟩ : BufTy).Contents (Elt F) → (⟨S64x3x32x32, .f32⟩ : BufTy).Contents (Elt F)),
   nullary main_cst_1 (constant S_ .f32 0x3F800000#32),
   unary main_cst_1 main_v9 (broadcastInDim S64x3x32x32 ![] bcast_S_S64x3x32x32 : (⟨S_, .f32⟩ : BufTy).Contents (Elt F) → (⟨S64x3x32x32, .f32⟩ : BufTy).Contents (Elt F)),
   binary main_v9 main_v8 main_v10 (addf : (⟨S64x3x32x32, .f32⟩ : BufTy).Contents (Elt F) → (⟨S64x3x32x32, .f32⟩ : BufTy).Contents (Elt F) → (⟨S64x3x32x32, .f32⟩ : BufTy).Contents (Elt F)),
   nullary main_cst_2 (constant S_ .f32 0x3F800000#32),
   unary main_cst_2 main_v11 (broadcastInDim S64x3x32x32 ![] bcast_S_S64x3x32x32 : (⟨S_, .f32⟩ : BufTy).Contents (Elt F) → (⟨S64x3x32x32, .f32⟩ : BufTy).Contents (Elt F)),
   binary main_v11 main_v10 main_v12 (Host.divf : (⟨S64x3x32x32, .f32⟩ : BufTy).Contents (Elt F) → (⟨S64x3x32x32, .f32⟩ : BufTy).Contents (Elt F) → (⟨S64x3x32x32, .f32⟩ : BufTy).Contents (Elt F)),
   unary main_v2 main_v13 (broadcastInDim S64x3x32x32 ![0, 1, 2, 3] bcast_S1x1x1x32_S64x3x32x32_0_1_2_3 : (⟨S1x1x1x32, .f32⟩ : BufTy).Contents (Elt F) → (⟨S64x3x32x32, .f32⟩ : BufTy).Contents (Elt F)),
   binary main_v12 main_v13 main_v14 (addf : (⟨S64x3x32x32, .f32⟩ : BufTy).Contents (Elt F) → (⟨S64x3x32x32, .f32⟩ : BufTy).Contents (Elt F) → (⟨S64x3x32x32, .f32⟩ : BufTy).Contents (Elt F)),
   nullary main_cst_3 (constant S_ .f32 0x42000000#32),
   unary main_cst_3 main_v15 (broadcastInDim S64x3x32x32 ![] bcast_S_S64x3x32x32 : (⟨S_, .f32⟩ : BufTy).Contents (Elt F) → (⟨S64x3x32x32, .f32⟩ : BufTy).Contents (Elt F)),
   binary main_v14 main_v15 main_v16 (Host.divf : (⟨S64x3x32x32, .f32⟩ : BufTy).Contents (Elt F) → (⟨S64x3x32x32, .f32⟩ : BufTy).Contents (Elt F) → (⟨S64x3x32x32, .f32⟩ : BufTy).Contents (Elt F))]

theorem keepXs (V : Valuation τ sig (Elt F)) {r : Ref sig .tc} (h : r ∉ [main_v5, main_v6, main_v7, main_v8, main_cst_1, main_v9, main_v10, main_cst_2, main_v11, main_v12, main_v13, main_v14, main_cst_3, main_v15, main_v16]) :
    after opsXs V (Proc.devRef .tc r) = V (Proc.devRef .tc r) :=
  after_of_writes_sub opsXs V (forall_writes_sub_of_map rfl) h

/-- The operations of their second coordinate. -/
def opsYs : List (HloOp τ sig (Elt F)) :=
  [unary main_v0 main_v17 ((extractStridedSlice S64x3x1x32x32 ![0, 0, 1, 0, 0] · slices_S64x3x85x32x32_S64x3x1x32x32_0_0_1_0_0) : (⟨S64x3x85x32x32, .f32⟩ : BufTy).Contents (Elt F) → (⟨S64x3x1x32x32, .f32⟩ : BufTy).Contents (Elt F)),
   reshape main_v17 main_v18 (rfl : (.f32 : EltTy) = .f32) shapeCasts_S64x3x1x32x32_S64x3x32x32,
   unary main_v18 main_v19 (Host.negf : (⟨S64x3x32x32, .f32⟩ : BufTy).Contents (Elt F) → (⟨S64x3x32x32, .f32⟩ : BufTy).Contents (Elt F)),
   unary main_v19 main_v20 (Host.exp : (⟨S64x3x32x32, .f32⟩ : BufTy).Contents (Elt F) → (⟨S64x3x32x32, .f32⟩ : BufTy).Contents (Elt F)),
   nullary main_cst_4 (constant S_ .f32 0x3F800000#32),
   unary main_cst_4 main_v21 (broadcastInDim S64x3x32x32 ![] bcast_S_S64x3x32x32 : (⟨S_, .f32⟩ : BufTy).Contents (Elt F) → (⟨S64x3x32x32, .f32⟩ : BufTy).Contents (Elt F)),
   binary main_v21 main_v20 main_v22 (addf : (⟨S64x3x32x32, .f32⟩ : BufTy).Contents (Elt F) → (⟨S64x3x32x32, .f32⟩ : BufTy).Contents (Elt F) → (⟨S64x3x32x32, .f32⟩ : BufTy).Contents (Elt F)),
   nullary main_cst_5 (constant S_ .f32 0x3F800000#32),
   unary main_cst_5 main_v23 (broadcastInDim S64x3x32x32 ![] bcast_S_S64x3x32x32 : (⟨S_, .f32⟩ : BufTy).Contents (Elt F) → (⟨S64x3x32x32, .f32⟩ : BufTy).Contents (Elt F)),
   binary main_v23 main_v22 main_v24 (Host.divf : (⟨S64x3x32x32, .f32⟩ : BufTy).Contents (Elt F) → (⟨S64x3x32x32, .f32⟩ : BufTy).Contents (Elt F) → (⟨S64x3x32x32, .f32⟩ : BufTy).Contents (Elt F)),
   unary main_v4 main_v25 (broadcastInDim S64x3x32x32 ![0, 1, 2, 3] bcast_S1x1x32x1_S64x3x32x32_0_1_2_3 : (⟨S1x1x32x1, .f32⟩ : BufTy).Contents (Elt F) → (⟨S64x3x32x32, .f32⟩ : BufTy).Contents (Elt F)),
   binary main_v24 main_v25 main_v26 (addf : (⟨S64x3x32x32, .f32⟩ : BufTy).Contents (Elt F) → (⟨S64x3x32x32, .f32⟩ : BufTy).Contents (Elt F) → (⟨S64x3x32x32, .f32⟩ : BufTy).Contents (Elt F)),
   nullary main_cst_6 (constant S_ .f32 0x42000000#32),
   unary main_cst_6 main_v27 (broadcastInDim S64x3x32x32 ![] bcast_S_S64x3x32x32 : (⟨S_, .f32⟩ : BufTy).Contents (Elt F) → (⟨S64x3x32x32, .f32⟩ : BufTy).Contents (Elt F)),
   binary main_v26 main_v27 main_v28 (Host.divf : (⟨S64x3x32x32, .f32⟩ : BufTy).Contents (Elt F) → (⟨S64x3x32x32, .f32⟩ : BufTy).Contents (Elt F) → (⟨S64x3x32x32, .f32⟩ : BufTy).Contents (Elt F))]

theorem keepYs (V : Valuation τ sig (Elt F)) {r : Ref sig .tc} (h : r ∉ [main_v17, main_v18, main_v19, main_v20, main_cst_4, main_v21, main_v22, main_cst_5, main_v23, main_v24, main_v25, main_v26, main_cst_6, main_v27, main_v28]) :
    after opsYs V (Proc.devRef .tc r) = V (Proc.devRef .tc r) :=
  after_of_writes_sub opsYs V (forall_writes_sub_of_map rfl) h

/-- The operations of the widths. -/
def opsWs : List (HloOp τ sig (Elt F)) :=
  [unary main_v0 main_v29 ((extractStridedSlice S64x3x1x32x32 ![0, 0, 2, 0, 0] · slices_S64x3x85x32x32_S64x3x1x32x32_0_0_2_0_0) : (⟨S64x3x85x32x32, .f32⟩ : BufTy).Contents (Elt F) → (⟨S64x3x1x32x32, .f32⟩ : BufTy).Contents (Elt F)),
   reshape main_v29 main_v30 (rfl : (.f32 : EltTy) = .f32) shapeCasts_S64x3x1x32x32_S64x3x32x32,
   unary main_v30 main_v31 (Host.exp : (⟨S64x3x32x32, .f32⟩ : BufTy).Contents (Elt F) → (⟨S64x3x32x32, .f32⟩ : BufTy).Contents (Elt F)),
   unary main_cst main_v32 (broadcastInDim S1x3x1x1 ![1] bcast_S3_S1x3x1x1_1 : (⟨S3, .f32⟩ : BufTy).Contents (Elt F) → (⟨S1x3x1x1, .f32⟩ : BufTy).Contents (Elt F)),
   unary main_v32 main_v33 (broadcastInDim S64x3x32x32 ![0, 1, 2, 3] bcast_S1x3x1x1_S64x3x32x32_0_1_2_3 : (⟨S1x3x1x1, .f32⟩ : BufTy).Contents (Elt F) → (⟨S64x3x32x32, .f32⟩ : BufTy).Contents (Elt F)),
   binary main_v31 main_v33 main_v34 (mulf : (⟨S64x3x32x32, .f32⟩ : BufTy).Contents (Elt F) → (⟨S64x3x32x32, .f32⟩ : BufTy).Contents (Elt F) → (⟨S64x3x32x32, .f32⟩ : BufTy).Contents (Elt F)),
   nullary main_cst_7 (constant S_ .f32 0x42000000#32),
   unary main_cst_7 main_v35 (broadcastInDim S64x3x32x32 ![] bcast_S_S64x3x32x32 : (⟨S_, .f32⟩ : BufTy).Contents (Elt F) → (⟨S64x3x32x32, .f32⟩ : BufTy).Contents (Elt F)),
   binary main_v34 main_v35 main_v36 (Host.divf : (⟨S64x3x32x32, .f32⟩ : BufTy).Contents (Elt F) → (⟨S64x3x32x32, .f32⟩ : BufTy).Contents (Elt F) → (⟨S64x3x32x32, .f32⟩ : BufTy).Contents (Elt F))]

theorem keepWs (V : Valuation τ sig (Elt F)) {r : Ref sig .tc} (h : r ∉ [main_v29, main_v30, main_v31, main_v32, main_v33, main_v34, main_cst_7, main_v35, main_v36]) :
    after opsWs V (Proc.devRef .tc r) = V (Proc.devRef .tc r) :=
  after_of_writes_sub opsWs V (forall_writes_sub_of_map rfl) h

/-- The operations of the heights. -/
def opsHs : List (HloOp τ sig (Elt F)) :=
  [unary main_v0 main_v37 ((extractStridedSlice S64x3x1x32x32 ![0, 0, 3, 0, 0] · slices_S64x3x85x32x32_S64x3x1x32x32_0_0_3_0_0) : (⟨S64x3x85x32x32, .f32⟩ : BufTy).Contents (Elt F) → (⟨S64x3x1x32x32, .f32⟩ : BufTy).Contents (Elt F)),
   reshape main_v37 main_v38 (rfl : (.f32 : EltTy) = .f32) shapeCasts_S64x3x1x32x32_S64x3x32x32,
   unary main_v38 main_v39 (Host.exp : (⟨S64x3x32x32, .f32⟩ : BufTy).Contents (Elt F) → (⟨S64x3x32x32, .f32⟩ : BufTy).Contents (Elt F)),
   unary main_cst_0 main_v40 (broadcastInDim S1x3x1x1 ![1] bcast_S3_S1x3x1x1_1 : (⟨S3, .f32⟩ : BufTy).Contents (Elt F) → (⟨S1x3x1x1, .f32⟩ : BufTy).Contents (Elt F)),
   unary main_v40 main_v41 (broadcastInDim S64x3x32x32 ![0, 1, 2, 3] bcast_S1x3x1x1_S64x3x32x32_0_1_2_3 : (⟨S1x3x1x1, .f32⟩ : BufTy).Contents (Elt F) → (⟨S64x3x32x32, .f32⟩ : BufTy).Contents (Elt F)),
   binary main_v39 main_v41 main_v42 (mulf : (⟨S64x3x32x32, .f32⟩ : BufTy).Contents (Elt F) → (⟨S64x3x32x32, .f32⟩ : BufTy).Contents (Elt F) → (⟨S64x3x32x32, .f32⟩ : BufTy).Contents (Elt F)),
   nullary main_cst_8 (constant S_ .f32 0x42000000#32),
   unary main_cst_8 main_v43 (broadcastInDim S64x3x32x32 ![] bcast_S_S64x3x32x32 : (⟨S_, .f32⟩ : BufTy).Contents (Elt F) → (⟨S64x3x32x32, .f32⟩ : BufTy).Contents (Elt F)),
   binary main_v42 main_v43 main_v44 (Host.divf : (⟨S64x3x32x32, .f32⟩ : BufTy).Contents (Elt F) → (⟨S64x3x32x32, .f32⟩ : BufTy).Contents (Elt F) → (⟨S64x3x32x32, .f32⟩ : BufTy).Contents (Elt F))]

theorem keepHs (V : Valuation τ sig (Elt F)) {r : Ref sig .tc} (h : r ∉ [main_v37, main_v38, main_v39, main_v40, main_v41, main_v42, main_cst_8, main_v43, main_v44]) :
    after opsHs V (Proc.devRef .tc r) = V (Proc.devRef .tc r) :=
  after_of_writes_sub opsHs V (forall_writes_sub_of_map rfl) h

/-- The operations of the detection confidence. -/
def opsConf : List (HloOp τ sig (Elt F)) :=
  [unary main_v0 main_v45 ((extractStridedSlice S64x3x1x32x32 ![0, 0, 4, 0, 0] · slices_S64x3x85x32x32_S64x3x1x32x32_0_0_4_0_0) : (⟨S64x3x85x32x32, .f32⟩ : BufTy).Contents (Elt F) → (⟨S64x3x1x32x32, .f32⟩ : BufTy).Contents (Elt F)),
   reshape main_v45 main_v46 (rfl : (.f32 : EltTy) = .f32) shapeCasts_S64x3x1x32x32_S64x3x32x32,
   unary main_v46 main_v47 (Host.negf : (⟨S64x3x32x32, .f32⟩ : BufTy).Contents (Elt F) → (⟨S64x3x32x32, .f32⟩ : BufTy).Contents (Elt F)),
   unary main_v47 main_v48 (Host.exp : (⟨S64x3x32x32, .f32⟩ : BufTy).Contents (Elt F) → (⟨S64x3x32x32, .f32⟩ : BufTy).Contents (Elt F)),
   nullary main_cst_9 (constant S_ .f32 0x3F800000#32),
   unary main_cst_9 main_v49 (broadcastInDim S64x3x32x32 ![] bcast_S_S64x3x32x32 : (⟨S_, .f32⟩ : BufTy).Contents (Elt F) → (⟨S64x3x32x32, .f32⟩ : BufTy).Contents (Elt F)),
   binary main_v49 main_v48 main_v50 (addf : (⟨S64x3x32x32, .f32⟩ : BufTy).Contents (Elt F) → (⟨S64x3x32x32, .f32⟩ : BufTy).Contents (Elt F) → (⟨S64x3x32x32, .f32⟩ : BufTy).Contents (Elt F)),
   nullary main_cst_10 (constant S_ .f32 0x3F800000#32),
   unary main_cst_10 main_v51 (broadcastInDim S64x3x32x32 ![] bcast_S_S64x3x32x32 : (⟨S_, .f32⟩ : BufTy).Contents (Elt F) → (⟨S64x3x32x32, .f32⟩ : BufTy).Contents (Elt F)),
   binary main_v51 main_v50 main_v52 (Host.divf : (⟨S64x3x32x32, .f32⟩ : BufTy).Contents (Elt F) → (⟨S64x3x32x32, .f32⟩ : BufTy).Contents (Elt F) → (⟨S64x3x32x32, .f32⟩ : BufTy).Contents (Elt F))]

theorem keepConf (V : Valuation τ sig (Elt F)) {r : Ref sig .tc} (h : r ∉ [main_v45, main_v46, main_v47, main_v48, main_cst_9, main_v49, main_v50, main_cst_10, main_v51, main_v52]) :
    after opsConf V (Proc.devRef .tc r) = V (Proc.devRef .tc r) :=
  after_of_writes_sub opsConf V (forall_writes_sub_of_map rfl) h

/-- The operations of the class probabilities and their maximum. -/
def opsSoft : List (HloOp τ sig (Elt F)) :=
  [unary main_v0 main_v53 ((extractStridedSlice S64x3x80x32x32 ![0, 0, 5, 0, 0] · slices_S64x3x85x32x32_S64x3x80x32x32_0_0_5_0_0) : (⟨S64x3x85x32x32, .f32⟩ : BufTy).Contents (Elt F) → (⟨S64x3x80x32x32, .f32⟩ : BufTy).Contents (Elt F)),
   nullary main_cst_11 (constant S_ .f32 0xFF800000#32),
   binary main_v53 main_cst_11 main_v54 ((fun x v => Host.reduce FloatOps.maximumf x v reducesTo_S64x3x80x32x32_S64x3x32x32_d2 h_S_) : (⟨S64x3x80x32x32, .f32⟩ : BufTy).Contents (Elt F) → (⟨S_, .f32⟩ : BufTy).Contents (Elt F) → (⟨S64x3x32x32, .f32⟩ : BufTy).Contents (Elt F)),
   nullary main_cst_12 (constant S_ .f32 0xFF800000#32),
   unary main_cst_12 main_v55 (broadcastInDim S64x3x32x32 ![] bcast_S_S64x3x32x32 : (⟨S_, .f32⟩ : BufTy).Contents (Elt F) → (⟨S64x3x32x32, .f32⟩ : BufTy).Contents (Elt F)),
   binary main_v55 main_v54 main_v56 (maximumf : (⟨S64x3x32x32, .f32⟩ : BufTy).Contents (Elt F) → (⟨S64x3x32x32, .f32⟩ : BufTy).Contents (Elt F) → (⟨S64x3x32x32, .f32⟩ : BufTy).Contents (Elt F)),
   unary main_v56 main_v57 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
   unary main_v57 main_v58 (broadcastInDim S64x3x80x32x32 ![0, 1, 2, 3, 4] bcast_S64x3x1x32x32_S64x3x80x32x32_0_1_2_3_4 : (⟨S64x3x1x32x32, .f32⟩ : BufTy).Contents (Elt F) → (⟨S64x3x80x32x32, .f32⟩ : BufTy).Contents (Elt F)),
   binary main_v53 main_v58 main_v59 (subf : (⟨S64x3x80x32x32, .f32⟩ : BufTy).Contents (Elt F) → (⟨S64x3x80x32x32, .f32⟩ : BufTy).Contents (Elt F) → (⟨S64x3x80x32x32, .f32⟩ : BufTy).Contents (Elt F)),
   unary main_v59 main_v60 (Host.exp : (⟨S64x3x80x32x32, .f32⟩ : BufTy).Contents (Elt F) → (⟨S64x3x80x32x32, .f32⟩ : BufTy).Contents (Elt F)),
   nullary main_cst_13 (constant S_ .f32 0x00000000#32),
   binary main_v60 main_cst_13 main_v61 ((fun x v => Host.reduceAdd x v reducesTo_S64x3x80x32x32_S64x3x32x32_d2 h_S_) : (⟨S64x3x80x32x32, .f32⟩ : BufTy).Contents (Elt F) → (⟨S_, .f32⟩ : BufTy).Contents (Elt F) → (⟨S64x3x32x32, .f32⟩ : BufTy).Contents (Elt F)),
   unary main_v61 main_v62 (broadcastInDim S64x3x1x32x32 ![0, 1, 3, 4] bcast_S64x3x32x32_S64x3x1x32x32_0_1_3_4 : (⟨S64x3x32x32, .f32⟩ : BufTy).Contents (Elt F) → (⟨S64x3x1x32x32, .f32⟩ : BufTy).Contents (Elt F)),
   unary main_v62 main_v63 (broadcastInDim S64x3x80x32x32 ![0, 1, 2, 3, 4] bcast_S64x3x1x32x32_S64x3x80x32x32_0_1_2_3_4 : (⟨S64x3x1x32x32, .f32⟩ : BufTy).Contents (Elt F) → (⟨S64x3x80x32x32, .f32⟩ : BufTy).Contents (Elt F)),
   binary main_v60 main_v63 main_v64 (Host.divf : (⟨S64x3x80x32x32, .f32⟩ : BufTy).Contents (Elt F) → (⟨S64x3x80x32x32, .f32⟩ : BufTy).Contents (Elt F) → (⟨S64x3x80x32x32, .f32⟩ : BufTy).Contents (Elt F)),
   nullary main_cst_14 (constant S_ .f32 0xFF800000#32),
   binary main_v64 main_cst_14 main_v65 ((fun x v => Host.reduce FloatOps.maximumf x v reducesTo_S64x3x80x32x32_S64x3x32x32_d2 h_S_) : (⟨S64x3x80x32x32, .f32⟩ : BufTy).Contents (Elt F) → (⟨S_, .f32⟩ : BufTy).Contents (Elt F) → (⟨S64x3x32x32, .f32⟩ : BufTy).Contents (Elt F))]

theorem keepSoft (V : Valuation τ sig (Elt F)) {r : Ref sig .tc} (h : r ∉ [main_v53, main_cst_11, main_v54, main_cst_12, main_v55, main_v56, main_v57, main_v58, main_v59, main_v60, main_cst_13, main_v61, main_v62, main_v63, main_v64, main_cst_14, main_v65]) :
    after opsSoft V (Proc.devRef .tc r) = V (Proc.devRef .tc r) :=
  after_of_writes_sub opsSoft V (forall_writes_sub_of_map rfl) h

/-- The operations of the class of the maximum. -/
def opsArg : List (HloOp τ sig (Elt F)) :=
  [nullary main_call0_v0 (iotaInDim S64x3x80x32x32 32 2),
   nullary main_call0_cst (constant S_ .f32 0xFF800000#32),
   nullary main_call0_c (constantI S_ 32 0#32),
   quaternary main_v64 main_call0_v0 main_call0_cst main_call0_c main_call0_v1_0 ((fun x y u v j => (Host.argReduce reducer_argmax_f32_i32 x y u v reducesTo_S64x3x80x32x32_S64x3x32x32_d2 h_S_ j).1) : (⟨S64x3x80x32x32, .f32⟩ : BufTy).Contents (Elt F) → (⟨S64x3x80x32x32, .i32⟩ : BufTy).Contents (Elt F) → (⟨S_, .f32⟩ : BufTy).Contents (Elt F) → (⟨S_, .i32⟩ : BufTy).Contents (Elt F) → (⟨S64x3x32x32, .f32⟩ : BufTy).Contents (Elt F)),
   quaternary main_v64 main_call0_v0 main_call0_cst main_call0_c main_v66 ((fun x y u v j => (Host.argReduce reducer_argmax_f32_i32 x y u v reducesTo_S64x3x80x32x32_S64x3x32x32_d2 h_S_ j).2) : (⟨S64x3x80x32x32, .f32⟩ : BufTy).Contents (Elt F) → (⟨S64x3x80x32x32, .i32⟩ : BufTy).Contents (Elt F) → (⟨S_, .f32⟩ : BufTy).Contents (Elt F) → (⟨S_, .i32⟩ : BufTy).Contents (Elt F) → (⟨S64x3x32x32, .i32⟩ : BufTy).Contents (Elt F))]

theorem keepArg (V : Valuation τ sig (Elt F)) {r : Ref sig .tc} (h : r ∉ [main_call0_v0, main_call0_cst, main_call0_c, main_call0_v1_0, main_v66]) :
    after opsArg V (Proc.devRef .tc r) = V (Proc.devRef .tc r) :=
  after_of_writes_sub opsArg V (forall_writes_sub_of_map rfl) h

/-- The operations of the seven columns. -/
def opsCols : List (HloOp τ sig (Elt F)) :=
  [unary main_v66 main_v67 (sitofp .f32 : (⟨S64x3x32x32, .i32⟩ : BufTy).Contents (Elt F) → (⟨S64x3x32x32, .f32⟩ : BufTy).Contents (Elt F)),
   unary main_v16 main_v68 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v28 main_v69 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v36 main_v70 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v44 main_v71 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v52 main_v72 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v65 main_v73 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F)),
   unary main_v67 main_v74 (broadcastInDim S64x3x32x32x1 ![0, 1, 2, 3] bcast_S64x3x32x32_S64x3x32x32x1_0_1_2_3 : (⟨S64x3x32x32, .f32⟩ : BufTy).Contents (Elt F) → (⟨S64x3x32x32x1, .f32⟩ : BufTy).Contents (Elt F))]

theorem keepCols (V : Valuation τ sig (Elt F)) {r : Ref sig .tc} (h : r ∉ [main_v67, main_v68, main_v69, main_v70, main_v71, main_v72, main_v73, main_v74]) :
    after opsCols V (Proc.devRef .tc r) = V (Proc.devRef .tc r) :=
  after_of_writes_sub opsCols V (forall_writes_sub_of_map rfl) h

/-- The operations of the two results. -/
def opsOut : List (HloOp τ sig (Elt F)) :=
  [nary ![main_v68, main_v69, main_v70, main_v71, main_v72, main_v73, main_v74] main_v75 (fun u => (concatenate S64x3x32x32x7 4 [⟨S64x3x32x32x1, (u 0 : (⟨S64x3x32x32x1, .f32⟩ : BufTy).Contents (Elt F))⟩, ⟨S64x3x32x32x1, (u 1 : (⟨S64x3x32x32x1, .f32⟩ : BufTy).Contents (Elt F))⟩, ⟨S64x3x32x32x1, (u 2 : (⟨S64x3x32x32x1, .f32⟩ : BufTy).Contents (Elt F))⟩, ⟨S64x3x32x32x1, (u 3 : (⟨S64x3x32x32x1, .f32⟩ : BufTy).Contents (Elt F))⟩, ⟨S64x3x32x32x1, (u 4 : (⟨S64x3x32x32x1, .f32⟩ : BufTy).Contents (Elt F))⟩, ⟨S64x3x32x32x1, (u 5 : (⟨S64x3x32x32x1, .f32⟩ : BufTy).Contents (Elt F))⟩, ⟨S64x3x32x32x1, (u 6 : (⟨S64x3x32x32x1, .f32⟩ : BufTy).Contents (Elt F))⟩] concatenates_S64x3x32x32x1_S64x3x32x32x1_S64x3x32x32x1_S64x3x32x32x1_S64x3x32x32x1_S64x3x32x32x1_S64x3x32x32x1_S64x3x32x32x7_d4 : (⟨S64x3x32x32x7, .f32⟩ : BufTy).Contents (Elt F))),
   reshape main_v75 main_v76 (rfl : (.f32 : EltTy) = .f32) shapeCasts_S64x3x32x32x7_S64x3072x7,
   unary main_v76 main_v77 ((extractStridedSlice S64x3072x1 ![0, 0, 4] · slices_S64x3072x7_S64x3072x1_0_0_4) : (⟨S64x3072x7, .f32⟩ : BufTy).Contents (Elt F) → (⟨S64x3072x1, .f32⟩ : BufTy).Contents (Elt F)),
   reshape main_v77 main_v78 (rfl : (.f32 : EltTy) = .f32) shapeCasts_S64x3072x1_S64x3072,
   unary main_arg1 main_v79 (sitofp .f32 : (⟨S_, .i32⟩ : BufTy).Contents (Elt F) → (⟨S_, .f32⟩ : BufTy).Contents (Elt F)),
   unary main_v79 main_v80 (broadcastInDim S64x3072 ![] bcast_S_S64x3072 : (⟨S_, .f32⟩ : BufTy).Contents (Elt F) → (⟨S64x3072, .f32⟩ : BufTy).Contents (Elt F)),
   binary main_v78 main_v80 main_v81 (cmpf .ogt : (⟨S64x3072, .f32⟩ : BufTy).Contents (Elt F) → (⟨S64x3072, .f32⟩ : BufTy).Contents (Elt F) → (⟨S64x3072, .i1⟩ : BufTy).Contents (Elt F))]

theorem keepOut (V : Valuation τ sig (Elt F)) {r : Ref sig .tc} (h : r ∉ [main_v75, main_v76, main_v77, main_v78, main_v79, main_v80, main_v81]) :
    after opsOut V (Proc.devRef .tc r) = V (Proc.devRef .tc r) :=
  after_of_writes_sub opsOut V (forall_writes_sub_of_map rfl) h

/-- @main's operations, in order. -/
def ops : List (HloOp τ sig (Elt F)) :=
  opsGrid ++ (opsXs ++ (opsYs ++ (opsWs ++ (opsHs ++ (opsConf ++ (opsSoft ++ (opsArg ++ (opsCols ++ opsOut))))))))

set_option maxRecDepth 8192 in
set_option maxHeartbeats 4000000 in
theorem main_eq (c : Dev nD) : main (F := F) c = seq ops := rfl

theorem scoped_refs : (Finset.univ.filter fun b : Ref sig .tc => b.isScoped) = ∅ := by decide
theorem scoped_sems : (Finset.univ.filter fun sm : SemLoc sig => sm.isScoped .tc) = ∅ := by decide

set_option maxRecDepth 8192 in
set_option maxHeartbeats 4000000 in
theorem ops_sub : (ops : List (HloOp τ sig (Elt F))).Forall fun op => op.bufs ⊆ tcRefs τ sig := by
  simp only [ops, opsGrid, opsXs, opsYs, opsWs, opsHs, opsConf, opsSoft, opsArg, opsCols, opsOut, List.cons_append, List.nil_append,
    List.forall_cons, List.Forall, nullary_bufs_sub, unary_bufs_sub, binary_bufs_sub, quaternary_bufs_sub, reshape_bufs_sub,
    nary_bufs_sub, and_self]

set_option maxRecDepth 8192 in
set_option maxHeartbeats 4000000 in
theorem ops_fresh : (ops : List (HloOp τ sig (Elt F))).Forall fun op => op.fresh = ∅ := forall_fresh_of_map rfl

/-- From any memory with zero counters every execution ends with each buffer at the operations' results over the
    launch contents. -/
theorem run_ops (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scoped_refs scoped_sems defs main (fun _ => ops) main_eq (fun _ => ops_sub) m ρ
    (fun _ op h => List.forall_iff_forall_mem.mp ops_fresh op h)

end Cert.Proof.Ref

end
-- ==== Proof.ArgMax.lean ====
/-
  The reference's arg-max: whatever the order in which the elements are met, the result is the largest and, among equal
  ones, the one of the smallest position.
-/
module

public import proofs.«01_k».proof.Proof.Scalars
public import proofs.«01_k».proof.Proof.Gen.ReferenceIdeal
public import Idealize.ShloMosaic.PureOps.Ideal.Laws

@[expose] public section

noncomputable section

namespace Cert.Proof.Ref

open Cert.ReferenceIdeal
open Cert.ReferenceIdeal.Facts₀ Cert.ReferenceIdeal.Facts
open Idealize.ShloMosaic
open Cert.Proof.Math

/-- A choice between two that always picks one not worse picks, over a list, one of its elements not worse than any. -/
theorem foldl_choice {α : Type} (f : α → α → α) (R : α → α → Prop) (hr : ∀ a, R a a) (ht : ∀ a b c, R a b → R b c → R a c)
    (hf : ∀ a b, (f a b = a ∧ R a b) ∨ (f a b = b ∧ R b a)) (l : List α) :
    ∀ a : α, l.foldl f a ∈ a :: l ∧ ∀ z ∈ a :: l, R (l.foldl f a) z := by
  induction l with
  | nil => intro a; exact ⟨List.mem_cons_self, fun z hz => by rw [List.mem_singleton.1 hz]; exact hr a⟩
  | cons b l ih =>
    intro a
    obtain ⟨h1, h2⟩ := ih (f a b)
    refine ⟨?_, ?_⟩
    · rcases List.mem_cons.1 h1 with e | h
      · rcases hf a b with ⟨e', _⟩ | ⟨e', _⟩
        · exact List.mem_cons.2 (.inl (e.trans e'))
        · exact List.mem_cons_of_mem _ (List.mem_cons.2 (.inl (e.trans e')))
      · exact List.mem_cons_of_mem _ (List.mem_cons_of_mem _ h)
    · have h3 : R (l.foldl f (f a b)) (f a b) := h2 _ List.mem_cons_self
      have h4 : R (f a b) a ∧ R (f a b) b := by
        rcases hf a b with ⟨e', h⟩ | ⟨e', h⟩ <;> rw [e']
        · exact ⟨hr a, h⟩
        · exact ⟨h, hr b⟩
      intro z hz
      rcases List.mem_cons.1 hz with e | hz
      · rw [e]; exact ht _ _ _ h3 h4.1
      · rcases List.mem_cons.1 hz with e | hz
        · rw [e]; exact ht _ _ _ h3 h4.2
        · exact h2 z (List.mem_cons_of_mem _ hz)

/-- Larger, or equal and no later. -/
def Beats (a b : EReal × BitVec 32) : Prop := b.1 < a.1 ∨ (a.1 = b.1 ∧ a.2.toInt ≤ b.2.toInt)

theorem Beats.refl (a : EReal × BitVec 32) : Beats a a := .inr ⟨rfl, le_refl _⟩

theorem Beats.trans (a b c : EReal × BitVec 32) (h : Beats a b) (h' : Beats b c) : Beats a c := by
  rcases h with h | ⟨h, k⟩ <;> rcases h' with h' | ⟨h', k'⟩
  · exact .inl (h'.trans h)
  · exact .inl (h' ▸ h)
  · exact .inl (h ▸ h')
  · exact .inr ⟨h.trans h', k.trans k'⟩

theorem reducer_choice (a b : EReal × BitVec 32) :
    (reducer_argmax_f32_i32 (F := Ideal) a b = a ∧ Beats a b) ∨ (reducer_argmax_f32_i32 (F := Ideal) a b = b ∧ Beats b a) := by
  obtain ⟨x, p⟩ := a
  obtain ⟨y, q⟩ := b
  rcases lt_trichotomy x y with h | h | h
  · right
    refine ⟨?_, .inl h⟩
    simp [reducer_argmax_f32_i32, Ideal.cmpf_def, Ideal.cmp, Scalar.select, IntOp.ori, IntOp.andi, h.ne, not_lt.2 h.le]
  · subst h
    by_cases hpq : p.toInt < q.toInt
    · left
      refine ⟨?_, .inr ⟨rfl, hpq.le⟩⟩
      simp [reducer_argmax_f32_i32, Ideal.cmpf_def, Ideal.cmp, Scalar.select, IntOp.ori, IntOp.andi, IntOp.cmpi, BitVec.slt, hpq]
    · right
      refine ⟨?_, .inr ⟨rfl, not_lt.1 hpq⟩⟩
      simp [reducer_argmax_f32_i32, Ideal.cmpf_def, Ideal.cmp, Scalar.select, IntOp.ori, IntOp.andi, IntOp.cmpi, BitVec.slt, hpq]
  · left
    refine ⟨?_, .inl h⟩
    have e : ∀ u v : BitVec 1, 1#1 ||| u &&& v = 1#1 := by decide
    simp [reducer_argmax_f32_i32, Ideal.cmpf_def, Ideal.cmp, Scalar.select, IntOp.ori, IntOp.andi, h, e]

theorem red_d2 : S64x3x80x32x32.Reduces [2] S64x3x32x32 := by decide

/-- The arg-max at an index whose elements are real. -/
theorem argmax_apply (x : S64x3x80x32x32.Idx → EReal) (y : S64x3x80x32x32.Idx → BitVec 32) (ix : S_.Idx → EReal) (iy : S_.Idx → BitVec 32)
    (j : S64x3x32x32.Idx) (hix : ∀ q, ix q = ⊥) {p : ℕ → ℝ} {i : ℕ} (hi : FirstMax p 80 i)
    (hx : ∀ k : Fin 80, x (red_d2.lift j k) = (p k : EReal)) (hy : ∀ k : Fin 80, y (red_d2.lift j k) = BitVec.ofNat 32 k.val) :
    (Host.argReduce (F := Ideal) (φ := .f32) reducer_argmax_f32_i32 x y ix iy reducesTo_S64x3x80x32x32_S64x3x32x32_d2 h_S_ j).2 = BitVec.ofNat 32 i := by
  rw [Ideal.argReduce_eq_reduce2, Host.reduce2_eq_foldl_fiber]
  obtain ⟨h1, h2⟩ := foldl_choice (reducer_argmax_f32_i32 (F := Ideal)) Beats Beats.refl Beats.trans reducer_choice
    (Host.argReduceFiber x y reducesTo_S64x3x80x32x32_S64x3x32x32_d2 j) (ix (Shape.Idx.first h_S_), iy (Shape.Idx.first h_S_))
  have hmem : ∀ z, z ∈ Host.argReduceFiber x y reducesTo_S64x3x80x32x32_S64x3x32x32_d2 j ↔ ∃ k : Fin 80, ((p k : EReal), BitVec.ofNat 32 k.val) = z := by
    intro z
    unfold Host.argReduceFiber
    rw [List.mem_map]
    constructor
    · rintro ⟨n, hn, rfl⟩
      have hn' := (List.mem_filter.1 hn).2
      simp only [decide_eq_true_eq] at hn'
      rw [Shape.ReducesTo.drop_eq_drop _ red_d2] at hn'
      refine ⟨S64x3x80x32x32.rowMajor.symm n 2, ?_⟩
      have e : red_d2.lift j (S64x3x80x32x32.rowMajor.symm n 2) = S64x3x80x32x32.rowMajor.symm n := by
        rw [← hn']; exact red_d2.lift_drop _
      exact Prod.ext ((hx _).symm.trans (congrArg x e)) ((hy _).symm.trans (congrArg y e))
    · rintro ⟨k, rfl⟩
      refine ⟨S64x3x80x32x32.rowMajor (red_d2.lift j k), ?_, ?_⟩
      · refine List.mem_filter.2 ⟨List.mem_finRange _, ?_⟩
        simp only [decide_eq_true_eq, Equiv.symm_apply_apply]
        rw [Shape.ReducesTo.drop_eq_drop _ red_d2]
        exact red_d2.drop_lift j k
      · rw [Equiv.symm_apply_apply]
        exact Prod.ext (hx k) (hy k)
  obtain ⟨hi1, hi2, hi3⟩ := hi
  have hb := h2 _ (List.mem_cons_of_mem _ ((hmem _).2 ⟨⟨i, hi1⟩, rfl⟩))
  rcases List.mem_cons.1 h1 with e | h
  · rw [e, hix] at hb
    rcases hb with hb | ⟨hb, _⟩
    · exact absurd hb not_lt_bot
    · exact absurd hb.symm (EReal.coe_ne_bot _)
  · obtain ⟨k, hk⟩ := (hmem _).1 h
    rw [← hk] at hb ⊢
    have small : ∀ n : ℕ, n < 80 → (BitVec.ofNat 32 n).toInt = n := by decide
    rcases hb with hb | ⟨hb, hle⟩
    · exact absurd (EReal.coe_lt_coe_iff.1 hb) (not_lt.2 (hi2 k k.isLt))
    · have hpk : p k = p i := EReal.coe_eq_coe_iff.1 hb
      have hki : k.val ≤ i := by
        have := hle
        simp only [small k.val k.isLt, small i hi1] at this
        exact_mod_cast this
      rcases Nat.lt_or_eq_of_le hki with hlt | heq
      · exact absurd hpk (ne_of_lt (hi3 k hlt))
      · exact congrArg (BitVec.ofNat 32) heq

end Cert.Proof.Ref

end
-- ==== Proof.RefVal.lean ====
/-
  The reference's sections read at an index over the extended reals.
-/
module

public import proofs.«01_k».proof.Proof.RefRun
public import proofs.«01_k».proof.Proof.ArgMax
public import Idealize.ShloMosaic.Lib.Pipeline.Value

@[expose] public section

noncomputable section

namespace Cert.Proof.Ref

open Cert.ReferenceIdeal
open Cert.ReferenceIdeal.Facts₀ Cert.ReferenceIdeal.Facts
open Idealize.ShloMosaic Idealize.ShloMosaic.TcCoe Idealize.ShloMosaic.StableHlo
open Cert.Proof.Math

variable (V : Valuation τ sig (Elt Ideal)) (b : Fin 64) (a : Fin 3) (h w : Fin 32)

/-- The planes. -/
abbrev P : S64x3x85x32x32.Idx → EReal := V (Proc.devRef .tc main_v0)

/-- One feature's plane. -/
def plane (X : S64x3x85x32x32.Idx → EReal) (k : ℕ) (hs : S64x3x85x32x32.Slices ![0, 0, k, 0, 0] S64x3x1x32x32) : S64x3x32x32.Idx → EReal :=
  shapeCast S64x3x32x32 (extractStridedSlice S64x3x1x32x32 ![0, 0, k, 0, 0] X hs) shapeCasts_S64x3x1x32x32_S64x3x32x32

theorem plane_apply (X : S64x3x85x32x32.Idx → EReal) {k : ℕ} (hk : k < 85) (hs : S64x3x85x32x32.Slices ![0, 0, k, 0, 0] S64x3x1x32x32) :
    plane X k hs (ValueIdx.ix4 b a h w) = X (ValueIdx.ix5 b a (Fin.ofNat 85 k) h w) := by
  unfold plane
  refine (shapeCast_apply _ _ _ (ValueIdx.ix5 b a (0 : Fin 1) h w) ?_).trans (extractStridedSlice_apply _ _ _ _ _ fun q => ?_)
  · rw [Shape.rowMajor_val_four, Shape.rowMajor_val_five]
    show (((b.val * 3 + a.val) * 1 + 0) * 32 + h.val) * 32 + w.val = ((b.val * 3 + a.val) * 32 + h.val) * 32 + w.val
    ring
  · fin_cases q
    · exact (Nat.zero_add _).symm
    · exact (Nat.zero_add _).symm
    · show k % 85 = k + 0
      omega
    · exact (Nat.zero_add _).symm
    · exact (Nat.zero_add _).symm

/-- A number everywhere. -/
abbrev everywhere (c : BitVec 32) : S64x3x32x32.Idx → EReal := broadcastInDim S64x3x32x32 ![] bcast_S_S64x3x32x32 (constant (F := Ideal) S_ .f32 c)

/-- The logistic function of an array. -/
def sigm (x : S64x3x32x32.Idx → EReal) : S64x3x32x32.Idx → EReal :=
  Host.divf (F := Ideal) (φ := .f32) (everywhere 0x3F800000#32) (addf (F := Ideal) (φ := .f32) (everywhere 0x3F800000#32) (Host.exp (F := Ideal) (φ := .f32) (Host.negf (F := Ideal) (φ := .f32) x)))

theorem sigm_apply (x : S64x3x32x32.Idx → EReal) (j : S64x3x32x32.Idx) : sigm x j = Spec.logi (F := Ideal) (x j) := by
  show Ideal.div (Ideal.ofBits .f32 0x3F800000#32) (Ideal.ofBits .f32 0x3F800000#32 + Ideal.exp (-(x j)))
    = Ideal.div (Ideal.ofBits .f32 0x3F800000#32) (Ideal.ofBits .f32 0x3F800000#32 + Ideal.exp (Ideal.ofBits .f32 0x00000000#32 - x j))
  rw [ofBits_zero, zero_sub]

/-! ## The planes and the grids -/

theorem grid_planes : (after opsGrid V (Proc.devRef .tc main_v0) : S64x3x85x32x32.Idx → EReal)
    = shapeCast S64x3x85x32x32 (V (Proc.devRef .tc main_arg0) : S64x255x32x32.Idx → EReal) shapeCasts_S64x255x32x32_S64x3x85x32x32 := by
  unfold opsGrid
  after_results
  rfl

theorem grid_x : (after opsGrid V (Proc.devRef .tc main_v2) : S1x1x1x32.Idx → EReal) (ValueIdx.ix4 (0 : Fin 1) (0 : Fin 1) (0 : Fin 1) w)
    = FloatOps.sitofp (F := Ideal) .f32 (BitVec.ofNat 32 w.val) := by
  unfold opsGrid
  after_results
  exact broadcastInDim_apply _ _ _ _ (ValueIdx.ix1 w) fun q => by fin_cases q; rfl

theorem grid_y : (after opsGrid V (Proc.devRef .tc main_v4) : S1x1x32x1.Idx → EReal) (ValueIdx.ix4 (0 : Fin 1) (0 : Fin 1) h (0 : Fin 1))
    = FloatOps.sitofp (F := Ideal) .f32 (BitVec.ofNat 32 h.val) := by
  unfold opsGrid
  after_results
  exact broadcastInDim_apply _ _ _ _ (ValueIdx.ix1 h) fun q => by fin_cases q; rfl

theorem row_one (q : Fin 3) : S3.rowMajor (ValueIdx.ix1 q) = q := Fin.ext (Shape.rowMajor_val_one _)

theorem grid_w : (after opsGrid V (Proc.devRef .tc main_cst) : S3.Idx → EReal) (ValueIdx.ix1 a) = Ideal.ofBits .f32 (lit0 a) := by
  unfold opsGrid
  after_results
  exact congrArg (fun q => Ideal.ofBits .f32 (lit0 q)) (row_one a)

theorem grid_h : (after opsGrid V (Proc.devRef .tc main_cst_0) : S3.Idx → EReal) (ValueIdx.ix1 a) = Ideal.ofBits .f32 (lit1 a) := by
  unfold opsGrid
  after_results
  exact congrArg (fun q => Ideal.ofBits .f32 (lit1 q)) (row_one a)

/-! ## The centres and the sizes -/

theorem xs_apply : (after opsXs V (Proc.devRef .tc main_v16) : S64x3x32x32.Idx → EReal) (ValueIdx.ix4 b a h w)
    = (Spec.logi (F := Ideal) (P V (ValueIdx.ix5 b a (0 : Fin 85) h w))
        + (V (Proc.devRef .tc main_v2) : S1x1x1x32.Idx → EReal) (ValueIdx.ix4 (0 : Fin 1) (0 : Fin 1) (0 : Fin 1) w)) * Ideal.ofBits .f32 0x3D000000#32 := by
  have e : (after opsXs V (Proc.devRef .tc main_v16) : S64x3x32x32.Idx → EReal)
      = Host.divf (F := Ideal) (φ := .f32) (addf (F := Ideal) (φ := .f32) (sigm (plane (P V) 0 slices_S64x3x85x32x32_S64x3x1x32x32_0_0_0_0_0))
        (broadcastInDim S64x3x32x32 ![0, 1, 2, 3] bcast_S1x1x1x32_S64x3x32x32_0_1_2_3 (V (Proc.devRef .tc main_v2) : S1x1x1x32.Idx → EReal)))
        (everywhere 0x42000000#32) := by
    unfold opsXs
    after_results
    rfl
  rw [e]
  show Ideal.div (sigm _ (ValueIdx.ix4 b a h w) + broadcastInDim (s := S1x1x1x32) S64x3x32x32 ![0, 1, 2, 3] _ _ (ValueIdx.ix4 b a h w)) (Ideal.ofBits .f32 0x42000000#32) = _
  rw [div_32, sigm_apply, plane_apply b a h w _ (by norm_num),
    broadcastInDim_apply _ _ _ _ (ValueIdx.ix4 (0 : Fin 1) (0 : Fin 1) (0 : Fin 1) w) fun q => by fin_cases q <;> rfl]
  rfl

theorem ys_apply : (after opsYs V (Proc.devRef .tc main_v28) : S64x3x32x32.Idx → EReal) (ValueIdx.ix4 b a h w)
    = (Spec.logi (F := Ideal) (P V (ValueIdx.ix5 b a (1 : Fin 85) h w))
        + (V (Proc.devRef .tc main_v4) : S1x1x32x1.Idx → EReal) (ValueIdx.ix4 (0 : Fin 1) (0 : Fin 1) h (0 : Fin 1))) * Ideal.ofBits .f32 0x3D000000#32 := by
  have e : (after opsYs V (Proc.devRef .tc main_v28) : S64x3x32x32.Idx → EReal)
      = Host.divf (F := Ideal) (φ := .f32) (addf (F := Ideal) (φ := .f32) (sigm (plane (P V) 1 slices_S64x3x85x32x32_S64x3x1x32x32_0_0_1_0_0))
        (broadcastInDim S64x3x32x32 ![0, 1, 2, 3] bcast_S1x1x32x1_S64x3x32x32_0_1_2_3 (V (Proc.devRef .tc main_v4) : S1x1x32x1.Idx → EReal)))
        (everywhere 0x42000000#32) := by
    unfold opsYs
    after_results
    rfl
  rw [e]
  show Ideal.div (sigm _ (ValueIdx.ix4 b a h w) + broadcastInDim (s := S1x1x32x1) S64x3x32x32 ![0, 1, 2, 3] _ _ (ValueIdx.ix4 b a h w)) (Ideal.ofBits .f32 0x42000000#32) = _
  rw [div_32, sigm_apply, plane_apply b a h w _ (by norm_num),
    broadcastInDim_apply _ _ _ _ (ValueIdx.ix4 (0 : Fin 1) (0 : Fin 1) h (0 : Fin 1)) fun q => by fin_cases q <;> rfl]
  rfl

/-- An anchor's size, spread over the boxes. -/
def spread (x : S3.Idx → EReal) : S64x3x32x32.Idx → EReal :=
  broadcastInDim S64x3x32x32 ![0, 1, 2, 3] bcast_S1x3x1x1_S64x3x32x32_0_1_2_3 (broadcastInDim S1x3x1x1 ![1] bcast_S3_S1x3x1x1_1 x)

theorem spread_apply (x : S3.Idx → EReal) : spread x (ValueIdx.ix4 b a h w) = x (ValueIdx.ix1 a) :=
  (broadcastInDim_apply _ _ _ _ (ValueIdx.ix4 (0 : Fin 1) a (0 : Fin 1) (0 : Fin 1)) fun q => by fin_cases q <;> rfl).trans
    (broadcastInDim_apply _ _ _ _ (ValueIdx.ix1 a) fun q => by fin_cases q; rfl)

theorem ws_apply : (after opsWs V (Proc.devRef .tc main_v36) : S64x3x32x32.Idx → EReal) (ValueIdx.ix4 b a h w)
    = Ideal.exp (P V (ValueIdx.ix5 b a (2 : Fin 85) h w)) * (V (Proc.devRef .tc main_cst) : S3.Idx → EReal) (ValueIdx.ix1 a)
      * Ideal.ofBits .f32 0x3D000000#32 := by
  have e : (after opsWs V (Proc.devRef .tc main_v36) : S64x3x32x32.Idx → EReal)
      = Host.divf (F := Ideal) (φ := .f32) (mulf (F := Ideal) (φ := .f32) (Host.exp (F := Ideal) (φ := .f32) (plane (P V) 2 slices_S64x3x85x32x32_S64x3x1x32x32_0_0_2_0_0))
        (spread (V (Proc.devRef .tc main_cst) : S3.Idx → EReal))) (everywhere 0x42000000#32) := by
    unfold opsWs
    after_results
    rfl
  rw [e]
  show Ideal.div (Ideal.exp (plane _ 2 _ (ValueIdx.ix4 b a h w)) * spread _ (ValueIdx.ix4 b a h w)) (Ideal.ofBits .f32 0x42000000#32) = _
  rw [div_32, plane_apply b a h w _ (by norm_num), spread_apply]
  rfl

theorem hs_apply : (after opsHs V (Proc.devRef .tc main_v44) : S64x3x32x32.Idx → EReal) (ValueIdx.ix4 b a h w)
    = Ideal.exp (P V (ValueIdx.ix5 b a (3 : Fin 85) h w)) * (V (Proc.devRef .tc main_cst_0) : S3.Idx → EReal) (ValueIdx.ix1 a)
      * Ideal.ofBits .f32 0x3D000000#32 := by
  have e : (after opsHs V (Proc.devRef .tc main_v44) : S64x3x32x32.Idx → EReal)
      = Host.divf (F := Ideal) (φ := .f32) (mulf (F := Ideal) (φ := .f32) (Host.exp (F := Ideal) (φ := .f32) (plane (P V) 3 slices_S64x3x85x32x32_S64x3x1x32x32_0_0_3_0_0))
        (spread (V (Proc.devRef .tc main_cst_0) : S3.Idx → EReal))) (everywhere 0x42000000#32) := by
    unfold opsHs
    after_results
    rfl
  rw [e]
  show Ideal.div (Ideal.exp (plane _ 3 _ (ValueIdx.ix4 b a h w)) * spread _ (ValueIdx.ix4 b a h w)) (Ideal.ofBits .f32 0x42000000#32) = _
  rw [div_32, plane_apply b a h w _ (by norm_num), spread_apply]
  rfl

theorem conf_apply : (after opsConf V (Proc.devRef .tc main_v52) : S64x3x32x32.Idx → EReal) (ValueIdx.ix4 b a h w)
    = Spec.logi (F := Ideal) (P V (ValueIdx.ix5 b a (4 : Fin 85) h w)) := by
  have e : (after opsConf V (Proc.devRef .tc main_v52) : S64x3x32x32.Idx → EReal)
      = sigm (plane (P V) 4 slices_S64x3x85x32x32_S64x3x1x32x32_0_0_4_0_0) := by
    unfold opsConf
    after_results
    rfl
  rw [e, sigm_apply, plane_apply b a h w _ (by norm_num)]
  rfl

/-! ## The classes -/

/-- The class logits. -/
def cls (X : S64x3x85x32x32.Idx → EReal) : S64x3x80x32x32.Idx → EReal :=
  extractStridedSlice S64x3x80x32x32 ![0, 0, 5, 0, 0] X slices_S64x3x85x32x32_S64x3x80x32x32_0_0_5_0_0

theorem cls_apply (X : S64x3x85x32x32.Idx → EReal) (k : Fin 80) :
    cls X (ValueIdx.ix5 b a k h w) = X (ValueIdx.ix5 b a (Fin.ofNat 85 (5 + k.val)) h w) :=
  extractStridedSlice_apply _ _ _ _ _ fun q => by
    have := k.isLt
    fin_cases q
    · exact (Nat.zero_add _).symm
    · exact (Nat.zero_add _).symm
    · show (5 + k.val) % 85 = 5 + k.val
      omega
    · exact (Nat.zero_add _).symm
    · exact (Nat.zero_add _).symm

/-- An array of the boxes, spread over the classes. -/
def over (x : S64x3x32x32.Idx → EReal) : S64x3x80x32x32.Idx → EReal :=
  broadcastInDim S64x3x80x32x32 ![0, 1, 2, 3, 4] bcast_S64x3x1x32x32_S64x3x80x32x32_0_1_2_3_4
    (broadcastInDim S64x3x1x32x32 ![0, 1, 3, 4] bcast_S64x3x32x32_S64x3x1x32x32_0_1_3_4 x)

theorem over_apply (x : S64x3x32x32.Idx → EReal) (k : Fin 80) : over x (ValueIdx.ix5 b a k h w) = x (ValueIdx.ix4 b a h w) :=
  (broadcastInDim_apply _ _ _ _ (ValueIdx.ix5 b a (0 : Fin 1) h w) fun q => by fin_cases q <;> rfl).trans
    (broadcastInDim_apply _ _ _ _ (ValueIdx.ix4 b a h w) fun q => by fin_cases q <;> rfl)

/-- The largest over the classes. -/
def top (x : S64x3x80x32x32.Idx → EReal) : S64x3x32x32.Idx → EReal :=
  Host.reduce (FloatOps.maximumf (F := Ideal) (φ := .f32)) x (constant (F := Ideal) S_ .f32 0xFF800000#32) reducesTo_S64x3x80x32x32_S64x3x32x32_d2 h_S_

/-- The sum over the classes. -/
def sum (x : S64x3x80x32x32.Idx → EReal) : S64x3x32x32.Idx → EReal :=
  Host.reduceAdd (F := Ideal) (φ := .f32) x (constant (F := Ideal) S_ .f32 0x00000000#32) reducesTo_S64x3x80x32x32_S64x3x32x32_d2 h_S_

/-- The exponentials of the logits' distances to the largest. -/
def expo (X : S64x3x85x32x32.Idx → EReal) : S64x3x80x32x32.Idx → EReal :=
  Host.exp (F := Ideal) (φ := .f32) (subf (F := Ideal) (φ := .f32) (cls X) (over (maximumf (F := Ideal) (φ := .f32) (everywhere 0xFF800000#32) (top (cls X)))))

/-- The classes' probabilities. -/
def soft (X : S64x3x85x32x32.Idx → EReal) : S64x3x80x32x32.Idx → EReal :=
  Host.divf (F := Ideal) (φ := .f32) (expo X) (over (sum (expo X)))

theorem lift_d2 (k : Fin 80) : red_d2.lift (ValueIdx.ix4 b a h w) k = ValueIdx.ix5 b a k h w := by
  funext q
  fin_cases q <;> rfl

theorem top_apply (x : S64x3x80x32x32.Idx → EReal) {p : ℕ → ℝ} {i : ℕ} (hi : FirstMax p 80 i)
    (hx : ∀ k : Fin 80, x (ValueIdx.ix5 b a k h w) = (p k : EReal)) : top x (ValueIdx.ix4 b a h w) = (p i : EReal) := by
  unfold top
  refine (Host.reduce_eq_fold_single _ _ _ _ red_d2 _ _).trans ?_
  have e : (x ∘ red_d2.lift (ValueIdx.ix4 b a h w)) = fun k : Fin 80 => (p k : EReal) :=
    funext fun k => (congrArg x (lift_d2 b a h w k)).trans (hx k)
  rw [e]
  show Finset.fold max (Ideal.ofBits .f32 0xFF800000#32) _ _ = _
  rw [ofBits_negInf]
  exact fold_max_eq hi

theorem max_at (x : S64x3x32x32.Idx → EReal) (j : S64x3x32x32.Idx) (c : BitVec 32) :
    maximumf (F := Ideal) (φ := .f32) (everywhere c) x j = max (Ideal.ofBits .f32 c) (x j) := rfl

theorem exp_sub_at (x y : S64x3x80x32x32.Idx → EReal) (j : S64x3x80x32x32.Idx) :
    Host.exp (F := Ideal) (φ := .f32) (subf (F := Ideal) (φ := .f32) x y) j = Ideal.exp (x j - y j) := rfl

theorem div_at (x y : S64x3x80x32x32.Idx → EReal) (j : S64x3x80x32x32.Idx) :
    Host.divf (F := Ideal) (φ := .f32) x y j = Ideal.div (x j) (y j) := rfl

variable {r : ℕ → ℝ} {i : ℕ}

theorem expo_apply (X : S64x3x85x32x32.Idx → EReal) (hi : FirstMax r 80 i)
    (hr : ∀ k : Fin 80, X (ValueIdx.ix5 b a (Fin.ofNat 85 (5 + k.val)) h w) = (r k : EReal)) (k : Fin 80) :
    expo X (ValueIdx.ix5 b a k h w) = Ideal.exp ((r k : EReal) - (r i : EReal)) := by
  have hc : ∀ k : Fin 80, cls X (ValueIdx.ix5 b a k h w) = (r k : EReal) := fun k => (cls_apply b a h w X k).trans (hr k)
  unfold expo
  rw [exp_sub_at, hc, over_apply, max_at, top_apply b a h w _ hi hc, ofBits_negInf, max_eq_right bot_le]

theorem soft_apply (X : S64x3x85x32x32.Idx → EReal) (hi : FirstMax r 80 i)
    (hr : ∀ k : Fin 80, X (ValueIdx.ix5 b a (Fin.ofNat 85 (5 + k.val)) h w) = (r k : EReal)) (k : Fin 80) :
    soft X (ValueIdx.ix5 b a k h w) = (prob r i k : EReal) := by
  unfold soft
  rw [div_at, over_apply, expo_apply b a h w X hi hr, ← div_total]
  refine congrArg (Ideal.div _) ?_
  unfold sum
  refine (Ideal.hostReduceAdd_single reducesTo_S64x3x80x32x32_S64x3x32x32_d2 red_d2 (expo X) (Ideal.ofBits .f32 0x00000000#32) (ValueIdx.ix4 b a h w)).trans ?_
  rw [ofBits_zero, zero_add, ← sum_exp]
  exact Finset.sum_congr rfl fun k _ => (congrArg (expo X) (lift_d2 b a h w k)).trans (expo_apply b a h w X hi hr k)

theorem v64_eq : (after opsSoft V (Proc.devRef .tc main_v64) : S64x3x80x32x32.Idx → EReal) = soft (P V) := by
  unfold opsSoft
  after_results
  rfl

theorem v65_eq : (after opsSoft V (Proc.devRef .tc main_v65) : S64x3x32x32.Idx → EReal) = top (soft (P V)) := by
  unfold opsSoft
  after_results
  rfl

theorem v65_apply (hi : FirstMax r 80 i) (hr : ∀ k : Fin 80, P V (ValueIdx.ix5 b a (Fin.ofNat 85 (5 + k.val)) h w) = (r k : EReal)) :
    (after opsSoft V (Proc.devRef .tc main_v65) : S64x3x32x32.Idx → EReal) (ValueIdx.ix4 b a h w) = (prob r i i : EReal) := by
  rw [v65_eq]
  exact top_apply b a h w _ hi.prob (soft_apply b a h w _ hi hr)

theorem v66_apply {p : ℕ → ℝ} (hi : FirstMax p 80 i)
    (hx : ∀ k : Fin 80, (V (Proc.devRef .tc main_v64) : S64x3x80x32x32.Idx → EReal) (ValueIdx.ix5 b a k h w) = (p k : EReal)) :
    (after opsArg V (Proc.devRef .tc main_v66) : S64x3x32x32.Idx → BitVec 32) (ValueIdx.ix4 b a h w) = BitVec.ofNat 32 i := by
  unfold opsArg
  after_results
  refine argmax_apply _ _ _ _ _ (fun q => ofBits_negInf) hi (fun k => ?_) fun k => ?_
  · rw [lift_d2]
    exact hx k
  · rw [lift_d2]
    rfl

end Cert.Proof.Ref

end
-- ==== Proof.RefPt.lean ====
/-
  The reference's two results read at an index over the extended reals.
-/
module

public import proofs.«01_k».proof.Proof.RefVal

@[expose] public section

noncomputable section

namespace Cert.Proof.Ref

open Cert.ReferenceIdeal
open Cert.ReferenceIdeal.Facts₀ Cert.ReferenceIdeal.Facts
open Idealize.ShloMosaic Idealize.ShloMosaic.TcCoe Idealize.ShloMosaic.StableHlo
open Cert.Proof.Math

variable (V : Valuation τ sig (Elt Ideal)) (b : Fin 64) (a : Fin 3) (h w : Fin 32)

/-- The number of a cell in its plane; the number of a box in its batch. -/
def cellNo : Fin 1024 := ⟨h.val * 32 + w.val, by omega⟩
def rowNo (c : Fin 1024) : Fin 3072 := ⟨a.val * 1024 + c.val, by omega⟩

/-! ## The columns -/

/-- An array of the boxes as a column. -/
abbrev column (x : S64x3x32x32.Idx → EReal) : S64x3x32x32x1.Idx → EReal :=
  broadcastInDim S64x3x32x32x1 ![0, 1, 2, 3] bcast_S64x3x32x32_S64x3x32x32x1_0_1_2_3 x

theorem column_apply (x : S64x3x32x32.Idx → EReal) : column x (ValueIdx.ix5 b a h w (0 : Fin 1)) = x (ValueIdx.ix4 b a h w) :=
  broadcastInDim_apply _ _ _ _ _ fun q => by fin_cases q <;> rfl

/-- The seven columns, as the last section finds them. -/
def seven : Fin 7 → S64x3x32x32x1.Idx → EReal :=
  ![V (Proc.devRef .tc main_v68), V (Proc.devRef .tc main_v69), V (Proc.devRef .tc main_v70), V (Proc.devRef .tc main_v71),
    V (Proc.devRef .tc main_v72), V (Proc.devRef .tc main_v73), V (Proc.devRef .tc main_v74)]

/-- Their numbers, as the section before finds them. -/
def sevenOf : Fin 7 → S64x3x32x32.Idx → EReal :=
  ![V (Proc.devRef .tc main_v16), V (Proc.devRef .tc main_v28), V (Proc.devRef .tc main_v36), V (Proc.devRef .tc main_v44),
    V (Proc.devRef .tc main_v52), V (Proc.devRef .tc main_v65),
    sitofp (F := Ideal) .f32 (V (Proc.devRef .tc main_v66) : S64x3x32x32.Idx → BitVec 32)]

theorem cols_apply (f : Fin 7) :
    seven (after opsCols V) f (ValueIdx.ix5 b a h w (0 : Fin 1)) = sevenOf V f (ValueIdx.ix4 b a h w) := by
  have e : seven (after opsCols V) f = column (sevenOf V f) := by
    fin_cases f
    · show (after opsCols V (Proc.devRef .tc main_v68) : S64x3x32x32x1.Idx → EReal) = column (V (Proc.devRef .tc main_v16))
      unfold opsCols; after_results
    · show (after opsCols V (Proc.devRef .tc main_v69) : S64x3x32x32x1.Idx → EReal) = column (V (Proc.devRef .tc main_v28))
      unfold opsCols; after_results
    · show (after opsCols V (Proc.devRef .tc main_v70) : S64x3x32x32x1.Idx → EReal) = column (V (Proc.devRef .tc main_v36))
      unfold opsCols; after_results
    · show (after opsCols V (Proc.devRef .tc main_v71) : S64x3x32x32x1.Idx → EReal) = column (V (Proc.devRef .tc main_v44))
      unfold opsCols; after_results
    · show (after opsCols V (Proc.devRef .tc main_v72) : S64x3x32x32x1.Idx → EReal) = column (V (Proc.devRef .tc main_v52))
      unfold opsCols; after_results
    · show (after opsCols V (Proc.devRef .tc main_v73) : S64x3x32x32x1.Idx → EReal) = column (V (Proc.devRef .tc main_v65))
      unfold opsCols; after_results
    · show (after opsCols V (Proc.devRef .tc main_v74) : S64x3x32x32x1.Idx → EReal)
        = column (sitofp (F := Ideal) .f32 (V (Proc.devRef .tc main_v66) : S64x3x32x32.Idx → BitVec 32))
      unfold opsCols; after_results
  rw [e, column_apply]

/-! ## The results -/

/-- The seven columns side by side, the boxes numbered in one row. -/
def joined (x : Fin 7 → S64x3x32x32x1.Idx → EReal) : S64x3072x7.Idx → EReal :=
  shapeCast S64x3072x7 (concatenate S64x3x32x32x7 4 [⟨S64x3x32x32x1, x 0⟩, ⟨S64x3x32x32x1, x 1⟩, ⟨S64x3x32x32x1, x 2⟩, ⟨S64x3x32x32x1, x 3⟩,
    ⟨S64x3x32x32x1, x 4⟩, ⟨S64x3x32x32x1, x 5⟩, ⟨S64x3x32x32x1, x 6⟩]
    concatenates_S64x3x32x32x1_S64x3x32x32x1_S64x3x32x32x1_S64x3x32x32x1_S64x3x32x32x1_S64x3x32x32x1_S64x3x32x32x1_S64x3x32x32x7_d4)
    shapeCasts_S64x3x32x32x7_S64x3072x7

theorem joined_apply (x : Fin 7 → S64x3x32x32x1.Idx → EReal) (f : Fin 7) :
    joined x (ValueIdx.ix3 b (rowNo a (cellNo h w)) f) = x f (ValueIdx.ix5 b a h w (0 : Fin 1)) := by
  unfold joined
  refine (shapeCast_apply _ _ _ (ValueIdx.ix5 b a h w f) ?_).trans ?_
  · rw [Shape.rowMajor_val_three, Shape.rowMajor_val_five]
    show (((b.val * 3 + a.val) * 32 + h.val) * 32 + w.val) * 7 + f.val
      = (b.val * 3072 + (a.val * 1024 + (h.val * 32 + w.val))) * 7 + f.val
    ring
  · show concatenate S64x3x32x32x7 4 (List.ofFn fun n : Fin 7 => (⟨S64x3x32x32x1, x n⟩ : (s : Shape) × (s.Idx → EReal))) _ _ = _
    refine concatenate_ofFn_unit_apply (t := S64x3x32x32x7) (s₁ := S64x3x32x32x1) 4 _ _ rfl rfl (ValueIdx.ix5 b a h w f) f rfl _ fun q hq => ?_
    fin_cases q
    · rfl
    · rfl
    · rfl
    · rfl
    · exact absurd rfl hq

theorem v76_eq : (after opsOut V (Proc.devRef .tc main_v76) : S64x3072x7.Idx → EReal) = joined (seven V) := by
  unfold opsOut
  after_results
  rfl

/-- The flags, from the boxes. -/
def flagsFrom (x : S64x3072x7.Idx → EReal) (t : S_.Idx → BitVec 32) : S64x3072.Idx → BitVec 1 :=
  cmpf (F := Ideal) (φ := .f32) .ogt
    (shapeCast S64x3072 (extractStridedSlice S64x3072x1 ![0, 0, 4] x slices_S64x3072x7_S64x3072x1_0_0_4) shapeCasts_S64x3072x1_S64x3072)
    (broadcastInDim S64x3072 ![] bcast_S_S64x3072 (sitofp (F := Ideal) .f32 t))

theorem flagsFrom_apply (x : S64x3072x7.Idx → EReal) (t : S_.Idx → BitVec 32) (n : Fin 3072) :
    flagsFrom x t (ValueIdx.ix2 b n)
      = Ideal.cmp .ogt (x (ValueIdx.ix3 b n (4 : Fin 7))) (FloatOps.sitofp (F := Ideal) .f32 (t (fun q => q.elim0))) := by
  have e1 : shapeCast S64x3072 (extractStridedSlice S64x3072x1 ![0, 0, 4] x slices_S64x3072x7_S64x3072x1_0_0_4) shapeCasts_S64x3072x1_S64x3072
      (ValueIdx.ix2 b n) = x (ValueIdx.ix3 b n (4 : Fin 7)) := by
    refine (shapeCast_apply _ _ _ (ValueIdx.ix3 b n (0 : Fin 1)) ?_).trans (extractStridedSlice_apply _ _ _ _ _ fun q => ?_)
    · rw [Shape.rowMajor_val_two, Shape.rowMajor_val_three]
      show (b.val * 3072 + n.val) * 1 + 0 = b.val * 3072 + n.val
      ring
    · fin_cases q
      · exact (Nat.zero_add _).symm
      · exact (Nat.zero_add _).symm
      · rfl
  have e2 : broadcastInDim S64x3072 ![] bcast_S_S64x3072 (sitofp (F := Ideal) .f32 t) (ValueIdx.ix2 b n)
      = FloatOps.sitofp (F := Ideal) .f32 (t (fun q => q.elim0)) :=
    broadcastInDim_apply _ _ _ _ (fun q => q.elim0) fun q => q.elim0
  exact congrArg₂ (Ideal.cmp .ogt) e1 e2

theorem v81_eq : (after opsOut V (Proc.devRef .tc main_v81) : S64x3072.Idx → BitVec 1)
    = flagsFrom (after opsOut V (Proc.devRef .tc main_v76)) (V (Proc.devRef .tc main_arg1)) := by
  rw [v76_eq]
  unfold opsOut
  after_results
  rfl

/-! ## The whole -/

def G1 : Valuation τ sig (Elt Ideal) := after opsGrid V
def G2 : Valuation τ sig (Elt Ideal) := after opsXs (G1 V)
def G3 : Valuation τ sig (Elt Ideal) := after opsYs (G2 V)
def G4 : Valuation τ sig (Elt Ideal) := after opsWs (G3 V)
def G5 : Valuation τ sig (Elt Ideal) := after opsHs (G4 V)
def G6 : Valuation τ sig (Elt Ideal) := after opsConf (G5 V)
def G7 : Valuation τ sig (Elt Ideal) := after opsSoft (G6 V)
def G8 : Valuation τ sig (Elt Ideal) := after opsArg (G7 V)
def G9 : Valuation τ sig (Elt Ideal) := after opsCols (G8 V)

theorem k1 {q : Ref sig .tc} (hq : q ∉ [main_cst, main_cst_0, main_v0, main_v1, main_v2, main_v3, main_v4]) :
    G1 V (Proc.devRef .tc q) = V (Proc.devRef .tc q) := keepGrid _ hq
theorem k2 {q : Ref sig .tc} (hq : q ∉ [main_v5, main_v6, main_v7, main_v8, main_cst_1, main_v9, main_v10, main_cst_2, main_v11, main_v12, main_v13, main_v14, main_cst_3, main_v15, main_v16]) :
    G2 V (Proc.devRef .tc q) = G1 V (Proc.devRef .tc q) := keepXs _ hq
theorem k3 {q : Ref sig .tc} (hq : q ∉ [main_v17, main_v18, main_v19, main_v20, main_cst_4, main_v21, main_v22, main_cst_5, main_v23, main_v24, main_v25, main_v26, main_cst_6, main_v27, main_v28]) :
    G3 V (Proc.devRef .tc q) = G2 V (Proc.devRef .tc q) := keepYs _ hq
theorem k4 {q : Ref sig .tc} (hq : q ∉ [main_v29, main_v30, main_v31, main_v32, main_v33, main_v34, main_cst_7, main_v35, main_v36]) :
    G4 V (Proc.devRef .tc q) = G3 V (Proc.devRef .tc q) := keepWs _ hq
theorem k5 {q : Ref sig .tc} (hq : q ∉ [main_v37, main_v38, main_v39, main_v40, main_v41, main_v42, main_cst_8, main_v43, main_v44]) :
    G5 V (Proc.devRef .tc q) = G4 V (Proc.devRef .tc q) := keepHs _ hq
theorem k6 {q : Ref sig .tc} (hq : q ∉ [main_v45, main_v46, main_v47, main_v48, main_cst_9, main_v49, main_v50, main_cst_10, main_v51, main_v52]) :
    G6 V (Proc.devRef .tc q) = G5 V (Proc.devRef .tc q) := keepConf _ hq
theorem k7 {q : Ref sig .tc} (hq : q ∉ [main_v53, main_cst_11, main_v54, main_cst_12, main_v55, main_v56, main_v57, main_v58, main_v59, main_v60, main_cst_13, main_v61, main_v62, main_v63, main_v64, main_cst_14, main_v65]) :
    G7 V (Proc.devRef .tc q) = G6 V (Proc.devRef .tc q) := keepSoft _ hq
theorem k8 {q : Ref sig .tc} (hq : q ∉ [main_call0_v0, main_call0_cst, main_call0_c, main_call0_v1_0, main_v66]) :
    G8 V (Proc.devRef .tc q) = G7 V (Proc.devRef .tc q) := keepArg _ hq
theorem k9 {q : Ref sig .tc} (hq : q ∉ [main_v67, main_v68, main_v69, main_v70, main_v71, main_v72, main_v73, main_v74]) :
    G9 V (Proc.devRef .tc q) = G8 V (Proc.devRef .tc q) := keepCols _ hq

theorem ops_eq : after ops V = after opsOut (G9 V) := by
  simp only [ops, after_append]
  rfl

/-- The planes of the argument. -/
abbrev planes5 (X : S64x255x32x32.Idx → EReal) : S64x3x85x32x32.Idx → EReal :=
  shapeCast S64x3x85x32x32 X shapeCasts_S64x255x32x32_S64x3x85x32x32

/-- A box's features. -/
def feat (X : S64x255x32x32.Idx → EReal) : ℕ → EReal := fun k => planes5 X (ValueIdx.ix5 b a (Fin.ofNat 85 k) h w)

theorem cell_x (h w : Fin 32) : IntOp.andi (BitVec.ofNat 32 (cellNo h w).val) 31#32 = BitVec.ofNat 32 w.val := by
  have e : ∀ h w : Fin 32, IntOp.andi (BitVec.ofNat 32 (cellNo h w).val) 31#32 = BitVec.ofNat 32 w.val := by decide +kernel
  exact e h w

theorem cell_y (h w : Fin 32) : IntOp.shrui .vector (BitVec.ofNat 32 (cellNo h w).val) 5#32 = BitVec.ofNat 32 h.val := by
  have e : ∀ h w : Fin 32, IntOp.shrui .vector (BitVec.ofNat 32 (cellNo h w).val) 5#32 = BitVec.ofNat 32 h.val := by decide +kernel
  exact e h w

/-- An anchor's sizes over 32 are the kernel's. -/
theorem anchor_w (a : Fin 3) : Ideal.ofBits .f32 (lit0 a) * Ideal.ofBits .f32 0x3D000000#32 = Ideal.ofBits .f32 (Spec.anchW a) := by
  rw [ofBits_inv32]
  fin_cases a <;> simp [lit0, Spec.anchW, Ideal.ofBits, Ideal.ieee, -EReal.coe_mul, ← EReal.coe_mul] <;> norm_num

theorem anchor_h (a : Fin 3) : Ideal.ofBits .f32 (lit1 a) * Ideal.ofBits .f32 0x3D000000#32 = Ideal.ofBits .f32 (Spec.anchH a) := by
  rw [ofBits_inv32]
  fin_cases a <;> simp [lit1, Spec.anchH, Ideal.ofBits, Ideal.ieee, -EReal.coe_mul, ← EReal.coe_mul] <;> norm_num

variable {r : ℕ → ℝ} {i : ℕ} (X : S64x255x32x32.Idx → EReal) (hX : (V (Proc.devRef .tc main_arg0) : S64x255x32x32.Idx → EReal) = X)
include hX

theorem planes_G1 : P (G1 V) = planes5 X := by
  rw [← hX]
  exact grid_planes V
theorem planes_G2 : P (G2 V) = planes5 X := (k2 V (by decide)).trans (planes_G1 V X hX)
theorem planes_G3 : P (G3 V) = planes5 X := (k3 V (by decide)).trans (planes_G2 V X hX)
theorem planes_G4 : P (G4 V) = planes5 X := (k4 V (by decide)).trans (planes_G3 V X hX)
theorem planes_G5 : P (G5 V) = planes5 X := (k5 V (by decide)).trans (planes_G4 V X hX)
theorem planes_G6 : P (G6 V) = planes5 X := (k6 V (by decide)).trans (planes_G5 V X hX)

omit hX in
theorem join_G9 (f : Fin 7) :
    (after ops V (Proc.devRef .tc main_v76) : S64x3072x7.Idx → EReal) (ValueIdx.ix3 b (rowNo a (cellNo h w)) f)
      = sevenOf (G8 V) f (ValueIdx.ix4 b a h w) := by
  rw [ops_eq, v76_eq, joined_apply]
  exact cols_apply (G8 V) b a h w f

theorem xs_G8 : (G8 V (Proc.devRef .tc main_v16) : S64x3x32x32.Idx → EReal) (ValueIdx.ix4 b a h w)
    = (Spec.logi (F := Ideal) (feat b a h w X 0) + FloatOps.sitofp (F := Ideal) .f32 (IntOp.andi (BitVec.ofNat 32 (cellNo h w).val) 31#32))
      * Ideal.ofBits .f32 0x3D000000#32 := by
  rw [k8 V (by decide), k7 V (by decide), k6 V (by decide), k5 V (by decide), k4 V (by decide), k3 V (by decide), cell_x]
  refine (xs_apply (G1 V) b a h w).trans ?_
  rw [planes_G1 V X hX]
  exact congrArg (fun v => (Spec.logi (F := Ideal) (feat b a h w X 0) + v) * Ideal.ofBits .f32 0x3D000000#32) (grid_x V w)

theorem ys_G8 : (G8 V (Proc.devRef .tc main_v28) : S64x3x32x32.Idx → EReal) (ValueIdx.ix4 b a h w)
    = (Spec.logi (F := Ideal) (feat b a h w X 1) + FloatOps.sitofp (F := Ideal) .f32 (IntOp.shrui .vector (BitVec.ofNat 32 (cellNo h w).val) 5#32))
      * Ideal.ofBits .f32 0x3D000000#32 := by
  rw [k8 V (by decide), k7 V (by decide), k6 V (by decide), k5 V (by decide), k4 V (by decide), cell_y]
  refine (ys_apply (G2 V) b a h w).trans ?_
  rw [planes_G2 V X hX, k2 V (by decide)]
  exact congrArg (fun v => (Spec.logi (F := Ideal) (feat b a h w X 1) + v) * Ideal.ofBits .f32 0x3D000000#32) (grid_y V h)

theorem ws_G8 : (G8 V (Proc.devRef .tc main_v36) : S64x3x32x32.Idx → EReal) (ValueIdx.ix4 b a h w)
    = Ideal.exp (feat b a h w X 2) * Ideal.ofBits .f32 (Spec.anchW a) := by
  rw [k8 V (by decide), k7 V (by decide), k6 V (by decide), k5 V (by decide)]
  refine (ws_apply (G3 V) b a h w).trans ?_
  rw [planes_G3 V X hX, k3 V (by decide), k2 V (by decide), mul_assoc, ← anchor_w]
  exact congrArg (fun v => Ideal.exp (feat b a h w X 2) * (v * Ideal.ofBits .f32 0x3D000000#32)) (grid_w V a)

theorem hs_G8 : (G8 V (Proc.devRef .tc main_v44) : S64x3x32x32.Idx → EReal) (ValueIdx.ix4 b a h w)
    = Ideal.exp (feat b a h w X 3) * Ideal.ofBits .f32 (Spec.anchH a) := by
  rw [k8 V (by decide), k7 V (by decide), k6 V (by decide)]
  refine (hs_apply (G4 V) b a h w).trans ?_
  rw [planes_G4 V X hX, k4 V (by decide), k3 V (by decide), k2 V (by decide), mul_assoc, ← anchor_h]
  exact congrArg (fun v => Ideal.exp (feat b a h w X 3) * (v * Ideal.ofBits .f32 0x3D000000#32)) (grid_h V a)

theorem conf_G8 : (G8 V (Proc.devRef .tc main_v52) : S64x3x32x32.Idx → EReal) (ValueIdx.ix4 b a h w)
    = Spec.logi (F := Ideal) (feat b a h w X 4) := by
  rw [k8 V (by decide), k7 V (by decide)]
  refine (conf_apply (G5 V) b a h w).trans ?_
  rw [planes_G5 V X hX]
  rfl

theorem top_G8 (hi : FirstMax r 80 i) (hr : ∀ k, feat b a h w X (5 + k) = (r k : EReal)) :
    (G8 V (Proc.devRef .tc main_v65) : S64x3x32x32.Idx → EReal) (ValueIdx.ix4 b a h w) = (prob r i i : EReal) := by
  rw [k8 V (by decide)]
  refine v65_apply (G6 V) b a h w hi fun k => ?_
  rw [planes_G6 V X hX]
  exact hr k.val

theorem arg_G8 (hi : FirstMax r 80 i) (hr : ∀ k, feat b a h w X (5 + k) = (r k : EReal)) :
    (G8 V (Proc.devRef .tc main_v66) : S64x3x32x32.Idx → BitVec 32) (ValueIdx.ix4 b a h w) = BitVec.ofNat 32 i := by
  refine v66_apply (G7 V) b a h w hi.prob fun k => ?_
  have e : (G7 V (Proc.devRef .tc main_v64) : S64x3x80x32x32.Idx → EReal) = soft (planes5 X) :=
    (v64_eq (G6 V)).trans (congrArg soft (planes_G6 V X hX))
  rw [e]
  exact soft_apply b a h w _ hi (fun k => hr k.val) k

omit hX in
/-- Each column of `sevenOf`. -/
theorem seven_0 (j : S64x3x32x32.Idx) : sevenOf V 0 j = (V (Proc.devRef .tc main_v16) : S64x3x32x32.Idx → EReal) j := rfl
omit hX in
theorem seven_1 (j : S64x3x32x32.Idx) : sevenOf V 1 j = (V (Proc.devRef .tc main_v28) : S64x3x32x32.Idx → EReal) j := rfl
omit hX in
theorem seven_2 (j : S64x3x32x32.Idx) : sevenOf V 2 j = (V (Proc.devRef .tc main_v36) : S64x3x32x32.Idx → EReal) j := rfl
omit hX in
theorem seven_3 (j : S64x3x32x32.Idx) : sevenOf V 3 j = (V (Proc.devRef .tc main_v44) : S64x3x32x32.Idx → EReal) j := rfl
omit hX in
theorem seven_4 (j : S64x3x32x32.Idx) : sevenOf V 4 j = (V (Proc.devRef .tc main_v52) : S64x3x32x32.Idx → EReal) j := rfl
omit hX in
theorem seven_5 (j : S64x3x32x32.Idx) : sevenOf V 5 j = (V (Proc.devRef .tc main_v65) : S64x3x32x32.Idx → EReal) j := rfl
omit hX in
theorem seven_6 (j : S64x3x32x32.Idx) : sevenOf V 6 j = FloatOps.sitofp (F := Ideal) .f32 ((V (Proc.devRef .tc main_v66) : S64x3x32x32.Idx → BitVec 32) j) := rfl

omit hX in
theorem box_w (aw ah n : BitVec 32) (y : ℕ → EReal) : Spec.box (F := Ideal) aw ah n y 2 = Ideal.exp (y 2) * Ideal.ofBits .f32 aw := rfl
omit hX in
theorem box_h (aw ah n : BitVec 32) (y : ℕ → EReal) : Spec.box (F := Ideal) aw ah n y 3 = Ideal.exp (y 3) * Ideal.ofBits .f32 ah := rfl

/-- The reference's boxes. -/
theorem boxes_apply (hi : FirstMax r 80 i) (hr : ∀ k, feat b a h w X (5 + k) = (r k : EReal)) (f : Fin 7) :
    (after ops V (Proc.devRef .tc main_v76) : S64x3072x7.Idx → EReal) (ValueIdx.ix3 b (rowNo a (cellNo h w)) f)
      = Spec.box (F := Ideal) (Spec.anchW a) (Spec.anchH a) (BitVec.ofNat 32 (cellNo h w).val) (feat b a h w X) f.val := by
  rw [join_G9]
  have hy : (fun k => feat b a h w X (5 + k)) = fun k => (r k : EReal) := funext hr
  fin_cases f
  · exact (seven_0 (G8 V) _).trans (xs_G8 V b a h w X hX)
  · exact (seven_1 (G8 V) _).trans (ys_G8 V b a h w X hX)
  · exact (seven_2 (G8 V) _).trans ((ws_G8 V b a h w X hX).trans (box_w _ (Spec.anchH a) (BitVec.ofNat 32 (cellNo h w).val) _).symm)
  · exact (seven_3 (G8 V) _).trans ((hs_G8 V b a h w X hX).trans (box_h (Spec.anchW a) _ (BitVec.ofNat 32 (cellNo h w).val) _).symm)
  · exact (seven_4 (G8 V) _).trans (conf_G8 V b a h w X hX)
  · refine (seven_5 (G8 V) _).trans ((top_G8 V b a h w X hX hi hr).trans ?_)
    show _ = Ideal.div (Ideal.ofBits .f32 0x3F800000#32) (Spec.runSum (F := Ideal) (fun k => feat b a h w X (5 + k))
      (Spec.runMax (F := Ideal) (fun k => feat b a h w X (5 + k)) 80).1 80)
    rw [hy, ofBits_one, conf_eq hi]
  · refine (seven_6 (G8 V) _).trans ((congrArg (FloatOps.sitofp (F := Ideal) .f32) (arg_G8 V b a h w X hX hi hr)).trans ?_)
    show _ = FloatOps.sitofp (F := Ideal) .f32 (Spec.runMax (F := Ideal) (fun k => feat b a h w X (5 + k)) 80).2
    rw [hy, runMax_eq hi]

omit hX in
/-- What no section writes stays. -/
theorem args_keep {q : Ref sig .tc} (h1 : q ∈ [main_arg0, main_arg1]) : after ops V (Proc.devRef .tc q) = V (Proc.devRef .tc q) := by
  rw [ops_eq]
  rcases List.mem_cons.1 h1 with rfl | h1
  · rw [keepOut (G9 V) (by decide), k9 V (by decide), k8 V (by decide), k7 V (by decide), k6 V (by decide),
      k5 V (by decide), k4 V (by decide), k3 V (by decide), k2 V (by decide), k1 V (by decide)]
  · obtain rfl := List.mem_singleton.1 h1
    rw [keepOut (G9 V) (by decide), k9 V (by decide), k8 V (by decide), k7 V (by decide), k6 V (by decide),
      k5 V (by decide), k4 V (by decide), k3 V (by decide), k2 V (by decide), k1 V (by decide)]

/-- The reference's flags. -/
theorem flags_apply :
    (after ops V (Proc.devRef .tc main_v81) : S64x3072.Idx → BitVec 1) (ValueIdx.ix2 b (rowNo a (cellNo h w)))
      = Ideal.cmp .ogt (Spec.logi (F := Ideal) (feat b a h w X 4))
        (FloatOps.sitofp (F := Ideal) .f32 ((V (Proc.devRef .tc main_arg1) : S_.Idx → BitVec 32) (fun q => q.elim0))) := by
  have ea : G9 V (Proc.devRef .tc main_arg1) = V (Proc.devRef .tc main_arg1) := by
    rw [k9 V (by decide), k8 V (by decide), k7 V (by decide), k6 V (by decide),
      k5 V (by decide), k4 V (by decide), k3 V (by decide), k2 V (by decide), k1 V (by decide)]
  rw [ops_eq, v81_eq, flagsFrom_apply, ea, ← ops_eq, join_G9]
  exact congrArg (fun v => Ideal.cmp .ogt v _) ((seven_4 (G8 V) _).trans (conf_G8 V b a h w X hX))

end Cert.Proof.Ref

end
-- ==== Proof.Finite.lean ====
/-
  The precondition read at an element: every input is a real number.
-/
module

public import proofs.«01_k».proof.Pre_finite
public import Idealize.ShloMosaic.PureOps.Reduce
public import Idealize.ShloMosaic.PureOps.IdealRules
public import Idealize.ShloMosaic.PureOps.Ideal.Laws
public import Idealize.ShloMosaic.Lib.Pipeline.Value

@[expose] public section

noncomputable section

namespace Cert.Proof.Finite

open Idealize.ShloMosaic

/-- The shape relations of the precondition. -/
theorem facts : Cert.Pre_finite.Facts := ⟨by decide, by decide, by decide⟩

/-- A conjunction of bits is one only when each is. -/
theorem of_fold_andi {ι : Type} [DecidableEq ι] (s : Finset ι) (f : ι → BitVec 1) (b : BitVec 1) :
    s.fold IntOp.andi b f = 1#1 → ∀ i ∈ s, f i = 1#1 := by
  induction s using Finset.induction_on with
  | empty => intro _ i hi; simp at hi
  | insert a s ha ih =>
    intro h i hi
    rw [Finset.fold_insert ha] at h
    have key : ∀ p q : BitVec 1, IntOp.andi p q = 1#1 → p = 1#1 ∧ q = 1#1 := by decide
    obtain ⟨h1, h2⟩ := key _ _ h
    rcases Finset.mem_insert.1 hi with e | hi
    · rw [e]; exact h1
    · exact ih h2 i hi

theorem lt_top_of_pre [hP : Cert.Pre_finite.Facts] (X : Cert.Pre_finite.S64x255x32x32.Idx → EReal) (t : Cert.Pre_finite.S_.Idx → BitVec 32)
    (h : Cert.Pre_finite.fn (F := Ideal) X t = fun _ => 1#1) (i : Cert.Pre_finite.S64x255x32x32.Idx) :
    max (X i) (-(X i)) < ⊤ := by
  classical
  have h0 := congrFun h (fun a => a.elim0)
  unfold Cert.Pre_finite.fn at h0
  simp only [Host.reduce_eq_fold] at h0
  have h1 := of_fold_andi _ _ _ h0 i (Finset.mem_filter.2 ⟨Finset.mem_univ _, funext fun a => a.elim0⟩)
  have h2 : Ideal.cmp .olt (max (X i) (-(X i))) (Ideal.ofBits .f32 0x7F800000#32) = 1#1 := h1
  have hinf : Ideal.ofBits .f32 0x7F800000#32 = ⊤ := by
    simp [Ideal.ofBits, Ideal.ieee]
  rw [hinf] at h2
  by_contra hc
  simp [Ideal.cmp, hc] at h2

theorem real_of_lt {x : EReal} (h : max x (-x) < ⊤) : x = (x.toReal : EReal) := by
  refine (EReal.coe_toReal ?_ ?_).symm
  · rintro rfl
    simp at h
  · rintro rfl
    simp at h

theorem real_of_pre [hP : Cert.Pre_finite.Facts] (X : Cert.Pre_finite.S64x255x32x32.Idx → EReal) (t : Cert.Pre_finite.S_.Idx → BitVec 32)
    (h : Cert.Pre_finite.fn (F := Ideal) X t = fun _ => 1#1) (i : Cert.Pre_finite.S64x255x32x32.Idx) :
    X i = ((X i).toReal : EReal) := real_of_lt (lt_top_of_pre X t h i)

end Cert.Proof.Finite

end
-- ==== Proof.Final.lean ====
/-
  The two programs' results agree, every input being a real number.
-/
module

public import proofs.«01_k».proof.Proof.KernelPt
public import proofs.«01_k».proof.Proof.RefPt
public import proofs.«01_k».proof.Proof.Finite

@[expose] public section

noncomputable section

namespace Cert.Proof

open Idealize.ShloMosaic Idealize.ShloMosaic.StableHlo
open Cert.Proof.Math

/-- The argument, as both programs take it. -/
abbrev Arg : Type := (⟨4, ![64, 255, 32, 32]⟩ : Shape).Idx → EReal

/-- Feature `k` of anchor `a` is channel `a * 85 + k`. -/
def channel (a : Fin 3) (k : ℕ) : Fin 255 := ⟨a.val * 85 + k % 85, by omega⟩

theorem feat_eq (X : Arg) (b : Fin 64) (a : Fin 3) (h w : Fin 32) (k : ℕ) :
    Ref.feat b a h w X k = X (ValueIdx.ix4 b (channel a k) h w) := by
  unfold Ref.feat
  refine shapeCast_apply _ _ _ _ ?_
  rw [Shape.rowMajor_val_four, Shape.rowMajor_val_five]
  show ((b.val * 255 + (a.val * 85 + k % 85)) * 32 + h.val) * 32 + w.val = (((b.val * 3 + a.val) * 85 + k % 85) * 32 + h.val) * 32 + w.val
  ring

theorem xfeat_eq (X : Arg) (b : Fin 64) (a : Fin 3) (h w : Fin 32) :
    Tile.xfeat (F := Ideal) (shapeCast _ X Cert.KernelIdeal.Facts₀.shapeCasts_S64x255x32x32_S64x3x85x1024) b a (Ref.cellNo h w)
      = Ref.feat b a h w X := by
  funext k
  rw [feat_eq]
  unfold Tile.xfeat
  refine shapeCast_apply _ _ _ _ ?_
  rw [Shape.rowMajor_val_four, Shape.rowMajor_val_four]
  show ((b.val * 255 + (a.val * 85 + k % 85)) * 32 + h.val) * 32 + w.val = ((b.val * 3 + a.val) * 85 + k % 85) * 1024 + (h.val * 32 + w.val)
  ring

/-- Every box is one of an anchor's cells. -/
theorem row_cases (n : Fin 3072) : ∃ (a : Fin 3) (h w : Fin 32), n = Ref.rowNo a (Ref.cellNo h w) :=
  ⟨⟨n.val / 1024, by omega⟩, ⟨n.val % 1024 / 32, by omega⟩, ⟨n.val % 32, by omega⟩, Fin.ext (by
    show n.val = n.val / 1024 * 1024 + (n.val % 1024 / 32 * 32 + n.val % 32)
    omega)⟩

theorem ext_boxes {α : Type} {x y : Cert.ReferenceIdeal.S64x3072x7.Idx → α}
    (H : ∀ (b : Fin 64) (a : Fin 3) (h w : Fin 32) (f : Fin 7),
      x (ValueIdx.ix3 b (Ref.rowNo a (Ref.cellNo h w)) f) = y (ValueIdx.ix3 b (Ref.rowNo a (Ref.cellNo h w)) f)) : x = y := by
  funext j
  obtain ⟨a, h, w, hn⟩ := row_cases (j 1)
  have hj : j = ValueIdx.ix3 (j 0) (Ref.rowNo a (Ref.cellNo h w)) (j 2) := by
    rw [← hn]
    funext q
    fin_cases q <;> rfl
  rw [hj]
  exact H _ a h w _

theorem ext_flags {α : Type} {x y : Cert.ReferenceIdeal.S64x3072.Idx → α}
    (H : ∀ (b : Fin 64) (a : Fin 3) (h w : Fin 32),
      x (ValueIdx.ix2 b (Ref.rowNo a (Ref.cellNo h w))) = y (ValueIdx.ix2 b (Ref.rowNo a (Ref.cellNo h w)))) : x = y := by
  funext j
  obtain ⟨a, h, w, hn⟩ := row_cases (j 1)
  have hj : j = ValueIdx.ix2 (j 0) (Ref.rowNo a (Ref.cellNo h w)) := by
    rw [← hn]
    funext q
    fin_cases q <;> rfl
  rw [hj]
  exact H _ a h w

variable (X : Arg) (hX : ∀ q, X q = ((X q).toReal : EReal)) (V : Valuation Cert.ReferenceIdeal.τ Cert.ReferenceIdeal.sig (Elt Ideal))
  (hV : (V (Proc.devRef .tc Cert.ReferenceIdeal.main_arg0) : Arg) = X)

include hX hV in
theorem boxes_agree :
    (after Ref.ops V (Proc.devRef .tc Cert.ReferenceIdeal.main_v76) : Cert.ReferenceIdeal.S64x3072x7.Idx → EReal)
      = Launch.boxesOf (F := Ideal) (Tc.boxHead (F := Ideal) (shapeCast _ X Cert.KernelIdeal.Facts₀.shapeCasts_S64x255x32x32_S64x3x85x1024))
        (Tile.boxT (F := Ideal) (shapeCast _ X Cert.KernelIdeal.Facts₀.shapeCasts_S64x255x32x32_S64x3x85x1024)) := by
  refine ext_boxes fun b a h w f => ?_
  have hr : ∀ k, Ref.feat b a h w X (5 + k) = (((X (ValueIdx.ix4 b (channel a (5 + k)) h w)).toReal : ℝ) : EReal) := fun k => by
    rw [feat_eq]
    exact hX _
  obtain ⟨i, hi, _⟩ := runMax_first (fun k => (X (ValueIdx.ix4 b (channel a (5 + k)) h w)).toReal) 79
  refine (Ref.boxes_apply V b a h w X hV hi hr f).trans (Eq.symm ?_)
  refine (Launch.boxes_apply _ b a (Ref.cellNo h w) f (r := fun k => (X (ValueIdx.ix4 b (channel a (5 + k)) h w)).toReal)
    (fun k => ?_) hi).trans ?_
  · rw [xfeat_eq]
    exact hr k
  · rw [xfeat_eq]

include hV in
theorem flags_agree :
    (after Ref.ops V (Proc.devRef .tc Cert.ReferenceIdeal.main_v81) : Cert.ReferenceIdeal.S64x3072.Idx → BitVec 1)
      = Launch.flagsOf (F := Ideal)
        (Tc.flagHead (F := Ideal) (shapeCast _ X Cert.KernelIdeal.Facts₀.shapeCasts_S64x255x32x32_S64x3x85x1024)
          (FloatOps.sitofp (F := Ideal) .f32 ((V (Proc.devRef .tc Cert.ReferenceIdeal.main_arg1) : Cert.ReferenceIdeal.S_.Idx → BitVec 32) (fun q => q.elim0))))
        (Tile.flagT (F := Ideal) (shapeCast _ X Cert.KernelIdeal.Facts₀.shapeCasts_S64x255x32x32_S64x3x85x1024)
          (FloatOps.sitofp (F := Ideal) .f32 ((V (Proc.devRef .tc Cert.ReferenceIdeal.main_arg1) : Cert.ReferenceIdeal.S_.Idx → BitVec 32) (fun q => q.elim0)))) := by
  refine ext_flags fun b a h w => ?_
  refine (Ref.flags_apply V b a h w X hV).trans (Eq.symm ?_)
  refine (Launch.flags_apply _ _ b a (Ref.cellNo h w)).trans ?_
  rw [xfeat_eq]

end Cert.Proof

end
-- ==== Proof.Same.lean ====
/-
  The program over the machine's floats and the program over the extended reals have the same text: their bodies, their
  host code and their launches are equal over any floats, so a run of the one is a run of the other.
-/
module

public import proofs.«01_k».proof.Defs
public import proofs.«01_k».proof.Proof.Gen.Kernel
public import proofs.«01_k».proof.Proof.Gen.KernelIdeal
public import Idealize.ShloMosaic.Lib.SparseCore.Quiescent

@[expose] public section

noncomputable section

namespace Cert.Proof.Same

open Idealize.ShloMosaic Idealize.SL.Sem

variable {F : FTy → Type} [FloatOps F]

/-- Two programs that begin alike and go on alike. -/
theorem bind_step {E : Type → Type _} {α β : Type} {p p' : Prog E β} {k k' : β → Prog E α} (hp : p = p') (h : ∀ x, k x = k' x) :
    (p >>= k) = (p' >>= k') := by
  rw [hp, funext h]

set_option maxHeartbeats 8000000 in
/-- The two kernels' bodies are the same at every label of every processor. -/
theorem bodies_eq : Cert.Kernel.defs₀ (F := F) = Cert.KernelIdeal.defs₀ (F := F) := by
  funext p ℓ a
  match p, ℓ, a with
  | .tc, 0, _ => rfl
  | .tc, 1, (_, _) => rfl
  | .scVector _ _, 0, _ => rfl
  | .scVector _ _, 1, _ => rfl
  | .scScalar _, 0, _ => rfl
  | .scScalar _, 1, _ => rfl

theorem defs_eq : Cert.Kernel.defs (F := F) = Cert.KernelIdeal.defs (F := F) :=
  congrArg (fun d => Cert.KernelIdeal.sc.defs (Pipeline.defs Cert.KernelIdeal.pcfgs d)) bodies_eq

set_option maxHeartbeats 8000000 in
/-- The host code is the same, one operation at a time. -/
theorem main_eq : Cert.Kernel.main (F := F) = Cert.KernelIdeal.main (F := F) := by
  funext d
  unfold Cert.Kernel.main Cert.KernelIdeal.main
  iterate 18 refine bind_step rfl fun _ => ?_
  rfl

theorem threads_eq : Cert.Kernel.threads (F := F) = Cert.KernelIdeal.threads (F := F) :=
  congrArg (fun p => Cert.KernelIdeal.sc.threads p) main_eq

/-- A run of equal programs. -/
theorem run_of_eq {nD : Nat} {τ : Topo} {sig : RefSig} {Λ : Labels} {Val : EltTy → Type} {d d' : Defs nD τ sig Val Λ}
    {t t' : (c : Thread nD τ) → Prog (TpuEff nD τ sig Val Λ c.2) PUnit} (hd : d = d') (ht : t = t') {s post} (h : θ_run d' t' s post) :
    θ_run d t s post := by
  subst hd; subst ht; exact h

end Cert.Proof.Same

end
-- ==== Proof.lean ====
/-
  The proof of `Cert.Claim`: both programs run, terminate and leave the machine at rest with their arguments unchanged,
  and over the extended reals, from finite inputs, the kernel's two results are the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Final
public import proofs.«01_k».proof.Proof.Same

@[expose] public section

noncomputable section

namespace Cert.Proof

open Idealize.ShloMosaic Idealize.ShloMosaic.StableHlo Idealize.SL.Sem

/-! ## The frames -/

/-- Over any floats the kernel ends at rest with its arguments as they were. -/
theorem frame_run {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0) :=
  (θ_run Cert.KernelIdeal.defs _ _).mono (fun _ h => ⟨fun c => (h.1 c).2.2, h.2⟩) (Launch.run_results (F := F) m ρ)

theorem frame_kernel : Cert.quiescent_Kernel := fun m ρ _ =>
  Same.run_of_eq Same.defs_eq Same.threads_eq (frame_run (F := Bits) m ρ)

theorem frame_ideal : Cert.quiescent_KernelIdeal := fun m ρ _ => frame_run (F := Ideal) m ρ

theorem frame_reference : Cert.quiescent_ReferenceIdeal := fun m ρ _ =>
  (θ_run Cert.ReferenceIdeal.defs _ _).mono (fun r h =>
    ⟨fun c => ⟨(h c _).trans (Ref.args_keep _ (by decide)), (h c _).trans (Ref.args_keep _ (by decide))⟩,
      Idealize.ShloMosaic.sem_eq_zero_of_no_sems (by decide) r.2⟩) (Ref.run_ops m ρ)

/-! ## The values -/

theorem value (hP : Cert.Pre_finite.Facts) : Cert.algebraic_KernelIdeal_ReferenceIdeal_pre_finite := by
  intro m ρ m' ρ' hpre harg
  refine ⟨fun c => Launch.boxesOf (F := Ideal) (Tc.boxHead (Launch.planes0 m c)) (Tile.boxT (Launch.planes0 m c)),
    fun c => Launch.flagsOf (F := Ideal) (Tc.flagHead (Launch.planes0 m c) (Launch.thr0 m c)) (Tile.flagT (Launch.planes0 m c) (Launch.thr0 m c)), ?_, ?_⟩
  · exact (θ_run Cert.KernelIdeal.defs _ _).mono (fun _ h => h.1) (Launch.run_results (F := Ideal) m ρ)
  · refine (θ_run Cert.ReferenceIdeal.defs _ _).mono (fun r h c => ⟨(h c _).trans ?_, (h c _).trans ?_,
      (h c _).trans (Ref.args_keep _ (by decide)), (h c _).trans (Ref.args_keep _ (by decide))⟩) (Ref.run_ops m' ρ')
    · exact boxes_agree _ (Finite.real_of_pre _ _ (hpre c)) (launchContents m' c) (harg c).1
    · refine (flags_agree _ (launchContents m' c) (harg c).1).trans ?_
      have e : (launchContents m' c (Proc.devRef .tc Cert.ReferenceIdeal.main_arg1) : Cert.ReferenceIdeal.S_.Idx → BitVec 32)
          = m ((c.tc : Thread Cert.KernelIdeal.nD Cert.KernelIdeal.τ).loc Cert.KernelIdeal.main_arg1) := (harg c).2
      rw [e]
      rfl

theorem claim : Cert.Claim :=
  ⟨Cert.Kernel.Gen.facts, Cert.KernelIdeal.Gen.facts, Cert.ReferenceIdeal.Gen.facts, Finite.facts,
    frame_kernel, frame_ideal, fun m ρ _ => frame_ideal m ρ trivial, frame_reference, fun m ρ _ => frame_reference m ρ trivial,
    trivial, value Finite.facts⟩

end Cert.Proof

end
